-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_heights_finite [hPre_heights_finite : Cert.Pre_heights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_heights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_heights_finite [hPre_heights_finite : Cert.Pre_heights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_heights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_heights_finite [hKernelIdeal : Cert.KernelIdeal.Facts] [hPre_heights_finite : Cert.Pre_heights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_heights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_heights_finite [hReferenceIdeal : Cert.ReferenceIdeal.Facts] [hPre_heights_finite : Cert.Pre_heights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_heights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_heights_finite [hKernelIdeal : Cert.KernelIdeal.Facts] [hReferenceIdeal : Cert.ReferenceIdeal.Facts] [hPre_heights_finite : Cert.Pre_heights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_heights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_heights_finite : Cert.Pre_heights_finite.Facts),
    quiescent_Kernel (hKernel := hKernel)
    ∧ quiescent_KernelIdeal (hKernelIdeal := hKernelIdeal)
    ∧ quiescent_KernelIdeal_pre_heights_finite (hKernelIdeal := hKernelIdeal) (hPre_heights_finite := hPre_heights_finite)
    ∧ quiescent_ReferenceIdeal (hReferenceIdeal := hReferenceIdeal)
    ∧ quiescent_ReferenceIdeal_pre_heights_finite (hReferenceIdeal := hReferenceIdeal) (hPre_heights_finite := hPre_heights_finite)
    ∧ preserves_Kernel_KernelIdeal
    ∧ algebraic_KernelIdeal_ReferenceIdeal_pre_heights_finite (hKernelIdeal := hKernelIdeal) (hReferenceIdeal := hReferenceIdeal) (hPre_heights_finite := hPre_heights_finite)
-- ==== Pre_heights_finite.lean ====
abbrev S8x5000x25 : Shape := ⟨3, ![8, 5000, 25]⟩
abbrev S5000x4 : Shape := ⟨2, ![5000, 4]⟩
abbrev S8x5000x1 : Shape := ⟨3, ![8, 5000, 1]⟩
abbrev S8x5000 : Shape := ⟨2, ![8, 5000]⟩
abbrev S_ : Shape := ⟨0, ![]⟩
abbrev S5000x1 : Shape := ⟨2, ![5000, 1]⟩
abbrev S5000 : Shape := ⟨1, ![5000]⟩
abbrev S1x5000 : Shape := ⟨2, ![1, 5000]⟩

class Facts : Prop where
  slices_S8x5000x25_S8x5000x1_0_0_1 : S8x5000x25.Slices ![0, 0, 1] S8x5000x1
  shapeCasts_S8x5000x1_S8x5000 : S8x5000x1.ShapeCasts S8x5000
  bcast_S_S8x5000 : S_.BroadcastsInDim S8x5000 (![] : Fin 0 → Fin S8x5000.rank)
  slices_S8x5000x25_S8x5000x1_0_0_3 : S8x5000x25.Slices ![0, 0, 3] S8x5000x1
  slices_S5000x4_S5000x1_0_1 : S5000x4.Slices ![0, 1] S5000x1
  shapeCasts_S5000x1_S5000 : S5000x1.ShapeCasts S5000
  bcast_S_S5000 : S_.BroadcastsInDim S5000 (![] : Fin 0 → Fin S5000.rank)
  slices_S5000x4_S5000x1_0_3 : S5000x4.Slices ![0, 3] S5000x1
  bcast_S5000_S1x5000_1 : S5000.BroadcastsInDim S1x5000 (![1] : Fin 1 → Fin S1x5000.rank)
  bcast_S1x5000_S8x5000_0_1 : S1x5000.BroadcastsInDim S8x5000 (![0, 1] : Fin 2 → Fin S8x5000.rank)

variable [Facts]

def fn_part1 {F : FTy → Type} [FloatOps F] (main_v10 : IVec S8x5000 1) (main_v15 : IVec S5000 1) (main_v18 : FVec F S5000 .f32) (main_v19 : FVec F S5000 .f32) : IVec S8x5000 1 :=
  let main_v20 : IVec S5000 1 := cmpf .olt main_v18 main_v19
  let main_v21 : IVec S5000 1 := andi main_v15 main_v20
  let main_v22 : IVec S1x5000 1 := broadcastInDim S1x5000 ![1] bcast_S5000_S1x5000_1 main_v21
  let main_v23 : IVec S8x5000 1 := broadcastInDim S8x5000 ![0, 1] bcast_S1x5000_S8x5000_0_1 main_v22
  let main_v24 : IVec S8x5000 1 := andi main_v10 main_v23
  main_v24

def fn {F : FTy → Type} [FloatOps F] (main_arg0 : FVec F S8x5000x25 .f32) (main_arg1 : FVec F S5000x4 .f32) : IVec S8x5000 1 :=
  let main_v0 : FVec F S8x5000x1 .f32 := (extractStridedSlice S8x5000x1 ![0, 0, 1] · slices_S8x5000x25_S8x5000x1_0_0_1) main_arg0
  let main_v1 : FVec F S8x5000 .f32 := shapeCast S8x5000 main_v0 shapeCasts_S8x5000x1_S8x5000
  let main_v2 : FVec F S8x5000 .f32 := Host.absf main_v1
  let main_cst : FVec F S_ .f32 := constant S_ .f32 0x7F800000#32
  let main_v3 : FVec F S8x5000 .f32 := broadcastInDim S8x5000 ![] bcast_S_S8x5000 main_cst
  let main_v4 : IVec S8x5000 1 := cmpf .olt main_v2 main_v3
  let main_v5 : FVec F S8x5000x1 .f32 := (extractStridedSlice S8x5000x1 ![0, 0, 3] · slices_S8x5000x25_S8x5000x1_0_0_3) main_arg0
  let main_v6 : FVec F S8x5000 .f32 := shapeCast S8x5000 main_v5 shapeCasts_S8x5000x1_S8x5000
  let main_v7 : FVec F S8x5000 .f32 := Host.absf main_v6
  let main_cst_0 : FVec F S_ .f32 := constant S_ .f32 0x7F800000#32
  let main_v8 : FVec F S8x5000 .f32 := broadcastInDim S8x5000 ![] bcast_S_S8x5000 main_cst_0
  let main_v9 : IVec S8x5000 1 := cmpf .olt main_v7 main_v8
  let main_v10 : IVec S8x5000 1 := andi main_v4 main_v9
  let main_v11 : FVec F S5000x1 .f32 := (extractStridedSlice S5000x1 ![0, 1] · slices_S5000x4_S5000x1_0_1) main_arg1
  let main_v12 : FVec F S5000 .f32 := shapeCast S5000 main_v11 shapeCasts_S5000x1_S5000
  let main_v13 : FVec F S5000 .f32 := Host.absf main_v12
  let main_cst_1 : FVec F S_ .f32 := constant S_ .f32 0x7F800000#32
  let main_v14 : FVec F S5000 .f32 := broadcastInDim S5000 ![] bcast_S_S5000 main_cst_1
  let main_v15 : IVec S5000 1 := cmpf .olt main_v13 main_v14
  let main_v16 : FVec F S5000x1 .f32 := (extractStridedSlice S5000x1 ![0, 3] · slices_S5000x4_S5000x1_0_3) main_arg1
  let main_v17 : FVec F S5000 .f32 := shapeCast S5000 main_v16 shapeCasts_S5000x1_S5000
  let main_v18 : FVec F S5000 .f32 := Host.absf main_v17
  let main_cst_2 : FVec F S_ .f32 := constant S_ .f32 0x7F800000#32
  let main_v19 : FVec F S5000 .f32 := broadcastInDim S5000 ![] bcast_S_S5000 main_cst_2
  fn_part1 (F := F) main_v10 main_v15 main_v18 main_v19
-- ==== Kernel.lean ====
abbrev S8x5000x25 : Shape := ⟨3, ![8, 5000, 25]⟩
abbrev S5000x4 : Shape := ⟨2, ![5000, 4]⟩
abbrev S25x8x5000 : Shape := ⟨3, ![25, 8, 5000]⟩
abbrev S_ : Shape := ⟨0, ![]⟩
abbrev S25x8x5120 : Shape := ⟨3, ![25, 8, 5120]⟩
abbrev S4x5000 : Shape := ⟨2, ![4, 5000]⟩
abbrev S4x5120 : Shape := ⟨2, ![4, 5120]⟩
abbrev S8x200 : Shape := ⟨2, ![8, 200]⟩
abbrev S1x8x5120 : Shape := ⟨3, ![1, 8, 5120]⟩
abbrev S8x5120 : Shape := ⟨2, ![8, 5120]⟩
abbrev S1x5120 : Shape := ⟨2, ![1, 5120]⟩
abbrev S1x400 : Shape := ⟨2, ![1, 400]⟩
abbrev S8 : Shape := ⟨1, ![8]⟩
abbrev S8x1 : Shape := ⟨2, ![8, 1]⟩
abbrev S8x5119 : Shape := ⟨2, ![8, 5119]⟩
abbrev S8x2 : Shape := ⟨2, ![8, 2]⟩
abbrev S8x5118 : Shape := ⟨2, ![8, 5118]⟩
abbrev S8x4 : Shape := ⟨2, ![8, 4]⟩
abbrev S8x5116 : Shape := ⟨2, ![8, 5116]⟩
abbrev S8x8 : Shape := ⟨2, ![8, 8]⟩
abbrev S8x5112 : Shape := ⟨2, ![8, 5112]⟩
abbrev S8x16 : Shape := ⟨2, ![8, 16]⟩
abbrev S8x5104 : Shape := ⟨2, ![8, 5104]⟩
abbrev S8x32 : Shape := ⟨2, ![8, 32]⟩
abbrev S8x5088 : Shape := ⟨2, ![8, 5088]⟩
abbrev S8x64 : Shape := ⟨2, ![8, 64]⟩
abbrev S8x5056 : Shape := ⟨2, ![8, 5056]⟩
abbrev S8x128 : Shape := ⟨2, ![8, 128]⟩
abbrev S8x4992 : Shape := ⟨2, ![8, 4992]⟩
abbrev S8x256 : Shape := ⟨2, ![8, 256]⟩
abbrev S8x4864 : Shape := ⟨2, ![8, 4864]⟩
abbrev S8x512 : Shape := ⟨2, ![8, 512]⟩
abbrev S8x4608 : Shape := ⟨2, ![8, 4608]⟩
abbrev S8x1024 : Shape := ⟨2, ![8, 1024]⟩
abbrev S8x4096 : Shape := ⟨2, ![8, 4096]⟩
abbrev S8x2048 : Shape := ⟨2, ![8, 2048]⟩
abbrev S8x3072 : Shape := ⟨2, ![8, 3072]⟩
abbrev S8x400 : Shape := ⟨2, ![8, 400]⟩
abbrev S8x1x400 : Shape := ⟨3, ![8, 1, 400]⟩
abbrev S1x200x1 : Shape := ⟨3, ![1, 200, 1]⟩
abbrev S8x200x400 : Shape := ⟨3, ![8, 200, 400]⟩
abbrev S8x200x1 : Shape := ⟨3, ![8, 200, 1]⟩
abbrev S8x200x6 : Shape := ⟨3, ![8, 200, 6]⟩

abbrev nBuf : Space → Nat
  | .hbm => 23
  | .vmem => 8
  | .smem => 0
  | _ => 0

abbrev bufTy : (tb : Table) → Fin (tcTables nBuf tb) → BufTy
  | .hbm, ⟨0, _⟩ => ⟨S8x5000x25, .f32⟩
  | .hbm, ⟨1, _⟩ => ⟨S5000x4, .f32⟩
  | .hbm, ⟨2, _⟩ => ⟨S25x8x5000, .f32⟩
  | .hbm, ⟨3, _⟩ => ⟨S_, .f32⟩
  | .hbm, ⟨4, _⟩ => ⟨S_, .f32⟩
  | .hbm, ⟨5, _⟩ => ⟨S25x8x5120, .f32⟩
  | .hbm, ⟨6, _⟩ => ⟨S4x5000, .f32⟩
  | .hbm, ⟨7, _⟩ => ⟨S_, .i32⟩
  | .hbm, ⟨8, _⟩ => ⟨S_, .f32⟩
  | .hbm, ⟨9, _⟩ => ⟨S4x5120, .f32⟩
  | .hbm, ⟨10, _⟩ => ⟨S8x200, .f32⟩
  | .hbm, ⟨11, _⟩ => ⟨S8x200, .f32⟩
  | .hbm, ⟨12, _⟩ => ⟨S8x200, .f32⟩
  | .hbm, ⟨13, _⟩ => ⟨S8x200, .f32⟩
  | .hbm, ⟨14, _⟩ => ⟨S8x200, .f32⟩
  | .hbm, ⟨15, _⟩ => ⟨S8x200, .f32⟩
  | .hbm, ⟨16, _⟩ => ⟨S8x200x1, .f32⟩
  | .hbm, ⟨17, _⟩ => ⟨S8x200x1, .f32⟩
  | .hbm, ⟨18, _⟩ => ⟨S8x200x1, .f32⟩
  | .hbm, ⟨19, _⟩ => ⟨S8x200x1, .f32⟩
  | .hbm, ⟨20, _⟩ => ⟨S8x200x1, .f32⟩
  | .hbm, ⟨21, _⟩ => ⟨S8x200x1, .f32⟩
  | .hbm, ⟨22, _⟩ => ⟨S8x200x6, .f32⟩
  | .local _ .vmem, ⟨0, _⟩ => ⟨S25x8x5120, .f32⟩
  | .local _ .vmem, ⟨1, _⟩ => ⟨S4x5120, .f32⟩
  | .local _ .vmem, ⟨2, _⟩ => ⟨S8x200, .f32⟩
  | .local _ .vmem, ⟨3, _⟩ => ⟨S8x200, .f32⟩
  | .local _ .vmem, ⟨4, _⟩ => ⟨S8x200, .f32⟩
  | .local _ .vmem, ⟨5, _⟩ => ⟨S8x200, .f32⟩
  | .local _ .vmem, ⟨6, _⟩ => ⟨S8x200, .f32⟩
  | .local _ .vmem, ⟨7, _⟩ => ⟨S8x200, .f32⟩
  | _, _ => ⟨S8x5000x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call1_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_88 : BitVec 32 := 0#32
  let c5120_i32 : BitVec 32 := 5120#32
  let v180 : BitVec 32 := Scalar.addi c0_i32_88 c5120_i32
  let c1_i32 : BitVec 32 := 1#32
  ⟨c0_i32_88, v180, c1_i32⟩
@[reducible] def k0_t2_loop : Scf.Loop 32 :=
  let c0_i32_241 : BitVec 32 := 0#32
  let c50_i32 : BitVec 32 := 50#32
  let v1267 : BitVec 32 := Scalar.addi c0_i32_241 c50_i32
  let c1_i32_242 : BitVec 32 := 1#32
  ⟨c0_i32_241, v1267, c1_i32_242⟩
@[reducible] def k0_t3_loop : Scf.Loop 32 :=
  let c0_i32_248 : BitVec 32 := 0#32
  let c50_i32_249 : BitVec 32 := 50#32
  let v1281 : BitVec 32 := Scalar.addi c0_i32_248 c50_i32_249
  let c1_i32_250 : BitVec 32 := 1#32
  ⟨c0_i32_248, v1281, c1_i32_250⟩
@[reducible] def k0_t4_loop : Scf.Loop 32 :=
  let c0_i32_253 : BitVec 32 := 0#32
  let c50_i32_254 : BitVec 32 := 50#32
  let v1284 : BitVec 32 := Scalar.addi c0_i32_253 c50_i32_254
  let c1_i32_255 : BitVec 32 := 1#32
  ⟨c0_i32_253, v1284, c1_i32_255⟩
abbrev stage0_0 : Fin 1 → Memref sig .tc .vmem S25x8x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S8x5000x25 : Shape := ⟨3, ![8, 5000, 25]⟩
abbrev S5000x4 : Shape := ⟨2, ![5000, 4]⟩
abbrev S8x5000x4 : Shape := ⟨3, ![8, 5000, 4]⟩
abbrev S5000x2 : Shape := ⟨2, ![5000, 2]⟩
abbrev S8x5000x2 : Shape := ⟨3, ![8, 5000, 2]⟩
abbrev S_ : Shape := ⟨0, ![]⟩
abbrev S1x5000x2 : Shape := ⟨3, ![1, 5000, 2]⟩
abbrev S8x5000x21 : Shape := ⟨3, ![8, 5000, 21]⟩
abbrev S8x5000 : Shape := ⟨2, ![8, 5000]⟩
abbrev S8x400 : Shape := ⟨2, ![8, 400]⟩
abbrev S8x5000x1 : Shape := ⟨3, ![8, 5000, 1]⟩
abbrev S8x5000x6 : Shape := ⟨3, ![8, 5000, 6]⟩
abbrev S8x400x1 : Shape := ⟨3, ![8, 400, 1]⟩
abbrev S8x400x6 : Shape := ⟨3, ![8, 400, 6]⟩
abbrev S8x400x4 : Shape := ⟨3, ![8, 400, 4]⟩
abbrev S8x400x2 : Shape := ⟨3, ![8, 400, 2]⟩
abbrev S8x400x1x2 : Shape := ⟨4, ![8, 400, 1, 2]⟩
abbrev S8x1x400x2 : Shape := ⟨4, ![8, 1, 400, 2]⟩
abbrev S8x400x400x2 : Shape := ⟨4, ![8, 400, 400, 2]⟩
abbrev S8x400x400x1 : Shape := ⟨4, ![8, 400, 400, 1]⟩
abbrev S8x400x400 : Shape := ⟨3, ![8, 400, 400]⟩
abbrev S8x1x400 : Shape := ⟨3, ![8, 1, 400]⟩
abbrev S400 : Shape := ⟨1, ![400]⟩
abbrev S8x1 : Shape := ⟨2, ![8, 1]⟩
abbrev S1x400 : Shape := ⟨2, ![1, 400]⟩
abbrev S8x200 : Shape := ⟨2, ![8, 200]⟩
abbrev S8x200x1 : Shape := ⟨3, ![8, 200, 1]⟩
abbrev S8x200x6 : Shape := ⟨3, ![8, 200, 6]⟩

abbrev nBuf : Space → Nat
  | .hbm => 199
  | .vmem => 0
  | .smem => 0
  | _ => 0

abbrev hbmTy0_0 (i : Nat) : BufTy := match i % 128 with
  | 0 => ⟨S8x5000x25, .f32⟩
  | 1 => ⟨S5000x4, .f32⟩
  | 2 => ⟨S8x5000x4, .f32⟩
  | 3 => ⟨S5000x2, .f32⟩
  | 4 => ⟨S8x5000x2, .f32⟩
  | 5 => ⟨S_, .f32⟩
  | 6 => ⟨S8x5000x2, .f32⟩
  | 7 => ⟨S8x5000x2, .f32⟩
  | 8 => ⟨S5000x2, .f32⟩
  | 9 => ⟨S1x5000x2, .f32⟩
  | 10 => ⟨S8x5000x2, .f32⟩
  | 11 => ⟨S8x5000x2, .f32⟩
  | 12 => ⟨S1x5000x2, .f32⟩
  | 13 => ⟨S8x5000x2, .f32⟩
  | 14 => ⟨S8x5000x2, .f32⟩
  | 15 => ⟨S5000x2, .f32⟩
  | 16 => ⟨S8x5000x2, .f32⟩
  | 17 => ⟨S_, .f32⟩
  | 18 => ⟨S8x5000x2, .f32⟩
  | 19 => ⟨S8x5000x2, .f32⟩
  | 20 => ⟨S8x5000x2, .f32⟩
  | 21 => ⟨S1x5000x2, .f32⟩
  | 22 => ⟨S8x5000x2, .f32⟩
  | 23 => ⟨S8x5000x2, .f32⟩
  | 24 => ⟨S_, .f32⟩
  | 25 => ⟨S8x5000x2, .f32⟩
  | 26 => ⟨S8x5000x2, .f32⟩
  | 27 => ⟨S8x5000x2, .f32⟩
  | 28 => ⟨S_, .f32⟩
  | 29 => ⟨S8x5000x2, .f32⟩
  | 30 => ⟨S8x5000x2, .f32⟩
  | 31 => ⟨S8x5000x2, .f32⟩
  | 32 => ⟨S8x5000x4, .f32⟩
  | 33 => ⟨S8x5000x21, .f32⟩
  | 34 => ⟨S_, .f32⟩
  | 35 => ⟨S8x5000, .f32⟩
  | 36 => ⟨S8x5000x21, .i32⟩
  | 37 => ⟨S_, .f32⟩
  | 38 => ⟨S_, .i32⟩
  | 39 => ⟨S8x5000, .f32⟩
  | 40 => ⟨S8x5000, .i32⟩
  | 41 => ⟨S_, .f32⟩
  | 42 => ⟨S8x5000, .f32⟩
  | 43 => ⟨S8x5000, .i1⟩
  | 44 => ⟨S_, .f32⟩
  | 45 => ⟨S_, .f32⟩
  | 46 => ⟨S8x5000, .f32⟩
  | 47 => ⟨S8x5000, .f32⟩
  | 48 => ⟨S8x400, .f32⟩
  | 49 => ⟨S8x400, .i32⟩
  | 50 => ⟨S8x5000x1, .i32⟩
  | 51 => ⟨S8x5000x1, .f32⟩
  | 52 => ⟨S8x5000x1, .f32⟩
  | 53 => ⟨S8x5000x6, .f32⟩
  | 54 => ⟨S8x400x1, .i32⟩
  | 55 => ⟨S_, .i32⟩
  | 56 => ⟨S8x400x1, .i32⟩
  | 57 => ⟨S8x400x1, .i1⟩
  | 58 => ⟨S_, .i32⟩
  | 59 => ⟨S8x400x1, .i32⟩
  | 60 => ⟨S8x400x1, .i32⟩
  | 61 => ⟨S8x400x1, .i32⟩
  | 62 => ⟨S8x400x6, .f32⟩
  | 63 => ⟨S8x400x1, .f32⟩
  | 64 => ⟨S8x400, .f32⟩
  | 65 => ⟨S_, .f32⟩
  | 66 => ⟨S8x400, .f32⟩
  | 67 => ⟨S8x400, .i1⟩
  | 68 => ⟨S8x400x4, .f32⟩
  | 69 => ⟨S8x400x1, .f32⟩
  | 70 => ⟨S8x400, .f32⟩
  | 71 => ⟨S8x400x1, .f32⟩
  | 72 => ⟨S8x400, .f32⟩
  | 73 => ⟨S8x400, .f32⟩
  | 74 => ⟨S_, .f32⟩
  | 75 => ⟨S8x400, .f32⟩
  | 76 => ⟨S8x400, .f32⟩
  | 77 => ⟨S8x400x1, .f32⟩
  | 78 => ⟨S8x400, .f32⟩
  | 79 => ⟨S8x400x1, .f32⟩
  | 80 => ⟨S8x400, .f32⟩
  | 81 => ⟨S8x400, .f32⟩
  | 82 => ⟨S_, .f32⟩
  | 83 => ⟨S8x400, .f32⟩
  | 84 => ⟨S8x400, .f32⟩
  | 85 => ⟨S8x400, .f32⟩
  | 86 => ⟨S8x400x2, .f32⟩
  | 87 => ⟨S8x400x1x2, .f32⟩
  | 88 => ⟨S8x400x2, .f32⟩
  | 89 => ⟨S8x1x400x2, .f32⟩
  | 90 => ⟨S8x400x400x2, .f32⟩
  | 91 => ⟨S8x400x400x2, .f32⟩
  | 92 => ⟨S8x400x400x2, .f32⟩
  | 93 => ⟨S8x400x2, .f32⟩
  | 94 => ⟨S8x400x1x2, .f32⟩
  | 95 => ⟨S8x400x2, .f32⟩
  | 96 => ⟨S8x1x400x2, .f32⟩
  | 97 => ⟨S8x400x400x2, .f32⟩
  | 98 => ⟨S8x400x400x2, .f32⟩
  | 99 => ⟨S8x400x400x2, .f32⟩
  | 100 => ⟨S8x400x400x2, .f32⟩
  | 101 => ⟨S_, .f32⟩
  | 102 => ⟨S8x400x400x2, .f32⟩
  | 103 => ⟨S8x400x400x2, .f32⟩
  | 104 => ⟨S8x400x400x1, .f32⟩
  | 105 => ⟨S8x400x400, .f32⟩
  | 106 => ⟨S8x400x400x1, .f32⟩
  | 107 => ⟨S8x400x400, .f32⟩
  | 108 => ⟨S8x400x400, .f32⟩
  | 109 => ⟨S8x400x1, .f32⟩
  | 110 => ⟨S8x1x400, .f32⟩
  | 111 => ⟨S8x400x400, .f32⟩
  | 112 => ⟨S8x400x400, .f32⟩
  | 113 => ⟨S8x400x400, .f32⟩
  | 114 => ⟨S8x400x400, .f32⟩
  | 115 => ⟨S_, .f32⟩
  | 116 => ⟨S8x400x400, .f32⟩
  | 117 => ⟨S8x400x400, .f32⟩
  | 118 => ⟨S8x400x400, .f32⟩
  | 119 => ⟨S400, .i32⟩
  | 120 => ⟨S_, .i1⟩
  | 121 => ⟨S8x400, .i1⟩
  | 122 => ⟨S_, .i32⟩
  | 123 => ⟨S_, .i32⟩
  | 124 => ⟨S8x400, .i1⟩
  | 125 => ⟨S8x400x400, .f32⟩
  | 126 => ⟨S400, .i32⟩
  | 127 => ⟨S_, .i32⟩
  | _ => ⟨S8x5000x25, .f32⟩

abbrev hbmTy0_1 (i : Nat) : BufTy := match i % 128 with
  | 0 => ⟨S_, .i32⟩
  | 1 => ⟨S8x400, .i1⟩
  | 2 => ⟨S_, .i32⟩
  | 3 => ⟨S_, .i1⟩
  | 4 => ⟨S_, .i32⟩
  | 5 => ⟨S_, .i32⟩
  | 6 => ⟨S8x400, .i1⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S8x1, .i1⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S8x1x400, .f32⟩
  | 24 => ⟨S8x400, .f32⟩
  | 25 => ⟨S_, .f32⟩
  | 26 => ⟨S8x400, .f32⟩
  | 27 => ⟨S8x400, .i1⟩
  | 28 => ⟨S_, .i32⟩
  | 29 => ⟨S400, .i32⟩
  | 30 => ⟨S400, .i1⟩
  | 31 => ⟨S1x400, .i1⟩
  | 32 => ⟨S8x400, .i1⟩
  | 33 => ⟨S8x400, .i1⟩
  | 34 => ⟨S8x400, .i1⟩
  | 35 => ⟨S8x400, .i1⟩
  | 36 => ⟨S8x400, .i1⟩
  | 37 => ⟨S8x400, .i1⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S8x400, .i1⟩
  | 46 => ⟨S_, .i32⟩
  | 47 => ⟨S_, .i32⟩
  | 48 => ⟨S8x400x1, .f32⟩
  | 49 => ⟨S8x400, .f32⟩
  | 50 => ⟨S_, .f32⟩
  | 51 => ⟨S_, .f32⟩
  | 52 => ⟨S8x400, .f32⟩
  | 53 => ⟨S8x400, .f32⟩
  | 54 => ⟨S8x400, .i32⟩
  | 55 => ⟨S8x400, .f32⟩
  | 56 => ⟨S8x400, .i32⟩
  | 57 => ⟨S8x400x1, .i1⟩
  | 58 => ⟨S8x400x1, .f32⟩
  | 59 => ⟨S8x400x6, .f32⟩
  | 60 => ⟨S8x400x6, .f32⟩
  | 61 => ⟨S8x200, .i32⟩
  | 62 => ⟨S8x200x1, .i32⟩
  | 63 => ⟨S_, .i32⟩
  | 64 => ⟨S8x200x1, .i32⟩
  | 65 => ⟨S8x200x1, .i1⟩
  | 66 => ⟨S_, .i32⟩
  | 67 => ⟨S8x200x1, .i32⟩
  | 68 => ⟨S8x200x1, .i32⟩
  | 69 => ⟨S8x200x1, .i32⟩
  | 70 => ⟨S8x200x6, .f32⟩
  | _ => ⟨S8x5000x25, .f32⟩

abbrev hbmTy (i : Nat) : BufTy := match i / 128 with
  | 0 => hbmTy0_0 i
  | 1 => hbmTy0_1 i
  | _ => ⟨S8x5000x25, .f32⟩

abbrev bufTy : (tb : Table) → Fin (tcTables nBuf tb) → BufTy
  | .hbm, ⟨i, _⟩ => hbmTy i
  | _, _ => ⟨S8x5000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_call0_v0 : Ref sig .tc := ⟨.hbm, 36, rfl⟩
abbrev main_call0_cst : Ref sig .tc := ⟨.hbm, 37, rfl⟩
abbrev main_call0_c : Ref sig .tc := ⟨.hbm, 38, rfl⟩
abbrev main_call0_v1_0 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v32 : Ref sig .tc := ⟨.hbm, 47, rfl⟩
abbrev main_values : Ref sig .tc := ⟨.hbm, 48, rfl⟩
abbrev main_indices : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_10 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c : Ref sig .tc := ⟨.hbm, 120, rfl⟩
abbrev main_v91 : Ref sig .tc := ⟨.hbm, 121, rfl⟩
abbrev main_c_11 : Ref sig .tc := ⟨.hbm, 122, rfl⟩
abbrev main_c_12 : Ref sig .tc := ⟨.hbm, 123, rfl⟩
abbrev main_v92_0 : Ref sig .tc := ⟨.hbm, 124, rfl⟩
abbrev main_v92_1 : Ref sig .tc := ⟨.hbm, 125, rfl⟩
abbrev main_v92_2 : Ref sig .tc := ⟨.hbm, 126, rfl⟩
abbrev main_v92_3 : Ref sig .tc := ⟨.hbm, 127, rfl⟩
abbrev main_v92_4 : Ref sig .tc := ⟨.hbm, 128, rfl⟩
abbrev main_v92_5 : Ref sig .tc := ⟨.hbm, 129, rfl⟩
abbrev main_while0c_c_19 : Ref sig .tc := ⟨.hbm, 130, rfl⟩
abbrev main_while0c_v104 : Ref sig .tc := ⟨.hbm, 131, rfl⟩
abbrev main_while0b_c_19 : Ref sig .tc := ⟨.hbm, 132, rfl⟩
abbrev main_while0b_v104 : Ref sig .tc := ⟨.hbm, 133, rfl⟩
abbrev main_while0b_v105 : Ref sig .tc := ⟨.hbm, 134, rfl⟩
abbrev main_while0b_c_20 : Ref sig .tc := ⟨.hbm, 135, rfl⟩
abbrev main_while0b_v106 : Ref sig .tc := ⟨.hbm, 136, rfl⟩
abbrev main_while0b_v107 : Ref sig .tc := ⟨.hbm, 137, rfl⟩
abbrev main_while0b_c_21 : Ref sig .tc := ⟨.hbm, 138, rfl⟩
abbrev main_while0b_v108 : Ref sig .tc := ⟨.hbm, 139, rfl⟩
abbrev main_while0b_v109 : Ref sig .tc := ⟨.hbm, 140, rfl⟩
abbrev main_while0b_c_22 : Ref sig .tc := ⟨.hbm, 141, rfl⟩
abbrev main_while0b_v110 : Ref sig .tc := ⟨.hbm, 142, rfl⟩
abbrev main_while0b_c_23 : Ref sig .tc := ⟨.hbm, 143, rfl⟩
abbrev main_while0b_v111 : Ref sig .tc := ⟨.hbm, 144, rfl⟩
abbrev main_while0b_v112 : Ref sig .tc := ⟨.hbm, 145, rfl⟩
abbrev main_while0b_c_24 : Ref sig .tc := ⟨.hbm, 146, rfl⟩
abbrev main_while0b_v113 : Ref sig .tc := ⟨.hbm, 147, rfl⟩
abbrev main_while0b_v114 : Ref sig .tc := ⟨.hbm, 148, rfl⟩
abbrev main_while0b_c_25 : Ref sig .tc := ⟨.hbm, 149, rfl⟩
abbrev main_while0b_c_26 : Ref sig .tc := ⟨.hbm, 150, rfl⟩
abbrev main_while0b_v115 : Ref sig .tc := ⟨.hbm, 151, rfl⟩
abbrev main_while0b_v116 : Ref sig .tc := ⟨.hbm, 152, rfl⟩
abbrev main_while0b_cst_27 : Ref sig .tc := ⟨.hbm, 153, rfl⟩
abbrev main_while0b_v117 : Ref sig .tc := ⟨.hbm, 154, rfl⟩
abbrev main_while0b_v118 : Ref sig .tc := ⟨.hbm, 155, rfl⟩
abbrev main_while0b_v119 : Ref sig .tc := ⟨.hbm, 156, rfl⟩
abbrev main_while0b_v120 : Ref sig .tc := ⟨.hbm, 157, rfl⟩
abbrev main_while0b_v121 : Ref sig .tc := ⟨.hbm, 158, rfl⟩
abbrev main_while0b_v122 : Ref sig .tc := ⟨.hbm, 159, rfl⟩
abbrev main_while0b_v123 : Ref sig .tc := ⟨.hbm, 160, rfl⟩
abbrev main_while0b_v124 : Ref sig .tc := ⟨.hbm, 161, rfl⟩
abbrev main_while0b_v125 : Ref sig .tc := ⟨.hbm, 162, rfl⟩
abbrev main_while0b_v126 : Ref sig .tc := ⟨.hbm, 163, rfl⟩
abbrev main_while0b_v127 : Ref sig .tc := ⟨.hbm, 164, rfl⟩
abbrev main_while0b_v128 : Ref sig .tc := ⟨.hbm, 165, rfl⟩
abbrev main_while0b_c_28 : Ref sig .tc := ⟨.hbm, 166, rfl⟩
abbrev main_while0b_v129 : Ref sig .tc := ⟨.hbm, 167, rfl⟩
abbrev main_while0b_v130 : Ref sig .tc := ⟨.hbm, 168, rfl⟩
abbrev main_while0b_c_29 : Ref sig .tc := ⟨.hbm, 169, rfl⟩
abbrev main_while0b_v131 : Ref sig .tc := ⟨.hbm, 170, rfl⟩
abbrev main_while0b_v132 : Ref sig .tc := ⟨.hbm, 171, rfl⟩
abbrev main_while0b_c_30 : Ref sig .tc := ⟨.hbm, 172, rfl⟩
abbrev main_while0b_v133 : Ref sig .tc := ⟨.hbm, 173, rfl⟩
abbrev main_while0b_c_31 : Ref sig .tc := ⟨.hbm, 174, rfl⟩
abbrev main_while0b_v134 : Ref sig .tc := ⟨.hbm, 175, rfl⟩
abbrev main_v93 : Ref sig .tc := ⟨.hbm, 176, rfl⟩
abbrev main_v94 : Ref sig .tc := ⟨.hbm, 177, rfl⟩
abbrev main_cst_13 : Ref sig .tc := ⟨.hbm, 178, rfl⟩
abbrev main_call3_v0 : Ref sig .tc := ⟨.hbm, 179, rfl⟩
abbrev main_call3_v1 : Ref sig .tc := ⟨.hbm, 180, rfl⟩
abbrev main_v95 : Ref sig .tc := ⟨.hbm, 181, rfl⟩
abbrev main_call4_v0 : Ref sig .tc := ⟨.hbm, 182, rfl⟩
abbrev main_call4_v1_0 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_call5_c : Ref sig .tc := ⟨.hbm, 191, rfl⟩
abbrev main_call5_v0 : Ref sig .tc := ⟨.hbm, 192, rfl⟩
abbrev main_call5_v1 : Ref sig .tc := ⟨.hbm, 193, rfl⟩
abbrev main_call5_c_0 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_v103 : Ref sig .tc := ⟨.hbm, 198, rfl⟩

abbrev nD : Nat := 1
abbrev τ : Topo := Topo.v7x

variable {F : FTy → Type} [FloatOps F]

abbrev main_while0_count : Scf.Loop 32 := ⟨0#32, 400#32, 1#32⟩
-- ==== Proof.Stages.lean ====
/- The kernel's body as a short list of stages, each named once: the boxes, the running maximum over the classes,
   the ranking key, the two searches by bits, the running count, the moves to the left, the selection rounds, the
   suppression rounds and the final placing. Every definition is over any float operations. -/
module

public import proofs.«01_k».proof.Proof.Gen.KernelIdeal.Skeleton

@[expose] public section

noncomputable section

namespace Cert.Detect

open Cert.KernelIdeal Cert.KernelIdeal.Facts₀ Cert.KernelIdeal.Facts
open Idealize.ShloMosaic

variable {F : FTy → Type} [FloatOps F]

/-! ## The float constants -/

/-- A float constant at every place of a shape. -/
abbrev flt (s : Shape) (w : BitVec 32) : FVec F s .f32 := broadcast s (Scalar.ofBits .f32 w)

/-! ## Boxes -/

/-- One row of the predictions, as a matrix. -/
def chan (x : Vec F S1x8x5120 .f32) : FVec F S8x5120 .f32 := shapeCast S8x5120 x shapeCasts_S1x8x5120_S8x5120

/-- One row of the priors, at every image. -/
def prior (p : Vec F S1x5120 .f32) : FVec F S8x5120 .f32 :=
  broadcastTo S8x5120 (shapeCast S1x5120 p shapeCasts_S1x5120_S1x5120 : FVec F S1x5120 .f32) broadcasts_S1x5120_S8x5120

/-- A centre. -/
def centre (loc : FVec F S8x5120 .f32) (c w : FVec F S8x5120 .f32) : FVec F S8x5120 .f32 :=
  addf c (mulf (mulf loc (flt S8x5120 0x3DCCCCCD#32)) w)

/-- An extent. -/
def extent (loc : FVec F S8x5120 .f32) (w : FVec F S8x5120 .f32) : FVec F S8x5120 .f32 :=
  mulf w (exp (mulf loc (flt S8x5120 0x3E4CCCCD#32)))

/-- The low side of a box. -/
def low (c e : FVec F S8x5120 .f32) : FVec F S8x5120 .f32 := subf c (divf e (flt S8x5120 0x40000000#32))
/-- The high side of a box. -/
def high (c e : FVec F S8x5120 .f32) : FVec F S8x5120 .f32 := addf c (divf e (flt S8x5120 0x40000000#32))

/-! ## The best class -/

/-- The running maximum after one more class. -/
def best (s x : FVec F S8x5120 .f32) : FVec F S8x5120 .f32 := select (cmpf .ogt x s) x s
/-- The running label after one more class. -/
def lab (s x l : FVec F S8x5120 .f32) (w : BitVec 32) : FVec F S8x5120 .f32 :=
  select (cmpf .ogt x s) (flt S8x5120 w) l

/-- One more class: the running maximum and label. -/
def classStep (a : FVec F S8x5120 .f32 × FVec F S8x5120 .f32) (x : FVec F S8x5120 .f32 × BitVec 32) :
    FVec F S8x5120 .f32 × FVec F S8x5120 .f32 := (best a.1 x.1, lab a.1 x.1 a.2 x.2)

/-- The scores below the threshold replaced by −10⁹. -/
def mask (s : FVec F S8x5120 .f32) : FVec F S8x5120 .f32 :=
  select (cmpf .ogt s (flt S8x5120 0x3F000000#32)) s (flt S8x5120 0xCE6E6B28#32)

/-! ## The key -/

/-- The lane numbers. -/
abbrev lanes : IVec S8x5120 32 := iota .tc S8x5120 32 [1] iota_S8x5120_d1_w32
/-- The slot numbers. -/
abbrev slots : IVec S1x400 32 := iota .tc S1x400 32 [1] iota_S1x400_d1_w32

/-- The sum along the lanes, kept as a column. -/
def laneSum (x : FVec F S8x5120 .f32) : FVec F S8x1 .f32 :=
  shapeCast S8x1 (multiReduction .add [1] S8 x 0x00000000#32 reduces_S8x5120_S8 (.inl rfl) rfl : FVec F S8 .f32)
    shapeCasts_S8_S8x1

/-- How many lanes are marked, as a column. -/
def laneCount (m : IVec S8x5120 1) : IVec S8x1 32 :=
  shapeCast S8x1 (multiReductionI .add [1] S8 (extui 32 m natLt_1_32) 0#32 reduces_S8x5120_S8 rfl : IVec S8 32)
    shapeCasts_S8_S8x1

/-- A column at every lane. -/
abbrev wide {α : Type} (x : S8x1.Idx → α) : S8x5120.Idx → α := broadcastTo S8x5120 x broadcasts_S8x1_S8x5120

/-- One trip of the key loop: one more lane compared with every lane. -/
def keyStep (s : FVec F S8x5120 .f32) (j : BitVec 32) (acc : IVec S8x5120 32) : IVec S8x5120 32 :=
  addi acc (extui 32 (cmpf .olt (wide (laneSum (select (cmpi .eq lanes (broadcast S8x5120 j)) s
    (flt S8x5120 0x00000000#32)))) s) natLt_1_32)

/-- The key: how many lanes score less. -/
def key (s : FVec F S8x5120 .f32) : IVec S8x5120 32 :=
  Scf.fold (n := k0_t1_loop.trips) (fun k acc => keyStep s (Scf.iv 0#32 1#32 k) acc) (broadcast S8x5120 0#32)

/-! ## The two searches -/

/-- One bit of a search: kept when enough lanes pass. -/
def bitStep (pass : IVec S8x1 32 → IVec S8x5120 1) (need : IVec S8x1 32) (t : IVec S8x1 32) (w : BitVec 32) :
    IVec S8x1 32 :=
  select (cmpi .sge (laneCount (pass (ori t (broadcast S8x1 w)))) need) (ori t (broadcast S8x1 w)) t

/-- The lanes whose key is at least `t`. -/
def keyPass (k : IVec S8x5120 32) (t : IVec S8x1 32) : IVec S8x5120 1 := cmpi .uge k (wide t)

/-- The bits of the first search after the given ones. -/
def cut (k : IVec S8x5120 32) (ws : List (BitVec 32)) : IVec S8x1 32 :=
  ws.foldl (bitStep (keyPass k) (broadcast S8x1 400#32)) (broadcast S8x1 0#32)

/-- The 32 bits from the highest. -/
abbrev bits32 : List (BitVec 32) :=
  [2147483648#32, 1073741824#32, 536870912#32, 268435456#32, 134217728#32, 67108864#32, 33554432#32, 16777216#32,
   8388608#32, 4194304#32, 2097152#32, 1048576#32, 524288#32, 262144#32, 131072#32, 65536#32,
   32768#32, 16384#32, 8192#32, 4096#32, 2048#32, 1024#32, 512#32, 256#32,
   128#32, 64#32, 32#32, 16#32, 8#32, 4#32, 2#32, 1#32]

/-- The 13 low bits from the highest. -/
abbrev bits13 : List (BitVec 32) :=
  [4096#32, 2048#32, 1024#32, 512#32, 256#32, 128#32, 64#32, 32#32, 16#32, 8#32, 4#32, 2#32, 1#32]

/-- The lane numbers from the right. -/
def back : IVec S8x5120 32 := subi (broadcast S8x5120 5119#32) lanes

/-- The lanes whose key is above `t`. -/
def above (k : IVec S8x5120 32) (t : IVec S8x1 32) : IVec S8x5120 1 := cmpi .ugt k (wide t)
/-- The lanes whose key is `t`. -/
def ties (k : IVec S8x5120 32) (t : IVec S8x1 32) : IVec S8x5120 1 := cmpi .eq k (wide t)
/-- The lanes at `t` or later from the right. -/
def early (t : IVec S8x1 32) : IVec S8x5120 1 := cmpi .sge back (wide t)

/-- How many ties are wanted. -/
def wanted (k : IVec S8x5120 32) (t : IVec S8x1 32) : IVec S8x1 32 :=
  subi (broadcast S8x1 400#32) (laneCount (above k t))

/-- The bits of the second search after the given ones. -/
def tieCut (k : IVec S8x5120 32) (t : IVec S8x1 32) (ws : List (BitVec 32)) : IVec S8x1 32 :=
  ws.foldl (bitStep (fun u => andi (ties k t) (early u)) (wanted k t)) (broadcast S8x1 0#32)

/-- The lanes selected. -/
def chosen (k : IVec S8x5120 32) (t u : IVec S8x1 32) : IVec S8x5120 1 := ori (above k t) (andi (ties k t) (early u))

/-- The lanes selected, from the key. -/
def picked (k : IVec S8x5120 32) : IVec S8x5120 1 :=
  chosen k (cut k bits32) (tieCut k (cut k bits32) bits13)

/-! ## The running count and the moves to the left -/

/-- The lanes moved right by the first part's width, zeros coming in. -/
def pushed (sa sb : Shape) (ha : Shape.Concatenates [sa, sb] S8x5120 1) (hb : S8x5120.Slices ![0, 0] sb)
    (x : IVec S8x5120 32) : IVec S8x5120 32 :=
  addi x (concatenate S8x5120 1 [⟨sa, broadcast sa 0#32⟩, ⟨sb, extractStridedSlice sb ![0, 0] x hb⟩] ha)

/-- The running count of the marks in `x`. -/
def runCount (x : IVec S8x5120 32) : IVec S8x5120 32 :=
  let x := pushed S8x1 S8x5119 concatenates_S8x1_S8x5119_S8x5120_d1 slices_S8x5120_o0_0_S8x5119 x
  let x := pushed S8x2 S8x5118 concatenates_S8x2_S8x5118_S8x5120_d1 slices_S8x5120_o0_0_S8x5118 x
  let x := pushed S8x4 S8x5116 concatenates_S8x4_S8x5116_S8x5120_d1 slices_S8x5120_o0_0_S8x5116 x
  let x := pushed S8x8 S8x5112 concatenates_S8x8_S8x5112_S8x5120_d1 slices_S8x5120_o0_0_S8x5112 x
  let x := pushed S8x16 S8x5104 concatenates_S8x16_S8x5104_S8x5120_d1 slices_S8x5120_o0_0_S8x5104 x
  let x := pushed S8x32 S8x5088 concatenates_S8x32_S8x5088_S8x5120_d1 slices_S8x5120_o0_0_S8x5088 x
  let x := pushed S8x64 S8x5056 concatenates_S8x64_S8x5056_S8x5120_d1 slices_S8x5120_o0_0_S8x5056 x
  let x := pushed S8x128 S8x4992 concatenates_S8x128_S8x4992_S8x5120_d1 slices_S8x5120_o0_0_S8x4992 x
  let x := pushed S8x256 S8x4864 concatenates_S8x256_S8x4864_S8x5120_d1 slices_S8x5120_o0_0_S8x4864 x
  let x := pushed S8x512 S8x4608 concatenates_S8x512_S8x4608_S8x5120_d1 slices_S8x5120_o0_0_S8x4608 x
  let x := pushed S8x1024 S8x4096 concatenates_S8x1024_S8x4096_S8x5120_d1 slices_S8x5120_o0_0_S8x4096 x
  let x := pushed S8x2048 S8x3072 concatenates_S8x2048_S8x3072_S8x5120_d1 slices_S8x5120_o0_0_S8x3072 x
  pushed S8x4096 S8x1024 concatenates_S8x4096_S8x1024_S8x5120_d1 slices_S8x5120_o0_0_S8x1024 x

/-- How far left each lane has to go. -/
def shift (c : IVec S8x5120 1) : IVec S8x5120 32 :=
  subi lanes (subi (runCount (extui 32 c natLt_1_32)) (extui 32 c natLt_1_32))

/-- The lanes turned left by a part's width. -/
def turned {α : Type} (w : ℕ) (sa sb : Shape) (ha : S8x5120.Slices ![0, w] sa) (hb : S8x5120.Slices ![0, 0] sb)
    (hc : Shape.Concatenates [sa, sb] S8x5120 1) (x : S8x5120.Idx → α) : S8x5120.Idx → α :=
  concatenate S8x5120 1 [⟨sa, extractStridedSlice sa ![0, w] x ha⟩, ⟨sb, extractStridedSlice sb ![0, 0] x hb⟩] hc

/-- What is moved: the scores, the lane numbers, the boxes, the labels and the shifts. -/
structure Lot (F : FTy → Type) where
  s : FVec F S8x5120 .f32
  n : IVec S8x5120 32
  x1 : FVec F S8x5120 .f32
  y1 : FVec F S8x5120 .f32
  x2 : FVec F S8x5120 .f32
  y2 : FVec F S8x5120 .f32
  l : FVec F S8x5120 .f32
  d : IVec S8x5120 32

/-- Where a move by bit `b` takes place: the bit of the shift of the lane it comes from. -/
def moves (rot : {α : Type} → (S8x5120.Idx → α) → S8x5120.Idx → α) (b : BitVec 32) (d : IVec S8x5120 32) :
    IVec S8x5120 1 :=
  cmpi .eq (andi (shrsi (rot d) (broadcast S8x5120 b)) (broadcast S8x5120 1#32)) (broadcast S8x5120 1#32)

/-- One move. -/
def moveStep (rot : {α : Type} → (S8x5120.Idx → α) → S8x5120.Idx → α) (b w : BitVec 32) (a : Lot F) : Lot F :=
  { s := select (moves rot b a.d) (rot a.s) a.s
    n := select (moves rot b a.d) (rot a.n) a.n
    x1 := select (moves rot b a.d) (rot a.x1) a.x1
    y1 := select (moves rot b a.d) (rot a.y1) a.y1
    x2 := select (moves rot b a.d) (rot a.x2) a.x2
    y2 := select (moves rot b a.d) (rot a.y2) a.y2
    l := select (moves rot b a.d) (rot a.l) a.l
    d := select (moves rot b a.d) (subi (rot a.d) (broadcast S8x5120 w)) a.d }

/-- The lanes turned left by 1. -/
def rot1 {α : Type} : (S8x5120.Idx → α) → S8x5120.Idx → α :=
  turned 1 S8x5119 S8x1 slices_S8x5120_o0_1_S8x5119 slices_S8x5120_o0_0_S8x1
    concatenates_S8x5119_S8x1_S8x5120_d1
/-- The lanes turned left by 2. -/
def rot2 {α : Type} : (S8x5120.Idx → α) → S8x5120.Idx → α :=
  turned 2 S8x5118 S8x2 slices_S8x5120_o0_2_S8x5118 slices_S8x5120_o0_0_S8x2
    concatenates_S8x5118_S8x2_S8x5120_d1
/-- The lanes turned left by 4. -/
def rot4 {α : Type} : (S8x5120.Idx → α) → S8x5120.Idx → α :=
  turned 4 S8x5116 S8x4 slices_S8x5120_o0_4_S8x5116 slices_S8x5120_o0_0_S8x4
    concatenates_S8x5116_S8x4_S8x5120_d1
/-- The lanes turned left by 8. -/
def rot8 {α : Type} : (S8x5120.Idx → α) → S8x5120.Idx → α :=
  turned 8 S8x5112 S8x8 slices_S8x5120_o0_8_S8x5112 slices_S8x5120_o0_0_S8x8
    concatenates_S8x5112_S8x8_S8x5120_d1
/-- The lanes turned left by 16. -/
def rot16 {α : Type} : (S8x5120.Idx → α) → S8x5120.Idx → α :=
  turned 16 S8x5104 S8x16 slices_S8x5120_o0_16_S8x5104 slices_S8x5120_o0_0_S8x16
    concatenates_S8x5104_S8x16_S8x5120_d1
/-- The lanes turned left by 32. -/
def rot32 {α : Type} : (S8x5120.Idx → α) → S8x5120.Idx → α :=
  turned 32 S8x5088 S8x32 slices_S8x5120_o0_32_S8x5088 slices_S8x5120_o0_0_S8x32
    concatenates_S8x5088_S8x32_S8x5120_d1
/-- The lanes turned left by 64. -/
def rot64 {α : Type} : (S8x5120.Idx → α) → S8x5120.Idx → α :=
  turned 64 S8x5056 S8x64 slices_S8x5120_o0_64_S8x5056 slices_S8x5120_o0_0_S8x64
    concatenates_S8x5056_S8x64_S8x5120_d1
/-- The lanes turned left by 128. -/
def rot128 {α : Type} : (S8x5120.Idx → α) → S8x5120.Idx → α :=
  turned 128 S8x4992 S8x128 slices_S8x5120_o0_128_S8x4992 slices_S8x5120_o0_0_S8x128
    concatenates_S8x4992_S8x128_S8x5120_d1
/-- The lanes turned left by 256. -/
def rot256 {α : Type} : (S8x5120.Idx → α) → S8x5120.Idx → α :=
  turned 256 S8x4864 S8x256 slices_S8x5120_o0_256_S8x4864 slices_S8x5120_o0_0_S8x256
    concatenates_S8x4864_S8x256_S8x5120_d1
/-- The lanes turned left by 512. -/
def rot512 {α : Type} : (S8x5120.Idx → α) → S8x5120.Idx → α :=
  turned 512 S8x4608 S8x512 slices_S8x5120_o0_512_S8x4608 slices_S8x5120_o0_0_S8x512
    concatenates_S8x4608_S8x512_S8x5120_d1
/-- The lanes turned left by 1024. -/
def rot1024 {α : Type} : (S8x5120.Idx → α) → S8x5120.Idx → α :=
  turned 1024 S8x4096 S8x1024 slices_S8x5120_o0_1024_S8x4096 slices_S8x5120_o0_0_S8x1024
    concatenates_S8x4096_S8x1024_S8x5120_d1
/-- The lanes turned left by 2048. -/
def rot2048 {α : Type} : (S8x5120.Idx → α) → S8x5120.Idx → α :=
  turned 2048 S8x3072 S8x2048 slices_S8x5120_o0_2048_S8x3072 slices_S8x5120_o0_0_S8x2048
    concatenates_S8x3072_S8x2048_S8x5120_d1
/-- The lanes turned left by 4096. -/
def rot4096 {α : Type} : (S8x5120.Idx → α) → S8x5120.Idx → α :=
  turned 4096 S8x1024 S8x4096 slices_S8x5120_o0_4096_S8x1024 slices_S8x5120_o0_0_S8x4096
    concatenates_S8x1024_S8x4096_S8x5120_d1

/-- All thirteen moves. -/
def packed (a : Lot F) : Lot F :=
  let a := moveStep rot1 0#32 1#32 a
  let a := moveStep rot2 1#32 2#32 a
  let a := moveStep rot4 2#32 4#32 a
  let a := moveStep rot8 3#32 8#32 a
  let a := moveStep rot16 4#32 16#32 a
  let a := moveStep rot32 5#32 32#32 a
  let a := moveStep rot64 6#32 64#32 a
  let a := moveStep rot128 7#32 128#32 a
  let a := moveStep rot256 8#32 256#32 a
  let a := moveStep rot512 9#32 512#32 a
  let a := moveStep rot1024 10#32 1024#32 a
  let a := moveStep rot2048 11#32 2048#32 a
  let a := moveStep rot4096 12#32 4096#32 a
  a

/-! ## The selection rounds -/

/-- The first 400 lanes. -/
abbrev head {α : Type} (x : S8x5120.Idx → α) : S8x400.Idx → α :=
  extractStridedSlice S8x400 ![0, 0] x slices_S8x5120_o0_0_S8x400

/-- A column at every slot. -/
abbrev wideS {α : Type} (x : S8x1.Idx → α) : S8x400.Idx → α := broadcastTo S8x400 x broadcasts_S8x1_S8x400
/-- A column at every slot, as it is printed where it is stored. -/
abbrev wideC {α : Type} (x : S8x1.Idx → α) : S8x400.Idx → α :=
  broadcastTo S8x400 (shapeCast S8x1 x shapeCasts_S8x1_S8x1) broadcasts_S8x1_S8x400
/-- A row at every image. -/
abbrev tall {α : Type} (x : S1x400.Idx → α) : S8x400.Idx → α := broadcastTo S8x400 x broadcasts_S1x400_S8x400
/-- The slots numbered `j`. -/
abbrev at1 (j : BitVec 32) : IVec S1x400 1 := cmpi .eq slots (broadcast S1x400 j)
/-- The same, at every image. -/
abbrev atSlot (j : BitVec 32) : IVec S8x400 1 :=
  broadcastTo S8x400 (shapeCast S1x400 (at1 j) shapeCasts_S1x400_S1x400) broadcasts_S1x400_S8x400

/-- The sum along the slots, as a column. -/
def slotSum (x : FVec F S8x400 .f32) : FVec F S8x1 .f32 :=
  shapeCast S8x1 (multiReduction .add [1] S8 x 0x00000000#32 reduces_S8x400_S8 (.inl rfl) rfl : FVec F S8 .f32)
    shapeCasts_S8_S8x1
/-- The maximum along the slots, as a column. -/
def slotMax (x : FVec F S8x400 .f32) : FVec F S8x1 .f32 :=
  shapeCast S8x1 (multiReduction .maximumf [1] S8 x 0xFF800000#32 reduces_S8x400_S8 (.inl rfl) rfl : FVec F S8 .f32)
    shapeCasts_S8_S8x1
/-- The minimum along the slots, as a column. -/
def slotMin (x : IVec S8x400 32) : IVec S8x1 32 :=
  shapeCast S8x1 (multiReductionI .minsi [1] S8 x 2147483647#32 reduces_S8x400_S8 rfl : IVec S8 32) shapeCasts_S8_S8x1
/-- How many slots are marked, as a column. -/
def slotCount (m : IVec S8x400 1) : IVec S8x1 32 :=
  shapeCast S8x1 (multiReductionI .add [1] S8 (extui 32 m natLt_1_32) 0#32 reduces_S8x400_S8 rfl : IVec S8 32)
    shapeCasts_S8_S8x1

/-- The number of step `j` of trip `k`. -/
abbrev stepNo {n : ℕ} (k : Fin n) (j : BitVec 32) : BitVec 32 :=
  Scalar.addi (Scalar.muli (Scf.iv 0#32 1#32 k) 8#32) j

/-- What the selection rounds carry: the scores left, then the scores, boxes and labels placed. -/
abbrev Carry (F : FTy → Type) : Type :=
  FVec F S8x400 .f32 × FVec F S8x400 .f32 × FVec F S8x400 .f32 × FVec F S8x400 .f32 × FVec F S8x400 .f32 ×
    FVec F S8x400 .f32 × FVec F S8x400 .f32

/-- The slot of the largest score, the first lane among equals. -/
def winner (n : IVec S8x400 32) (v : FVec F S8x400 .f32) : IVec S8x400 1 :=
  cmpi .eq n (wideS (slotMin (select (cmpf .oeq v (wideS (slotMax v))) n (broadcast S8x400 5120#32))))

/-- The value at the marked slot. -/
def taken (m : IVec S8x400 1) (x : FVec F S8x400 .f32) : FVec F S8x1 .f32 :=
  slotSum (select m x (flt S8x400 0x00000000#32))

/-- A value placed at slot `j`. -/
def placed (j : BitVec 32) (x : FVec F S8x1 .f32) (a : FVec F S8x400 .f32) : FVec F S8x400 .f32 :=
  select (atSlot j) (wideC x) a

/-- One selection round. -/
def sortStep (n : IVec S8x400 32) (x1 y1 x2 y2 l : FVec F S8x400 .f32) (j : BitVec 32) (a : Carry F) : Carry F :=
  (select (winner n a.1) (flt S8x400 0xFF61B1E6#32) a.1,
    placed j (slotMax a.1) a.2.1,
    placed j (taken (winner n a.1) x1) a.2.2.1,
    placed j (taken (winner n a.1) y1) a.2.2.2.1,
    placed j (taken (winner n a.1) x2) a.2.2.2.2.1,
    placed j (taken (winner n a.1) y2) a.2.2.2.2.2.1,
    placed j (taken (winner n a.1) l) a.2.2.2.2.2.2)

/-- Eight steps of a loop. -/
def eight {n : ℕ} {σ : Type} (f : BitVec 32 → σ → σ) (k : Fin n) (a : σ) : σ :=
  f (stepNo k 7#32) (f (stepNo k 6#32) (f (stepNo k 5#32) (f (stepNo k 4#32)
    (f (stepNo k 3#32) (f (stepNo k 2#32) (f (stepNo k 1#32) (f (stepNo k 0#32) a)))))))

/-- All selection rounds. -/
def sorted (s : FVec F S8x400 .f32) (n : IVec S8x400 32) (x1 y1 x2 y2 l : FVec F S8x400 .f32) : Carry F :=
  Scf.fold (n := k0_t2_loop.trips) (fun k acc => eight (sortStep n x1 y1 x2 y2 l) k acc)
    (s, flt S8x400 0x00000000#32, flt S8x400 0x00000000#32, flt S8x400 0x00000000#32, flt S8x400 0x00000000#32,
      flt S8x400 0x00000000#32, flt S8x400 0x00000000#32)

/-! ## The suppression rounds -/

/-- The slots above the threshold, as numbers. -/
def valid (v : FVec F S8x400 .f32) : FVec F S8x400 .f32 :=
  sitofp .f32 (extui 32 (cmpf .ogt v (flt S8x400 0x3F000000#32)) natLt_1_32)

/-- The areas. -/
def area (x1 y1 x2 y2 : FVec F S8x400 .f32) : FVec F S8x400 .f32 :=
  mulf (maximumf (flt S8x400 0x00000000#32) (subf x2 x1)) (maximumf (flt S8x400 0x00000000#32) (subf y2 y1))

/-- The overlap with the box in the columns. -/
def inter (x1 y1 x2 y2 : FVec F S8x400 .f32) (a b c d : FVec F S8x1 .f32) : FVec F S8x400 .f32 :=
  mulf (maximumf (flt S8x400 0x00000000#32) (subf (minimumf (wideS c) x2) (maximumf (wideS a) x1)))
    (maximumf (flt S8x400 0x00000000#32) (subf (minimumf (wideS d) y2) (maximumf (wideS b) y1)))

/-- The overlap's share of the union. -/
def share (x1 y1 x2 y2 ar : FVec F S8x400 .f32) (a b c d e : FVec F S8x1 .f32) : FVec F S8x400 .f32 :=
  divf (inter x1 y1 x2 y2 a b c d)
    (maximumf (subf (addf (wideS e) ar) (inter x1 y1 x2 y2 a b c d)) (flt S8x400 0x3089705F#32))

/-- Whether slot `j` is still kept, as a column. -/
def keptAt (w keep : FVec F S8x400 .f32) (j : BitVec 32) : FVec F S8x1 .f32 :=
  mulf (taken (atSlot j) keep) (taken (atSlot j) w)

/-- What slot `j` suppresses. -/
def hits (x1 y1 x2 y2 w ar keep : FVec F S8x400 .f32) (j : BitVec 32) : IVec S8x400 1 :=
  andi (andi (cmpf .ogt (share x1 y1 x2 y2 ar (taken (atSlot j) x1) (taken (atSlot j) y1) (taken (atSlot j) x2)
      (taken (atSlot j) y2) (taken (atSlot j) ar)) (flt S8x400 0x3F000000#32))
    (tall (cmpi .sgt slots (broadcast S1x400 j))))
    (wideS (cmpf .ogt (keptAt w keep j) (flt S8x1 0x3F000000#32)))

/-- One suppression round. -/
def nmsStep (x1 y1 x2 y2 w ar : FVec F S8x400 .f32) (j : BitVec 32) (keep : FVec F S8x400 .f32) : FVec F S8x400 .f32 :=
  placed j (keptAt w keep j)
    (mulf keep (subf (flt S8x400 0x3F800000#32)
      (sitofp .f32 (extui 32 (hits x1 y1 x2 y2 w ar keep j) natLt_1_32))))

/-- All suppression rounds. -/
def kept (v x1 y1 x2 y2 : FVec F S8x400 .f32) : FVec F S8x400 .f32 :=
  Scf.fold (n := k0_t3_loop.trips) (fun k acc => eight (nmsStep x1 y1 x2 y2 (valid v) (area x1 y1 x2 y2)) k acc)
    (flt S8x400 0x3F800000#32)

/-! ## The places -/

/-- One slot's place: how many kept slots come before it. -/
def placeStep (y keep : FVec F S8x400 .f32) (j : BitVec 32) (r : IVec S8x400 32) : IVec S8x400 32 :=
  select (atSlot j) (wideC (slotCount (andi (cmpf .ogt keep (flt S8x400 0x3F000000#32))
    (ori (cmpf .olt y (wideS (taken (atSlot j) y)))
      (andi (cmpf .oeq y (wideS (taken (atSlot j) y))) (tall (cmpi .slt slots (broadcast S1x400 j)))))))) r

/-- All places. -/
def places (y keep : FVec F S8x400 .f32) : IVec S8x400 32 :=
  Scf.fold (n := k0_t4_loop.trips) (fun k acc => eight (placeStep y keep) k acc) (broadcast S8x400 0#32)

/-- Which kept slot goes to which place. -/
def goes (keep : FVec F S8x400 .f32) (r : IVec S8x400 32) : IVec S8x200x400 1 :=
  andi (cmpi .eq (broadcastTo S8x200x400 (shapeCast S8x1x400 r shapeCasts_S8x400_S8x1x400) broadcasts_S8x1x400_S8x200x400)
      (broadcastTo S8x200x400 (iota .tc S1x200x1 32 [1] iota_S1x200x1_d1_w32 : IVec S1x200x1 32)
        broadcasts_S1x200x1_S8x200x400))
    (broadcastTo S8x200x400 (cmpf .ogt (shapeCast S8x1x400 keep shapeCasts_S8x400_S8x1x400 : FVec F S8x1x400 .f32)
      (flt S8x1x400 0x3F000000#32)) broadcasts_S8x1x400_S8x200x400)

/-- The values at their places. -/
def result (g : IVec S8x200x400 1) (x : FVec F S8x400 .f32) : FVec F S8x200 .f32 :=
  multiReduction .add [2] S8x200 (select g
    (broadcastTo S8x200x400 (shapeCast S8x1x400 (shapeCast S8x1x400 x shapeCasts_S8x400_S8x1x400 : FVec F S8x1x400 .f32)
      shapeCasts_S8x1x400_S8x1x400 : FVec F S8x1x400 .f32) broadcasts_S8x1x400_S8x200x400)
    (flt S8x200x400 0x00000000#32)) 0x00000000#32 reduces_S8x200x400_S8x200 (.inl rfl) rfl

/-! ## The whole -/

/-- Everything moved, from the scores, the boxes, the labels and the lanes selected. -/
def lot (s x1 y1 x2 y2 l : FVec F S8x5120 .f32) (c : IVec S8x5120 1) : Lot F :=
  packed ⟨s, lanes, x1, y1, x2, y2, l, shift c⟩

/-- The selection rounds on the first 400 lanes of what was moved. -/
def rounds (a : Lot F) : Carry F :=
  sorted (head a.s) (head a.n) (head a.x1) (head a.y1) (head a.x2) (head a.y2) (head a.l)

/-- The slots kept. -/
def keeps (c : Carry F) : FVec F S8x400 .f32 := kept c.2.1 c.2.2.1 c.2.2.2.1 c.2.2.2.2.1 c.2.2.2.2.2.1

/-- Which kept slot goes to which place. -/
def gate (c : Carry F) : IVec S8x200x400 1 := goes (keeps c) (places c.2.2.2.1 (keeps c))

end Cert.Detect
-- ==== Proof.KernelSelect.lean ====
/- The pieces of a trip of the selection rounds are the pieces of eight of its steps. -/
module

public import proofs.«01_k».proof.Proof.Gen.Kernel.Skeleton
public import proofs.«01_k».proof.Proof.Stages

@[expose] public section

noncomputable section

namespace Cert.Kernel.Gen

open Idealize.ShloMosaic Idealize.SL.Sem Cert.Detect
open Cert.Kernel.Facts₀ Cert.Kernel.Facts

variable {F : FTy → Type} [FloatOps F]

set_option maxRecDepth 8192
set_option maxHeartbeats 800000

variable (arg0 : Memref sig .tc .vmem S25x8x5120 .f32) (harg0 : arg0.IsWhole) (arg1 : Memref sig .tc .vmem S4x5120 .f32) (harg1 : arg1.IsWhole)
  (arg2 : Memref sig .tc .vmem S8x200 .f32) (harg2 : arg2.IsWhole) (arg3 : Memref sig .tc .vmem S8x200 .f32) (harg3 : arg3.IsWhole) (arg4 : Memref sig .tc .vmem S8x200 .f32) (harg4 : arg4.IsWhole) (arg5 : Memref sig .tc .vmem S8x200 .f32) (harg5 : arg5.IsWhole) (arg6 : Memref sig .tc .vmem S8x200 .f32) (harg6 : arg6.IsWhole) (arg7 : Memref sig .tc .vmem S8x200 .f32) (harg7 : arg7.IsWhole)

/-- Piece 1 of a trip of the selection rounds. -/
theorem k0_part1_eq (k : Fin k0_t2_loop.trips) (n : IVec S8x400 32) (x1 y1 x2 y2 l : FVec F S8x400 .f32) (a : Carry F) :
    k0_part1 (F := F) arg0 harg0 arg1 harg1 arg2 harg2 arg3 harg3 arg4 harg4 arg5 harg5 arg6 harg6 arg7 harg7 slots n x1 y1 x2 (0#32 : BitVec 32) (1#32 : BitVec 32) k a.1 a.2.1 a.2.2.1 a.2.2.2.1 a.2.2.2.2.1
      = Prog.ret (⟨(Scf.iv 0#32 1#32 k), (winner n a.1), (at1 (stepNo k 0#32)), (sortStep n x1 y1 x2 y2 l (stepNo k 0#32) a).2.1, (sortStep n x1 y1 x2 y2 l (stepNo k 0#32) a).2.2.1, (sortStep n x1 y1 x2 y2 l (stepNo k 0#32) a).2.2.2.1, (sortStep n x1 y1 x2 y2 l (stepNo k 0#32) a).2.2.2.2.1, ((broadcast S8x400 ((Scalar.ofBits .f32 0x00000000#32) : F .f32)) : FVec F S8x400 .f32)⟩) := rfl

/-- Piece 2 of a trip of the selection rounds. -/
theorem k0_part2_eq (k : Fin k0_t2_loop.trips) (n : IVec S8x400 32) (x1 y1 x2 y2 l : FVec F S8x400 .f32) (a : Carry F) :
    k0_part2 (F := F) arg0 harg0 arg1 harg1 arg2 harg2 arg3 harg3 arg4 harg4 arg5 harg5 arg6 harg6 arg7 harg7 slots n x1 y2 l a.1 a.2.2.2.2.2.1 a.2.2.2.2.2.2 (Scf.iv 0#32 1#32 k) (winner n a.1) (at1 (stepNo k 0#32)) (sortStep n x1 y1 x2 y2 l (stepNo k 0#32) a).2.1 (sortStep n x1 y1 x2 y2 l (stepNo k 0#32) a).2.2.1 ((broadcast S8x400 ((Scalar.ofBits .f32 0x00000000#32) : F .f32)) : FVec F S8x400 .f32)
      = Prog.ret (⟨(sortStep n x1 y1 x2 y2 l (stepNo k 0#32) a).2.2.2.2.2.1, (sortStep n x1 y1 x2 y2 l (stepNo k 0#32) a).2.2.2.2.2.2, (sortStep n x1 y1 x2 y2 l (stepNo k 0#32) a).1, (winner n (sortStep n x1 y1 x2 y2 l (stepNo k 0#32) a).1), (at1 (stepNo k 1#32)), (sortStep n x1 y1 x2 y2 l (stepNo k 1#32) (sortStep n x1 y1 x2 y2 l (stepNo k 0#32) a)).2.1, (sortStep n x1 y1 x2 y2 l (stepNo k 1#32) (sortStep n x1 y1 x2 y2 l (stepNo k 0#32) a)).2.2.1, ((broadcast S8x400 ((Scalar.ofBits .f32 0x00000000#32) : F .f32)) : FVec F S8x400 .f32)⟩) := rfl

/-- Piece 3 of a trip of the selection rounds. -/
theorem k0_part3_eq (k : Fin k0_t2_loop.trips) (n : IVec S8x400 32) (x1 y1 x2 y2 l : FVec F S8x400 .f32) (a : Carry F) :
    k0_part3 (F := F) arg0 harg0 arg1 harg1 arg2 harg2 arg3 harg3 arg4 harg4 arg5 harg5 arg6 harg6 arg7 harg7 n y1 x2 y2 l (Scf.iv 0#32 1#32 k) (sortStep n x1 y1 x2 y2 l (stepNo k 0#32) a).2.2.2.1 (sortStep n x1 y1 x2 y2 l (stepNo k 0#32) a).2.2.2.2.1 (sortStep n x1 y1 x2 y2 l (stepNo k 0#32) a).2.2.2.2.2.1 (sortStep n x1 y1 x2 y2 l (stepNo k 0#32) a).2.2.2.2.2.2 (sortStep n x1 y1 x2 y2 l (stepNo k 0#32) a).1 (winner n (sortStep n x1 y1 x2 y2 l (stepNo k 0#32) a).1) (at1 (stepNo k 1#32)) ((broadcast S8x400 ((Scalar.ofBits .f32 0x00000000#32) : F .f32)) : FVec F S8x400 .f32)
      = Prog.ret (⟨(sortStep n x1 y1 x2 y2 l (stepNo k 1#32) (sortStep n x1 y1 x2 y2 l (stepNo k 0#32) a)).2.2.2.1, (sortStep n x1 y1 x2 y2 l (stepNo k 1#32) (sortStep n x1 y1 x2 y2 l (stepNo k 0#32) a)).2.2.2.2.1, (sortStep n x1 y1 x2 y2 l (stepNo k 1#32) (sortStep n x1 y1 x2 y2 l (stepNo k 0#32) a)).2.2.2.2.2.1, (sortStep n x1 y1 x2 y2 l (stepNo k 1#32) (sortStep n x1 y1 x2 y2 l (stepNo k 0#32) a)).2.2.2.2.2.2, (sortStep n x1 y1 x2 y2 l (stepNo k 1#32) (sortStep n x1 y1 x2 y2 l (stepNo k 0#32) a)).1, (stepNo k 2#32), (slotMax (sortStep n x1 y1 x2 y2 l (stepNo k 1#32) (sortStep n x1 y1 x2 y2 l (stepNo k 0#32) a)).1), ((shapeCast S8x1 ((multiReductionI .minsi [1] S8 ((select ((cmpf .oeq (sortStep n x1 y1 x2 y2 l (stepNo k 1#32) (sortStep n x1 y1 x2 y2 l (stepNo k 0#32) a)).1 ((broadcastTo S8x400 (slotMax (sortStep n x1 y1 x2 y2 l (stepNo k 1#32) (sortStep n x1 y1 x2 y2 l (stepNo k 0#32) a)).1) broadcasts_S8x1_S8x400) : FVec F S8x400 .f32)) : IVec S8x400 1) n ((broadcast S8x400 (5120#32 : BitVec 32)) : IVec S8x400 32)) : IVec S8x400 32) 2147483647#32 reduces_S8x400_S8 rfl) : IVec S8 32) shapeCasts_S8_S8x1) : IVec S8x1 32)⟩) := rfl

/-- Piece 4 of a trip of the selection rounds. -/
theorem k0_part4_eq (k : Fin k0_t2_loop.trips) (n : IVec S8x400 32) (x1 y1 x2 y2 l : FVec F S8x400 .f32) (a : Carry F) :
    k0_part4 (F := F) arg0 harg0 arg1 harg1 arg2 harg2 arg3 harg3 arg4 harg4 arg5 harg5 arg6 harg6 arg7 harg7 slots n x1 y1 x2 y2 l (sortStep n x1 y1 x2 y2 l (stepNo k 1#32) a).2.1 (sortStep n x1 y1 x2 y2 l (stepNo k 1#32) a).2.2.1 (sortStep n x1 y1 x2 y2 l (stepNo k 1#32) a).2.2.2.1 (sortStep n x1 y1 x2 y2 l (stepNo k 1#32) a).2.2.2.2.1 (sortStep n x1 y1 x2 y2 l (stepNo k 1#32) a).2.2.2.2.2.1 (stepNo k 2#32) (slotMax (sortStep n x1 y1 x2 y2 l (stepNo k 1#32) a).1) ((shapeCast S8x1 ((multiReductionI .minsi [1] S8 ((select ((cmpf .oeq (sortStep n x1 y1 x2 y2 l (stepNo k 1#32) a).1 ((broadcastTo S8x400 (slotMax (sortStep n x1 y1 x2 y2 l (stepNo k 1#32) a).1) broadcasts_S8x1_S8x400) : FVec F S8x400 .f32)) : IVec S8x400 1) n ((broadcast S8x400 (5120#32 : BitVec 32)) : IVec S8x400 32)) : IVec S8x400 32) 2147483647#32 reduces_S8x400_S8 rfl) : IVec S8 32) shapeCasts_S8_S8x1) : IVec S8x1 32)
      = Prog.ret (⟨(winner n (sortStep n x1 y1 x2 y2 l (stepNo k 1#32) a).1), (sortStep n x1 y1 x2 y2 l (stepNo k 2#32) (sortStep n x1 y1 x2 y2 l (stepNo k 1#32) a)).2.1, (sortStep n x1 y1 x2 y2 l (stepNo k 2#32) (sortStep n x1 y1 x2 y2 l (stepNo k 1#32) a)).2.2.1, (sortStep n x1 y1 x2 y2 l (stepNo k 2#32) (sortStep n x1 y1 x2 y2 l (stepNo k 1#32) a)).2.2.2.1, (sortStep n x1 y1 x2 y2 l (stepNo k 2#32) (sortStep n x1 y1 x2 y2 l (stepNo k 1#32) a)).2.2.2.2.1, (sortStep n x1 y1 x2 y2 l (stepNo k 2#32) (sortStep n x1 y1 x2 y2 l (stepNo k 1#32) a)).2.2.2.2.2.1, (taken (winner n (sortStep n x1 y1 x2 y2 l (stepNo k 1#32) a).1) l), ((shapeCast S1x400 (at1 (stepNo k 2#32)) shapeCasts_S1x400_S1x400) : IVec S1x400 1)⟩) := rfl

/-- Piece 5 of a trip of the selection rounds. -/
theorem k0_part5_eq (k : Fin k0_t2_loop.trips) (n : IVec S8x400 32) (x1 y1 x2 y2 l : FVec F S8x400 .f32) (a : Carry F) :
    k0_part5 (F := F) arg0 harg0 arg1 harg1 arg2 harg2 arg3 harg3 arg4 harg4 arg5 harg5 arg6 harg6 arg7 harg7 slots n x1 y1 x2 (Scf.iv 0#32 1#32 k) (sortStep n x1 y1 x2 y2 l (stepNo k 1#32) a).2.2.2.2.2.2 (sortStep n x1 y1 x2 y2 l (stepNo k 1#32) a).1 (winner n (sortStep n x1 y1 x2 y2 l (stepNo k 1#32) a).1) (sortStep n x1 y1 x2 y2 l (stepNo k 2#32) (sortStep n x1 y1 x2 y2 l (stepNo k 1#32) a)).2.1 (sortStep n x1 y1 x2 y2 l (stepNo k 2#32) (sortStep n x1 y1 x2 y2 l (stepNo k 1#32) a)).2.2.1 (sortStep n x1 y1 x2 y2 l (stepNo k 2#32) (sortStep n x1 y1 x2 y2 l (stepNo k 1#32) a)).2.2.2.1 (taken (winner n (sortStep n x1 y1 x2 y2 l (stepNo k 1#32) a).1) l) ((shapeCast S1x400 (at1 (stepNo k 2#32)) shapeCasts_S1x400_S1x400) : IVec S1x400 1)
      = Prog.ret (⟨(sortStep n x1 y1 x2 y2 l (stepNo k 2#32) (sortStep n x1 y1 x2 y2 l (stepNo k 1#32) a)).2.2.2.2.2.2, (sortStep n x1 y1 x2 y2 l (stepNo k 2#32) (sortStep n x1 y1 x2 y2 l (stepNo k 1#32) a)).1, (winner n (sortStep n x1 y1 x2 y2 l (stepNo k 2#32) (sortStep n x1 y1 x2 y2 l (stepNo k 1#32) a)).1), (at1 (stepNo k 3#32)), (sortStep n x1 y1 x2 y2 l (stepNo k 3#32) (sortStep n x1 y1 x2 y2 l (stepNo k 2#32) (sortStep n x1 y1 x2 y2 l (stepNo k 1#32) a))).2.1, (sortStep n x1 y1 x2 y2 l (stepNo k 3#32) (sortStep n x1 y1 x2 y2 l (stepNo k 2#32) (sortStep n x1 y1 x2 y2 l (stepNo k 1#32) a))).2.2.1, (sortStep n x1 y1 x2 y2 l (stepNo k 3#32) (sortStep n x1 y1 x2 y2 l (stepNo k 2#32) (sortStep n x1 y1 x2 y2 l (stepNo k 1#32) a))).2.2.2.1, (taken (winner n (sortStep n x1 y1 x2 y2 l (stepNo k 2#32) (sortStep n x1 y1 x2 y2 l (stepNo k 1#32) a)).1) x2), ((shapeCast S1x400 (at1 (stepNo k 3#32)) shapeCasts_S1x400_S1x400) : IVec S1x400 1)⟩) := rfl

/-- Piece 6 of a trip of the selection rounds. -/
theorem k0_part6_eq (k : Fin k0_t2_loop.trips) (n : IVec S8x400 32) (x1 y1 x2 y2 l : FVec F S8x400 .f32) (a : Carry F) :
    k0_part6 (F := F) arg0 harg0 arg1 harg1 arg2 harg2 arg3 harg3 arg4 harg4 arg5 harg5 arg6 harg6 arg7 harg7 slots n x1 y2 l (Scf.iv 0#32 1#32 k) (sortStep n x1 y1 x2 y2 l (stepNo k 2#32) a).2.2.2.2.1 (sortStep n x1 y1 x2 y2 l (stepNo k 2#32) a).2.2.2.2.2.1 (sortStep n x1 y1 x2 y2 l (stepNo k 2#32) a).2.2.2.2.2.2 (sortStep n x1 y1 x2 y2 l (stepNo k 2#32) a).1 (winner n (sortStep n x1 y1 x2 y2 l (stepNo k 2#32) a).1) (at1 (stepNo k 3#32)) (sortStep n x1 y1 x2 y2 l (stepNo k 3#32) (sortStep n x1 y1 x2 y2 l (stepNo k 2#32) a)).2.1 (taken (winner n (sortStep n x1 y1 x2 y2 l (stepNo k 2#32) a).1) x2) ((shapeCast S1x400 (at1 (stepNo k 3#32)) shapeCasts_S1x400_S1x400) : IVec S1x400 1)
      = Prog.ret (⟨(sortStep n x1 y1 x2 y2 l (stepNo k 3#32) (sortStep n x1 y1 x2 y2 l (stepNo k 2#32) a)).2.2.2.2.1, (sortStep n x1 y1 x2 y2 l (stepNo k 3#32) (sortStep n x1 y1 x2 y2 l (stepNo k 2#32) a)).2.2.2.2.2.1, (sortStep n x1 y1 x2 y2 l (stepNo k 3#32) (sortStep n x1 y1 x2 y2 l (stepNo k 2#32) a)).2.2.2.2.2.2, (sortStep n x1 y1 x2 y2 l (stepNo k 3#32) (sortStep n x1 y1 x2 y2 l (stepNo k 2#32) a)).1, (winner n (sortStep n x1 y1 x2 y2 l (stepNo k 3#32) (sortStep n x1 y1 x2 y2 l (stepNo k 2#32) a)).1), (at1 (stepNo k 4#32)), (sortStep n x1 y1 x2 y2 l (stepNo k 4#32) (sortStep n x1 y1 x2 y2 l (stepNo k 3#32) (sortStep n x1 y1 x2 y2 l (stepNo k 2#32) a))).2.1, (taken (winner n (sortStep n x1 y1 x2 y2 l (stepNo k 3#32) (sortStep n x1 y1 x2 y2 l (stepNo k 2#32) a)).1) x1), ((shapeCast S1x400 (at1 (stepNo k 4#32)) shapeCasts_S1x400_S1x400) : IVec S1x400 1)⟩) := rfl

/-- Piece 7 of a trip of the selection rounds. -/
theorem k0_part7_eq (k : Fin k0_t2_loop.trips) (n : IVec S8x400 32) (x1 y1 x2 y2 l : FVec F S8x400 .f32) (a : Carry F) :
    k0_part7 (F := F) arg0 harg0 arg1 harg1 arg2 harg2 arg3 harg3 arg4 harg4 arg5 harg5 arg6 harg6 arg7 harg7 y1 x2 y2 l (Scf.iv 0#32 1#32 k) (sortStep n x1 y1 x2 y2 l (stepNo k 3#32) a).2.2.1 (sortStep n x1 y1 x2 y2 l (stepNo k 3#32) a).2.2.2.1 (sortStep n x1 y1 x2 y2 l (stepNo k 3#32) a).2.2.2.2.1 (sortStep n x1 y1 x2 y2 l (stepNo k 3#32) a).2.2.2.2.2.1 (sortStep n x1 y1 x2 y2 l (stepNo k 3#32) a).2.2.2.2.2.2 (sortStep n x1 y1 x2 y2 l (stepNo k 3#32) a).1 (winner n (sortStep n x1 y1 x2 y2 l (stepNo k 3#32) a).1) (at1 (stepNo k 4#32)) (taken (winner n (sortStep n x1 y1 x2 y2 l (stepNo k 3#32) a).1) x1) ((shapeCast S1x400 (at1 (stepNo k 4#32)) shapeCasts_S1x400_S1x400) : IVec S1x400 1)
      = Prog.ret (⟨(sortStep n x1 y1 x2 y2 l (stepNo k 4#32) (sortStep n x1 y1 x2 y2 l (stepNo k 3#32) a)).2.2.1, (sortStep n x1 y1 x2 y2 l (stepNo k 4#32) (sortStep n x1 y1 x2 y2 l (stepNo k 3#32) a)).2.2.2.1, (sortStep n x1 y1 x2 y2 l (stepNo k 4#32) (sortStep n x1 y1 x2 y2 l (stepNo k 3#32) a)).2.2.2.2.1, (sortStep n x1 y1 x2 y2 l (stepNo k 4#32) (sortStep n x1 y1 x2 y2 l (stepNo k 3#32) a)).2.2.2.2.2.1, (sortStep n x1 y1 x2 y2 l (stepNo k 4#32) (sortStep n x1 y1 x2 y2 l (stepNo k 3#32) a)).2.2.2.2.2.2, (sortStep n x1 y1 x2 y2 l (stepNo k 4#32) (sortStep n x1 y1 x2 y2 l (stepNo k 3#32) a)).1, (stepNo k 5#32), (slotMax (sortStep n x1 y1 x2 y2 l (stepNo k 4#32) (sortStep n x1 y1 x2 y2 l (stepNo k 3#32) a)).1), ((cmpf .oeq (sortStep n x1 y1 x2 y2 l (stepNo k 4#32) (sortStep n x1 y1 x2 y2 l (stepNo k 3#32) a)).1 ((broadcastTo S8x400 (slotMax (sortStep n x1 y1 x2 y2 l (stepNo k 4#32) (sortStep n x1 y1 x2 y2 l (stepNo k 3#32) a)).1) broadcasts_S8x1_S8x400) : FVec F S8x400 .f32)) : IVec S8x400 1)⟩) := rfl

/-- Piece 8 of a trip of the selection rounds. -/
theorem k0_part8_eq (k : Fin k0_t2_loop.trips) (n : IVec S8x400 32) (x1 y1 x2 y2 l : FVec F S8x400 .f32) (a : Carry F) :
    k0_part8 (F := F) arg0 harg0 arg1 harg1 arg2 harg2 arg3 harg3 arg4 harg4 arg5 harg5 arg6 harg6 arg7 harg7 slots n x1 y1 x2 y2 (sortStep n x1 y1 x2 y2 l (stepNo k 4#32) a).2.1 (sortStep n x1 y1 x2 y2 l (stepNo k 4#32) a).2.2.1 (sortStep n x1 y1 x2 y2 l (stepNo k 4#32) a).2.2.2.1 (sortStep n x1 y1 x2 y2 l (stepNo k 4#32) a).2.2.2.2.1 (sortStep n x1 y1 x2 y2 l (stepNo k 4#32) a).2.2.2.2.2.1 (stepNo k 5#32) (slotMax (sortStep n x1 y1 x2 y2 l (stepNo k 4#32) a).1) ((cmpf .oeq (sortStep n x1 y1 x2 y2 l (stepNo k 4#32) a).1 ((broadcastTo S8x400 (slotMax (sortStep n x1 y1 x2 y2 l (stepNo k 4#32) a).1) broadcasts_S8x1_S8x400) : FVec F S8x400 .f32)) : IVec S8x400 1)
      = Prog.ret (⟨(winner n (sortStep n x1 y1 x2 y2 l (stepNo k 4#32) a).1), (at1 (stepNo k 5#32)), (sortStep n x1 y1 x2 y2 l (stepNo k 5#32) (sortStep n x1 y1 x2 y2 l (stepNo k 4#32) a)).2.1, (sortStep n x1 y1 x2 y2 l (stepNo k 5#32) (sortStep n x1 y1 x2 y2 l (stepNo k 4#32) a)).2.2.1, (sortStep n x1 y1 x2 y2 l (stepNo k 5#32) (sortStep n x1 y1 x2 y2 l (stepNo k 4#32) a)).2.2.2.1, (sortStep n x1 y1 x2 y2 l (stepNo k 5#32) (sortStep n x1 y1 x2 y2 l (stepNo k 4#32) a)).2.2.2.2.1, (sortStep n x1 y1 x2 y2 l (stepNo k 5#32) (sortStep n x1 y1 x2 y2 l (stepNo k 4#32) a)).2.2.2.2.2.1, ((Scalar.ofBits .f32 0x00000000#32) : F .f32)⟩) := rfl

/-- Piece 9 of a trip of the selection rounds. -/
theorem k0_part9_eq (k : Fin k0_t2_loop.trips) (n : IVec S8x400 32) (x1 y1 x2 y2 l : FVec F S8x400 .f32) (a : Carry F) :
    k0_part9 (F := F) arg0 harg0 arg1 harg1 arg2 harg2 arg3 harg3 arg4 harg4 arg5 harg5 arg6 harg6 arg7 harg7 slots n x1 y1 l (Scf.iv 0#32 1#32 k) (sortStep n x1 y1 x2 y2 l (stepNo k 4#32) a).2.2.2.2.2.2 (sortStep n x1 y1 x2 y2 l (stepNo k 4#32) a).1 (winner n (sortStep n x1 y1 x2 y2 l (stepNo k 4#32) a).1) (at1 (stepNo k 5#32)) (sortStep n x1 y1 x2 y2 l (stepNo k 5#32) (sortStep n x1 y1 x2 y2 l (stepNo k 4#32) a)).2.1 (sortStep n x1 y1 x2 y2 l (stepNo k 5#32) (sortStep n x1 y1 x2 y2 l (stepNo k 4#32) a)).2.2.1 (sortStep n x1 y1 x2 y2 l (stepNo k 5#32) (sortStep n x1 y1 x2 y2 l (stepNo k 4#32) a)).2.2.2.1 ((Scalar.ofBits .f32 0x00000000#32) : F .f32)
      = Prog.ret (⟨(sortStep n x1 y1 x2 y2 l (stepNo k 5#32) (sortStep n x1 y1 x2 y2 l (stepNo k 4#32) a)).2.2.2.2.2.2, (sortStep n x1 y1 x2 y2 l (stepNo k 5#32) (sortStep n x1 y1 x2 y2 l (stepNo k 4#32) a)).1, (winner n (sortStep n x1 y1 x2 y2 l (stepNo k 5#32) (sortStep n x1 y1 x2 y2 l (stepNo k 4#32) a)).1), (at1 (stepNo k 6#32)), (sortStep n x1 y1 x2 y2 l (stepNo k 6#32) (sortStep n x1 y1 x2 y2 l (stepNo k 5#32) (sortStep n x1 y1 x2 y2 l (stepNo k 4#32) a))).2.1, (sortStep n x1 y1 x2 y2 l (stepNo k 6#32) (sortStep n x1 y1 x2 y2 l (stepNo k 5#32) (sortStep n x1 y1 x2 y2 l (stepNo k 4#32) a))).2.2.1, (sortStep n x1 y1 x2 y2 l (stepNo k 6#32) (sortStep n x1 y1 x2 y2 l (stepNo k 5#32) (sortStep n x1 y1 x2 y2 l (stepNo k 4#32) a))).2.2.2.1, ((Scalar.ofBits .f32 0x00000000#32) : F .f32)⟩) := rfl

/-- Piece 10 of a trip of the selection rounds. -/
theorem k0_part10_eq (k : Fin k0_t2_loop.trips) (n : IVec S8x400 32) (x1 y1 x2 y2 l : FVec F S8x400 .f32) (a : Carry F) :
    k0_part10 (F := F) arg0 harg0 arg1 harg1 arg2 harg2 arg3 harg3 arg4 harg4 arg5 harg5 arg6 harg6 arg7 harg7 slots n x2 y2 l (Scf.iv 0#32 1#32 k) (sortStep n x1 y1 x2 y2 l (stepNo k 5#32) a).2.2.2.2.1 (sortStep n x1 y1 x2 y2 l (stepNo k 5#32) a).2.2.2.2.2.1 (sortStep n x1 y1 x2 y2 l (stepNo k 5#32) a).2.2.2.2.2.2 (sortStep n x1 y1 x2 y2 l (stepNo k 5#32) a).1 (winner n (sortStep n x1 y1 x2 y2 l (stepNo k 5#32) a).1) (at1 (stepNo k 6#32)) (sortStep n x1 y1 x2 y2 l (stepNo k 6#32) (sortStep n x1 y1 x2 y2 l (stepNo k 5#32) a)).2.1 ((Scalar.ofBits .f32 0x00000000#32) : F .f32)
      = Prog.ret (⟨(sortStep n x1 y1 x2 y2 l (stepNo k 6#32) (sortStep n x1 y1 x2 y2 l (stepNo k 5#32) a)).2.2.2.2.1, (sortStep n x1 y1 x2 y2 l (stepNo k 6#32) (sortStep n x1 y1 x2 y2 l (stepNo k 5#32) a)).2.2.2.2.2.1, (sortStep n x1 y1 x2 y2 l (stepNo k 6#32) (sortStep n x1 y1 x2 y2 l (stepNo k 5#32) a)).2.2.2.2.2.2, (sortStep n x1 y1 x2 y2 l (stepNo k 6#32) (sortStep n x1 y1 x2 y2 l (stepNo k 5#32) a)).1, (winner n (sortStep n x1 y1 x2 y2 l (stepNo k 6#32) (sortStep n x1 y1 x2 y2 l (stepNo k 5#32) a)).1), (at1 (stepNo k 7#32)), (sortStep n x1 y1 x2 y2 l (stepNo k 7#32) (sortStep n x1 y1 x2 y2 l (stepNo k 6#32) (sortStep n x1 y1 x2 y2 l (stepNo k 5#32) a))).2.1, ((Scalar.ofBits .f32 0x00000000#32) : F .f32)⟩) := rfl

end Cert.Kernel.Gen
-- ==== Proof.KernelSuppress.lean ====
/- The pieces of a trip of the suppression rounds are the pieces of eight of its steps. -/
module

public import proofs.«01_k».proof.Proof.Gen.Kernel.Skeleton
public import proofs.«01_k».proof.Proof.Stages

@[expose] public section

noncomputable section

namespace Cert.Kernel.Gen

open Idealize.ShloMosaic Idealize.SL.Sem Cert.Detect
open Cert.Kernel.Facts₀ Cert.Kernel.Facts

variable {F : FTy → Type} [FloatOps F]

set_option maxRecDepth 8192
set_option maxHeartbeats 800000

variable (arg0 : Memref sig .tc .vmem S25x8x5120 .f32) (harg0 : arg0.IsWhole) (arg1 : Memref sig .tc .vmem S4x5120 .f32) (harg1 : arg1.IsWhole)
  (arg2 : Memref sig .tc .vmem S8x200 .f32) (harg2 : arg2.IsWhole) (arg3 : Memref sig .tc .vmem S8x200 .f32) (harg3 : arg3.IsWhole) (arg4 : Memref sig .tc .vmem S8x200 .f32) (harg4 : arg4.IsWhole) (arg5 : Memref sig .tc .vmem S8x200 .f32) (harg5 : arg5.IsWhole) (arg6 : Memref sig .tc .vmem S8x200 .f32) (harg6 : arg6.IsWhole) (arg7 : Memref sig .tc .vmem S8x200 .f32) (harg7 : arg7.IsWhole)

/-- Piece 1 of a trip of the suppression rounds. -/
theorem k0_part12_eq (k : Fin k0_t3_loop.trips) (x1 y1 x2 y2 w ar : FVec F S8x400 .f32) (a : FVec F S8x400 .f32) :
    k0_part12 (F := F) arg0 harg0 arg1 harg1 arg2 harg2 arg3 harg3 arg4 harg4 arg5 harg5 arg6 harg6 arg7 harg7 slots x1 y1 x2 y2 w ar (0#32 : BitVec 32) (1#32 : BitVec 32) k a
      = Prog.ret (⟨(Scf.iv 0#32 1#32 k), (stepNo k 0#32), (taken (atSlot (stepNo k 0#32)) x1), (taken (atSlot (stepNo k 0#32)) y1), (taken (atSlot (stepNo k 0#32)) x2), (taken (atSlot (stepNo k 0#32)) y2), (taken (atSlot (stepNo k 0#32)) ar), (taken (atSlot (stepNo k 0#32)) a), ((select (atSlot (stepNo k 0#32)) w ((broadcast S8x400 ((Scalar.ofBits .f32 0x00000000#32) : F .f32)) : FVec F S8x400 .f32)) : FVec F S8x400 .f32)⟩) := rfl

/-- Piece 2 of a trip of the suppression rounds. -/
theorem k0_part13_eq (k : Fin k0_t3_loop.trips) (x1 y1 x2 y2 w ar : FVec F S8x400 .f32) (a : FVec F S8x400 .f32) :
    k0_part13 (F := F) arg0 harg0 arg1 harg1 arg2 harg2 arg3 harg3 arg4 harg4 arg5 harg5 arg6 harg6 arg7 harg7 slots x1 y1 x2 y2 ar a (Scf.iv 0#32 1#32 k) (stepNo k 0#32) (taken (atSlot (stepNo k 0#32)) x1) (taken (atSlot (stepNo k 0#32)) y1) (taken (atSlot (stepNo k 0#32)) x2) (taken (atSlot (stepNo k 0#32)) y2) (taken (atSlot (stepNo k 0#32)) ar) (taken (atSlot (stepNo k 0#32)) a) ((select (atSlot (stepNo k 0#32)) w ((broadcast S8x400 ((Scalar.ofBits .f32 0x00000000#32) : F .f32)) : FVec F S8x400 .f32)) : FVec F S8x400 .f32)
      = Prog.ret (⟨(nmsStep x1 y1 x2 y2 w ar (stepNo k 0#32) a), (stepNo k 1#32), (at1 (stepNo k 1#32)), ((Scalar.ofBits .f32 0x00000000#32) : F .f32)⟩) := rfl

/-- Piece 3 of a trip of the suppression rounds. -/
theorem k0_part14_eq (k : Fin k0_t3_loop.trips) (x1 y1 x2 y2 w ar : FVec F S8x400 .f32) (a : FVec F S8x400 .f32) :
    k0_part14 (F := F) arg0 harg0 arg1 harg1 arg2 harg2 arg3 harg3 arg4 harg4 arg5 harg5 arg6 harg6 arg7 harg7 x1 y1 x2 y2 w ar a (at1 (stepNo k 1#32)) ((Scalar.ofBits .f32 0x00000000#32) : F .f32)
      = Prog.ret (⟨(taken (atSlot (stepNo k 1#32)) x2), (taken (atSlot (stepNo k 1#32)) y2), (taken (atSlot (stepNo k 1#32)) ar), (keptAt w a (stepNo k 1#32)), ((maximumf ((broadcastTo S8x400 (taken (atSlot (stepNo k 1#32)) x1) broadcasts_S8x1_S8x400) : FVec F S8x400 .f32) x1) : FVec F S8x400 .f32), ((maximumf ((broadcastTo S8x400 (taken (atSlot (stepNo k 1#32)) y1) broadcasts_S8x1_S8x400) : FVec F S8x400 .f32) y1) : FVec F S8x400 .f32)⟩) := rfl

/-- Piece 4 of a trip of the suppression rounds. -/
theorem k0_part15_eq (k : Fin k0_t3_loop.trips) (x1 y1 x2 y2 w ar : FVec F S8x400 .f32) (a : FVec F S8x400 .f32) :
    k0_part15 (F := F) arg0 harg0 arg1 harg1 arg2 harg2 arg3 harg3 arg4 harg4 arg5 harg5 arg6 harg6 arg7 harg7 slots x1 x2 y2 ar (Scf.iv 0#32 1#32 k) a (stepNo k 1#32) (taken (atSlot (stepNo k 1#32)) x2) (taken (atSlot (stepNo k 1#32)) y2) (taken (atSlot (stepNo k 1#32)) ar) (keptAt w a (stepNo k 1#32)) ((maximumf ((broadcastTo S8x400 (taken (atSlot (stepNo k 1#32)) x1) broadcasts_S8x1_S8x400) : FVec F S8x400 .f32) x1) : FVec F S8x400 .f32) ((maximumf ((broadcastTo S8x400 (taken (atSlot (stepNo k 1#32)) y1) broadcasts_S8x1_S8x400) : FVec F S8x400 .f32) y1) : FVec F S8x400 .f32)
      = Prog.ret (⟨(nmsStep x1 y1 x2 y2 w ar (stepNo k 1#32) a), (stepNo k 2#32), (at1 (stepNo k 2#32)), (taken (atSlot (stepNo k 2#32)) x1), ((Scalar.ofBits .f32 0x00000000#32) : F .f32)⟩) := rfl

/-- Piece 5 of a trip of the suppression rounds. -/
theorem k0_part16_eq (k : Fin k0_t3_loop.trips) (x1 y1 x2 y2 w ar : FVec F S8x400 .f32) (a : FVec F S8x400 .f32) :
    k0_part16 (F := F) arg0 harg0 arg1 harg1 arg2 harg2 arg3 harg3 arg4 harg4 arg5 harg5 arg6 harg6 arg7 harg7 x1 y1 x2 y2 w ar a (at1 (stepNo k 2#32)) (taken (atSlot (stepNo k 2#32)) x1) ((Scalar.ofBits .f32 0x00000000#32) : F .f32)
      = Prog.ret (⟨(taken (atSlot (stepNo k 2#32)) ar), (keptAt w a (stepNo k 2#32)), ((maximumf ((broadcastTo S8x400 (taken (atSlot (stepNo k 2#32)) y1) broadcasts_S8x1_S8x400) : FVec F S8x400 .f32) y1) : FVec F S8x400 .f32), ((minimumf ((broadcastTo S8x400 (taken (atSlot (stepNo k 2#32)) y2) broadcasts_S8x1_S8x400) : FVec F S8x400 .f32) y2) : FVec F S8x400 .f32), ((maximumf ((broadcast S8x400 ((Scalar.ofBits .f32 0x00000000#32) : F .f32)) : FVec F S8x400 .f32) ((subf ((minimumf ((broadcastTo S8x400 (taken (atSlot (stepNo k 2#32)) x2) broadcasts_S8x1_S8x400) : FVec F S8x400 .f32) x2) : FVec F S8x400 .f32) ((maximumf ((broadcastTo S8x400 (taken (atSlot (stepNo k 2#32)) x1) broadcasts_S8x1_S8x400) : FVec F S8x400 .f32) x1) : FVec F S8x400 .f32)) : FVec F S8x400 .f32)) : FVec F S8x400 .f32)⟩) := rfl

/-- Piece 6 of a trip of the suppression rounds. -/
theorem k0_part17_eq (k : Fin k0_t3_loop.trips) (x1 y1 x2 y2 w ar : FVec F S8x400 .f32) (a : FVec F S8x400 .f32) :
    k0_part17 (F := F) arg0 harg0 arg1 harg1 arg2 harg2 arg3 harg3 arg4 harg4 arg5 harg5 arg6 harg6 arg7 harg7 slots x1 y1 ar (Scf.iv 0#32 1#32 k) a (stepNo k 2#32) (taken (atSlot (stepNo k 2#32)) ar) (keptAt w a (stepNo k 2#32)) ((maximumf ((broadcastTo S8x400 (taken (atSlot (stepNo k 2#32)) y1) broadcasts_S8x1_S8x400) : FVec F S8x400 .f32) y1) : FVec F S8x400 .f32) ((minimumf ((broadcastTo S8x400 (taken (atSlot (stepNo k 2#32)) y2) broadcasts_S8x1_S8x400) : FVec F S8x400 .f32) y2) : FVec F S8x400 .f32) ((maximumf ((broadcast S8x400 ((Scalar.ofBits .f32 0x00000000#32) : F .f32)) : FVec F S8x400 .f32) ((subf ((minimumf ((broadcastTo S8x400 (taken (atSlot (stepNo k 2#32)) x2) broadcasts_S8x1_S8x400) : FVec F S8x400 .f32) x2) : FVec F S8x400 .f32) ((maximumf ((broadcastTo S8x400 (taken (atSlot (stepNo k 2#32)) x1) broadcasts_S8x1_S8x400) : FVec F S8x400 .f32) x1) : FVec F S8x400 .f32)) : FVec F S8x400 .f32)) : FVec F S8x400 .f32)
      = Prog.ret (⟨(nmsStep x1 y1 x2 y2 w ar (stepNo k 2#32) a), (stepNo k 3#32), (at1 (stepNo k 3#32)), (taken (atSlot (stepNo k 3#32)) x1), (taken (atSlot (stepNo k 3#32)) y1), ((Scalar.ofBits .f32 0x00000000#32) : F .f32)⟩) := rfl

/-- Piece 7 of a trip of the suppression rounds. -/
theorem k0_part18_eq (k : Fin k0_t3_loop.trips) (x1 y1 x2 y2 w ar : FVec F S8x400 .f32) (a : FVec F S8x400 .f32) :
    k0_part18 (F := F) arg0 harg0 arg1 harg1 arg2 harg2 arg3 harg3 arg4 harg4 arg5 harg5 arg6 harg6 arg7 harg7 x1 y1 x2 y2 w ar a (at1 (stepNo k 3#32)) (taken (atSlot (stepNo k 3#32)) x1) (taken (atSlot (stepNo k 3#32)) y1) ((Scalar.ofBits .f32 0x00000000#32) : F .f32)
      = Prog.ret (⟨(keptAt w a (stepNo k 3#32)), (inter x1 y1 x2 y2 (taken (atSlot (stepNo k 3#32)) x1) (taken (atSlot (stepNo k 3#32)) y1) (taken (atSlot (stepNo k 3#32)) x2) (taken (atSlot (stepNo k 3#32)) y2)), ((subf ((addf ((broadcastTo S8x400 (taken (atSlot (stepNo k 3#32)) ar) broadcasts_S8x1_S8x400) : FVec F S8x400 .f32) ar) : FVec F S8x400 .f32) (inter x1 y1 x2 y2 (taken (atSlot (stepNo k 3#32)) x1) (taken (atSlot (stepNo k 3#32)) y1) (taken (atSlot (stepNo k 3#32)) x2) (taken (atSlot (stepNo k 3#32)) y2))) : FVec F S8x400 .f32)⟩) := rfl

/-- Piece 8 of a trip of the suppression rounds. -/
theorem k0_part19_eq (k : Fin k0_t3_loop.trips) (x1 y1 x2 y2 w ar : FVec F S8x400 .f32) (a : FVec F S8x400 .f32) :
    k0_part19 (F := F) arg0 harg0 arg1 harg1 arg2 harg2 arg3 harg3 arg4 harg4 arg5 harg5 arg6 harg6 arg7 harg7 slots x1 y1 x2 (Scf.iv 0#32 1#32 k) a (stepNo k 3#32) (keptAt w a (stepNo k 3#32)) (inter x1 y1 x2 y2 (taken (atSlot (stepNo k 3#32)) x1) (taken (atSlot (stepNo k 3#32)) y1) (taken (atSlot (stepNo k 3#32)) x2) (taken (atSlot (stepNo k 3#32)) y2)) ((subf ((addf ((broadcastTo S8x400 (taken (atSlot (stepNo k 3#32)) ar) broadcasts_S8x1_S8x400) : FVec F S8x400 .f32) ar) : FVec F S8x400 .f32) (inter x1 y1 x2 y2 (taken (atSlot (stepNo k 3#32)) x1) (taken (atSlot (stepNo k 3#32)) y1) (taken (atSlot (stepNo k 3#32)) x2) (taken (atSlot (stepNo k 3#32)) y2))) : FVec F S8x400 .f32)
      = Prog.ret (⟨(nmsStep x1 y1 x2 y2 w ar (stepNo k 3#32) a), (stepNo k 4#32), (at1 (stepNo k 4#32)), (taken (atSlot (stepNo k 4#32)) x1), (taken (atSlot (stepNo k 4#32)) y1), (taken (atSlot (stepNo k 4#32)) x2), ((Scalar.ofBits .f32 0x00000000#32) : F .f32)⟩) := rfl

/-- Piece 9 of a trip of the suppression rounds. -/
theorem k0_part20_eq (k : Fin k0_t3_loop.trips) (x1 y1 x2 y2 w ar : FVec F S8x400 .f32) (a : FVec F S8x400 .f32) :
    k0_part20 (F := F) arg0 harg0 arg1 harg1 arg2 harg2 arg3 harg3 arg4 harg4 arg5 harg5 arg6 harg6 arg7 harg7 x1 y1 x2 y2 w ar a (stepNo k 4#32) (at1 (stepNo k 4#32)) (taken (atSlot (stepNo k 4#32)) x1) (taken (atSlot (stepNo k 4#32)) y1) (taken (atSlot (stepNo k 4#32)) x2) ((Scalar.ofBits .f32 0x00000000#32) : F .f32)
      = Prog.ret (⟨(keptAt w a (stepNo k 4#32)), ((cmpf .ogt (share x1 y1 x2 y2 ar (taken (atSlot (stepNo k 4#32)) x1) (taken (atSlot (stepNo k 4#32)) y1) (taken (atSlot (stepNo k 4#32)) x2) (taken (atSlot (stepNo k 4#32)) y2) (taken (atSlot (stepNo k 4#32)) ar)) ((broadcast S8x400 ((Scalar.ofBits .f32 0x3F000000#32) : F .f32)) : FVec F S8x400 .f32)) : IVec S8x400 1), ((broadcast S1x400 (stepNo k 4#32)) : IVec S1x400 32)⟩) := rfl

/-- Piece 10 of a trip of the suppression rounds. -/
theorem k0_part21_eq (k : Fin k0_t3_loop.trips) (x1 y1 x2 y2 w ar : FVec F S8x400 .f32) (a : FVec F S8x400 .f32) :
    k0_part21 (F := F) arg0 harg0 arg1 harg1 arg2 harg2 arg3 harg3 arg4 harg4 arg5 harg5 arg6 harg6 arg7 harg7 slots x1 y1 x2 y2 (Scf.iv 0#32 1#32 k) a (stepNo k 4#32) (keptAt w a (stepNo k 4#32)) ((cmpf .ogt (share x1 y1 x2 y2 ar (taken (atSlot (stepNo k 4#32)) x1) (taken (atSlot (stepNo k 4#32)) y1) (taken (atSlot (stepNo k 4#32)) x2) (taken (atSlot (stepNo k 4#32)) y2) (taken (atSlot (stepNo k 4#32)) ar)) ((broadcast S8x400 ((Scalar.ofBits .f32 0x3F000000#32) : F .f32)) : FVec F S8x400 .f32)) : IVec S8x400 1) ((broadcast S1x400 (stepNo k 4#32)) : IVec S1x400 32)
      = Prog.ret (⟨(nmsStep x1 y1 x2 y2 w ar (stepNo k 4#32) a), (stepNo k 5#32), (at1 (stepNo k 5#32)), (taken (atSlot (stepNo k 5#32)) x1), (taken (atSlot (stepNo k 5#32)) y1), (taken (atSlot (stepNo k 5#32)) x2), (taken (atSlot (stepNo k 5#32)) y2), ((Scalar.ofBits .f32 0x00000000#32) : F .f32)⟩) := rfl

/-- Piece 11 of a trip of the suppression rounds. -/
theorem k0_part22_eq (k : Fin k0_t3_loop.trips) (x1 y1 x2 y2 w ar : FVec F S8x400 .f32) (a : FVec F S8x400 .f32) :
    k0_part22 (F := F) arg0 harg0 arg1 harg1 arg2 harg2 arg3 harg3 arg4 harg4 arg5 harg5 arg6 harg6 arg7 harg7 slots x1 y1 x2 y2 w ar a (stepNo k 5#32) (at1 (stepNo k 5#32)) (taken (atSlot (stepNo k 5#32)) x1) (taken (atSlot (stepNo k 5#32)) y1) (taken (atSlot (stepNo k 5#32)) x2) (taken (atSlot (stepNo k 5#32)) y2) ((Scalar.ofBits .f32 0x00000000#32) : F .f32)
      = Prog.ret (⟨(keptAt w a (stepNo k 5#32)), (hits x1 y1 x2 y2 w ar a (stepNo k 5#32))⟩) := rfl

/-- Piece 12 of a trip of the suppression rounds. -/
theorem k0_part23_eq (k : Fin k0_t3_loop.trips) (x1 y1 x2 y2 w ar : FVec F S8x400 .f32) (a : FVec F S8x400 .f32) :
    k0_part23 (F := F) arg0 harg0 arg1 harg1 arg2 harg2 arg3 harg3 arg4 harg4 arg5 harg5 arg6 harg6 arg7 harg7 slots x1 y1 x2 y2 ar (Scf.iv 0#32 1#32 k) a (stepNo k 5#32) (keptAt w a (stepNo k 5#32)) (hits x1 y1 x2 y2 w ar a (stepNo k 5#32))
      = Prog.ret (⟨(nmsStep x1 y1 x2 y2 w ar (stepNo k 5#32) a), (stepNo k 6#32), (at1 (stepNo k 6#32)), (taken (atSlot (stepNo k 6#32)) x1), (taken (atSlot (stepNo k 6#32)) y1), (taken (atSlot (stepNo k 6#32)) x2), (taken (atSlot (stepNo k 6#32)) y2), (taken (atSlot (stepNo k 6#32)) ar), ((Scalar.ofBits .f32 0x00000000#32) : F .f32)⟩) := rfl

/-- Piece 13 of a trip of the suppression rounds. -/
theorem k0_part24_eq (k : Fin k0_t3_loop.trips) (x1 y1 x2 y2 w ar : FVec F S8x400 .f32) (a : FVec F S8x400 .f32) :
    k0_part24 (F := F) arg0 harg0 arg1 harg1 arg2 harg2 arg3 harg3 arg4 harg4 arg5 harg5 arg6 harg6 arg7 harg7 slots x1 y1 x2 y2 w ar a (stepNo k 6#32) (at1 (stepNo k 6#32)) (taken (atSlot (stepNo k 6#32)) x1) (taken (atSlot (stepNo k 6#32)) y1) (taken (atSlot (stepNo k 6#32)) x2) (taken (atSlot (stepNo k 6#32)) y2) (taken (atSlot (stepNo k 6#32)) ar) ((Scalar.ofBits .f32 0x00000000#32) : F .f32)
      = Prog.ret (⟨(keptAt w a (stepNo k 6#32)), ((mulf a ((subf ((broadcast S8x400 ((Scalar.ofBits .f32 0x3F800000#32) : F .f32)) : FVec F S8x400 .f32) ((sitofp .f32 ((extui 32 (hits x1 y1 x2 y2 w ar a (stepNo k 6#32)) natLt_1_32) : IVec S8x400 32)) : FVec F S8x400 .f32)) : FVec F S8x400 .f32)) : FVec F S8x400 .f32), (at1 (stepNo k 6#32))⟩) := rfl

/-- Piece 14 of a trip of the suppression rounds. -/
theorem k0_part25_eq (k : Fin k0_t3_loop.trips) (x1 y1 x2 y2 w ar : FVec F S8x400 .f32) (a : FVec F S8x400 .f32) :
    k0_part25 (F := F) arg0 harg0 arg1 harg1 arg2 harg2 arg3 harg3 arg4 harg4 arg5 harg5 arg6 harg6 arg7 harg7 slots x1 y1 x2 y2 ar (Scf.iv 0#32 1#32 k) (keptAt w a (stepNo k 6#32)) ((mulf a ((subf ((broadcast S8x400 ((Scalar.ofBits .f32 0x3F800000#32) : F .f32)) : FVec F S8x400 .f32) ((sitofp .f32 ((extui 32 (hits x1 y1 x2 y2 w ar a (stepNo k 6#32)) natLt_1_32) : IVec S8x400 32)) : FVec F S8x400 .f32)) : FVec F S8x400 .f32)) : FVec F S8x400 .f32) (at1 (stepNo k 6#32))
      = Prog.ret (⟨(nmsStep x1 y1 x2 y2 w ar (stepNo k 6#32) a), (stepNo k 7#32), (at1 (stepNo k 7#32)), (taken (atSlot (stepNo k 7#32)) x1), (taken (atSlot (stepNo k 7#32)) y1), (taken (atSlot (stepNo k 7#32)) x2), (taken (atSlot (stepNo k 7#32)) y2), (taken (atSlot (stepNo k 7#32)) ar), (taken (atSlot (stepNo k 7#32)) (nmsStep x1 y1 x2 y2 w ar (stepNo k 6#32) a)), ((Scalar.ofBits .f32 0x00000000#32) : F .f32)⟩) := rfl

end Cert.Kernel.Gen
-- ==== Proof.Select.lean ====
/- The pieces of a trip of the selection rounds are the pieces of eight of its steps. -/
module

public import proofs.«01_k».proof.Proof.Gen.KernelIdeal.Skeleton
public import proofs.«01_k».proof.Proof.Stages

@[expose] public section

noncomputable section

namespace Cert.KernelIdeal.Gen

open Idealize.ShloMosaic Idealize.SL.Sem Cert.Detect
open Cert.KernelIdeal.Facts₀ Cert.KernelIdeal.Facts

variable {F : FTy → Type} [FloatOps F]

set_option maxRecDepth 8192
set_option maxHeartbeats 800000

variable (arg0 : Memref sig .tc .vmem S25x8x5120 .f32) (harg0 : arg0.IsWhole) (arg1 : Memref sig .tc .vmem S4x5120 .f32) (harg1 : arg1.IsWhole)
  (arg2 : Memref sig .tc .vmem S8x200 .f32) (harg2 : arg2.IsWhole) (arg3 : Memref sig .tc .vmem S8x200 .f32) (harg3 : arg3.IsWhole) (arg4 : Memref sig .tc .vmem S8x200 .f32) (harg4 : arg4.IsWhole) (arg5 : Memref sig .tc .vmem S8x200 .f32) (harg5 : arg5.IsWhole) (arg6 : Memref sig .tc .vmem S8x200 .f32) (harg6 : arg6.IsWhole) (arg7 : Memref sig .tc .vmem S8x200 .f32) (harg7 : arg7.IsWhole)

/-- Piece 1 of a trip of the selection rounds. -/
theorem k0_part1_eq (k : Fin k0_t2_loop.trips) (n : IVec S8x400 32) (x1 y1 x2 y2 l : FVec F S8x400 .f32) (a : Carry F) :
    k0_part1 arg0 harg0 arg1 harg1 arg2 harg2 arg3 harg3 arg4 harg4 arg5 harg5 arg6 harg6 arg7 harg7 slots n x1 y1 x2 (0#32 : BitVec 32) (1#32 : BitVec 32) k a.1 a.2.1 a.2.2.1 a.2.2.2.1 a.2.2.2.2.1
      = Prog.ret (⟨(Scf.iv 0#32 1#32 k), (winner n a.1), (at1 (stepNo k 0#32)), (sortStep n x1 y1 x2 y2 l (stepNo k 0#32) a).2.1, (sortStep n x1 y1 x2 y2 l (stepNo k 0#32) a).2.2.1, (sortStep n x1 y1 x2 y2 l (stepNo k 0#32) a).2.2.2.1, (sortStep n x1 y1 x2 y2 l (stepNo k 0#32) a).2.2.2.2.1, ((broadcast S8x400 ((Scalar.ofBits .f32 0x00000000#32) : F .f32)) : FVec F S8x400 .f32)⟩) := rfl

/-- Piece 2 of a trip of the selection rounds. -/
theorem k0_part2_eq (k : Fin k0_t2_loop.trips) (n : IVec S8x400 32) (x1 y1 x2 y2 l : FVec F S8x400 .f32) (a : Carry F) :
    k0_part2 arg0 harg0 arg1 harg1 arg2 harg2 arg3 harg3 arg4 harg4 arg5 harg5 arg6 harg6 arg7 harg7 slots n x1 y2 l a.1 a.2.2.2.2.2.1 a.2.2.2.2.2.2 (Scf.iv 0#32 1#32 k) (winner n a.1) (at1 (stepNo k 0#32)) (sortStep n x1 y1 x2 y2 l (stepNo k 0#32) a).2.1 (sortStep n x1 y1 x2 y2 l (stepNo k 0#32) a).2.2.1 ((broadcast S8x400 ((Scalar.ofBits .f32 0x00000000#32) : F .f32)) : FVec F S8x400 .f32)
      = Prog.ret (⟨(sortStep n x1 y1 x2 y2 l (stepNo k 0#32) a).2.2.2.2.2.1, (sortStep n x1 y1 x2 y2 l (stepNo k 0#32) a).2.2.2.2.2.2, (sortStep n x1 y1 x2 y2 l (stepNo k 0#32) a).1, (winner n (sortStep n x1 y1 x2 y2 l (stepNo k 0#32) a).1), (at1 (stepNo k 1#32)), (sortStep n x1 y1 x2 y2 l (stepNo k 1#32) (sortStep n x1 y1 x2 y2 l (stepNo k 0#32) a)).2.1, (sortStep n x1 y1 x2 y2 l (stepNo k 1#32) (sortStep n x1 y1 x2 y2 l (stepNo k 0#32) a)).2.2.1, ((broadcast S8x400 ((Scalar.ofBits .f32 0x00000000#32) : F .f32)) : FVec F S8x400 .f32)⟩) := rfl

/-- Piece 3 of a trip of the selection rounds. -/
theorem k0_part3_eq (k : Fin k0_t2_loop.trips) (n : IVec S8x400 32) (x1 y1 x2 y2 l : FVec F S8x400 .f32) (a : Carry F) :
    k0_part3 arg0 harg0 arg1 harg1 arg2 harg2 arg3 harg3 arg4 harg4 arg5 harg5 arg6 harg6 arg7 harg7 n y1 x2 y2 l (Scf.iv 0#32 1#32 k) (sortStep n x1 y1 x2 y2 l (stepNo k 0#32) a).2.2.2.1 (sortStep n x1 y1 x2 y2 l (stepNo k 0#32) a).2.2.2.2.1 (sortStep n x1 y1 x2 y2 l (stepNo k 0#32) a).2.2.2.2.2.1 (sortStep n x1 y1 x2 y2 l (stepNo k 0#32) a).2.2.2.2.2.2 (sortStep n x1 y1 x2 y2 l (stepNo k 0#32) a).1 (winner n (sortStep n x1 y1 x2 y2 l (stepNo k 0#32) a).1) (at1 (stepNo k 1#32)) ((broadcast S8x400 ((Scalar.ofBits .f32 0x00000000#32) : F .f32)) : FVec F S8x400 .f32)
      = Prog.ret (⟨(sortStep n x1 y1 x2 y2 l (stepNo k 1#32) (sortStep n x1 y1 x2 y2 l (stepNo k 0#32) a)).2.2.2.1, (sortStep n x1 y1 x2 y2 l (stepNo k 1#32) (sortStep n x1 y1 x2 y2 l (stepNo k 0#32) a)).2.2.2.2.1, (sortStep n x1 y1 x2 y2 l (stepNo k 1#32) (sortStep n x1 y1 x2 y2 l (stepNo k 0#32) a)).2.2.2.2.2.1, (sortStep n x1 y1 x2 y2 l (stepNo k 1#32) (sortStep n x1 y1 x2 y2 l (stepNo k 0#32) a)).2.2.2.2.2.2, (sortStep n x1 y1 x2 y2 l (stepNo k 1#32) (sortStep n x1 y1 x2 y2 l (stepNo k 0#32) a)).1, (stepNo k 2#32), (slotMax (sortStep n x1 y1 x2 y2 l (stepNo k 1#32) (sortStep n x1 y1 x2 y2 l (stepNo k 0#32) a)).1), ((shapeCast S8x1 ((multiReductionI .minsi [1] S8 ((select ((cmpf .oeq (sortStep n x1 y1 x2 y2 l (stepNo k 1#32) (sortStep n x1 y1 x2 y2 l (stepNo k 0#32) a)).1 ((broadcastTo S8x400 (slotMax (sortStep n x1 y1 x2 y2 l (stepNo k 1#32) (sortStep n x1 y1 x2 y2 l (stepNo k 0#32) a)).1) broadcasts_S8x1_S8x400) : FVec F S8x400 .f32)) : IVec S8x400 1) n ((broadcast S8x400 (5120#32 : BitVec 32)) : IVec S8x400 32)) : IVec S8x400 32) 2147483647#32 reduces_S8x400_S8 rfl) : IVec S8 32) shapeCasts_S8_S8x1) : IVec S8x1 32)⟩) := rfl

/-- Piece 4 of a trip of the selection rounds. -/
theorem k0_part4_eq (k : Fin k0_t2_loop.trips) (n : IVec S8x400 32) (x1 y1 x2 y2 l : FVec F S8x400 .f32) (a : Carry F) :
    k0_part4 arg0 harg0 arg1 harg1 arg2 harg2 arg3 harg3 arg4 harg4 arg5 harg5 arg6 harg6 arg7 harg7 slots n x1 y1 x2 y2 l (sortStep n x1 y1 x2 y2 l (stepNo k 1#32) a).2.1 (sortStep n x1 y1 x2 y2 l (stepNo k 1#32) a).2.2.1 (sortStep n x1 y1 x2 y2 l (stepNo k 1#32) a).2.2.2.1 (sortStep n x1 y1 x2 y2 l (stepNo k 1#32) a).2.2.2.2.1 (sortStep n x1 y1 x2 y2 l (stepNo k 1#32) a).2.2.2.2.2.1 (stepNo k 2#32) (slotMax (sortStep n x1 y1 x2 y2 l (stepNo k 1#32) a).1) ((shapeCast S8x1 ((multiReductionI .minsi [1] S8 ((select ((cmpf .oeq (sortStep n x1 y1 x2 y2 l (stepNo k 1#32) a).1 ((broadcastTo S8x400 (slotMax (sortStep n x1 y1 x2 y2 l (stepNo k 1#32) a).1) broadcasts_S8x1_S8x400) : FVec F S8x400 .f32)) : IVec S8x400 1) n ((broadcast S8x400 (5120#32 : BitVec 32)) : IVec S8x400 32)) : IVec S8x400 32) 2147483647#32 reduces_S8x400_S8 rfl) : IVec S8 32) shapeCasts_S8_S8x1) : IVec S8x1 32)
      = Prog.ret (⟨(winner n (sortStep n x1 y1 x2 y2 l (stepNo k 1#32) a).1), (sortStep n x1 y1 x2 y2 l (stepNo k 2#32) (sortStep n x1 y1 x2 y2 l (stepNo k 1#32) a)).2.1, (sortStep n x1 y1 x2 y2 l (stepNo k 2#32) (sortStep n x1 y1 x2 y2 l (stepNo k 1#32) a)).2.2.1, (sortStep n x1 y1 x2 y2 l (stepNo k 2#32) (sortStep n x1 y1 x2 y2 l (stepNo k 1#32) a)).2.2.2.1, (sortStep n x1 y1 x2 y2 l (stepNo k 2#32) (sortStep n x1 y1 x2 y2 l (stepNo k 1#32) a)).2.2.2.2.1, (sortStep n x1 y1 x2 y2 l (stepNo k 2#32) (sortStep n x1 y1 x2 y2 l (stepNo k 1#32) a)).2.2.2.2.2.1, (taken (winner n (sortStep n x1 y1 x2 y2 l (stepNo k 1#32) a).1) l), ((shapeCast S1x400 (at1 (stepNo k 2#32)) shapeCasts_S1x400_S1x400) : IVec S1x400 1)⟩) := rfl

/-- Piece 5 of a trip of the selection rounds. -/
theorem k0_part5_eq (k : Fin k0_t2_loop.trips) (n : IVec S8x400 32) (x1 y1 x2 y2 l : FVec F S8x400 .f32) (a : Carry F) :
    k0_part5 arg0 harg0 arg1 harg1 arg2 harg2 arg3 harg3 arg4 harg4 arg5 harg5 arg6 harg6 arg7 harg7 slots n x1 y1 x2 (Scf.iv 0#32 1#32 k) (sortStep n x1 y1 x2 y2 l (stepNo k 1#32) a).2.2.2.2.2.2 (sortStep n x1 y1 x2 y2 l (stepNo k 1#32) a).1 (winner n (sortStep n x1 y1 x2 y2 l (stepNo k 1#32) a).1) (sortStep n x1 y1 x2 y2 l (stepNo k 2#32) (sortStep n x1 y1 x2 y2 l (stepNo k 1#32) a)).2.1 (sortStep n x1 y1 x2 y2 l (stepNo k 2#32) (sortStep n x1 y1 x2 y2 l (stepNo k 1#32) a)).2.2.1 (sortStep n x1 y1 x2 y2 l (stepNo k 2#32) (sortStep n x1 y1 x2 y2 l (stepNo k 1#32) a)).2.2.2.1 (taken (winner n (sortStep n x1 y1 x2 y2 l (stepNo k 1#32) a).1) l) ((shapeCast S1x400 (at1 (stepNo k 2#32)) shapeCasts_S1x400_S1x400) : IVec S1x400 1)
      = Prog.ret (⟨(sortStep n x1 y1 x2 y2 l (stepNo k 2#32) (sortStep n x1 y1 x2 y2 l (stepNo k 1#32) a)).2.2.2.2.2.2, (sortStep n x1 y1 x2 y2 l (stepNo k 2#32) (sortStep n x1 y1 x2 y2 l (stepNo k 1#32) a)).1, (winner n (sortStep n x1 y1 x2 y2 l (stepNo k 2#32) (sortStep n x1 y1 x2 y2 l (stepNo k 1#32) a)).1), (at1 (stepNo k 3#32)), (sortStep n x1 y1 x2 y2 l (stepNo k 3#32) (sortStep n x1 y1 x2 y2 l (stepNo k 2#32) (sortStep n x1 y1 x2 y2 l (stepNo k 1#32) a))).2.1, (sortStep n x1 y1 x2 y2 l (stepNo k 3#32) (sortStep n x1 y1 x2 y2 l (stepNo k 2#32) (sortStep n x1 y1 x2 y2 l (stepNo k 1#32) a))).2.2.1, (sortStep n x1 y1 x2 y2 l (stepNo k 3#32) (sortStep n x1 y1 x2 y2 l (stepNo k 2#32) (sortStep n x1 y1 x2 y2 l (stepNo k 1#32) a))).2.2.2.1, (taken (winner n (sortStep n x1 y1 x2 y2 l (stepNo k 2#32) (sortStep n x1 y1 x2 y2 l (stepNo k 1#32) a)).1) x2), ((shapeCast S1x400 (at1 (stepNo k 3#32)) shapeCasts_S1x400_S1x400) : IVec S1x400 1)⟩) := rfl

/-- Piece 6 of a trip of the selection rounds. -/
theorem k0_part6_eq (k : Fin k0_t2_loop.trips) (n : IVec S8x400 32) (x1 y1 x2 y2 l : FVec F S8x400 .f32) (a : Carry F) :
    k0_part6 arg0 harg0 arg1 harg1 arg2 harg2 arg3 harg3 arg4 harg4 arg5 harg5 arg6 harg6 arg7 harg7 slots n x1 y2 l (Scf.iv 0#32 1#32 k) (sortStep n x1 y1 x2 y2 l (stepNo k 2#32) a).2.2.2.2.1 (sortStep n x1 y1 x2 y2 l (stepNo k 2#32) a).2.2.2.2.2.1 (sortStep n x1 y1 x2 y2 l (stepNo k 2#32) a).2.2.2.2.2.2 (sortStep n x1 y1 x2 y2 l (stepNo k 2#32) a).1 (winner n (sortStep n x1 y1 x2 y2 l (stepNo k 2#32) a).1) (at1 (stepNo k 3#32)) (sortStep n x1 y1 x2 y2 l (stepNo k 3#32) (sortStep n x1 y1 x2 y2 l (stepNo k 2#32) a)).2.1 (taken (winner n (sortStep n x1 y1 x2 y2 l (stepNo k 2#32) a).1) x2) ((shapeCast S1x400 (at1 (stepNo k 3#32)) shapeCasts_S1x400_S1x400) : IVec S1x400 1)
      = Prog.ret (⟨(sortStep n x1 y1 x2 y2 l (stepNo k 3#32) (sortStep n x1 y1 x2 y2 l (stepNo k 2#32) a)).2.2.2.2.1, (sortStep n x1 y1 x2 y2 l (stepNo k 3#32) (sortStep n x1 y1 x2 y2 l (stepNo k 2#32) a)).2.2.2.2.2.1, (sortStep n x1 y1 x2 y2 l (stepNo k 3#32) (sortStep n x1 y1 x2 y2 l (stepNo k 2#32) a)).2.2.2.2.2.2, (sortStep n x1 y1 x2 y2 l (stepNo k 3#32) (sortStep n x1 y1 x2 y2 l (stepNo k 2#32) a)).1, (winner n (sortStep n x1 y1 x2 y2 l (stepNo k 3#32) (sortStep n x1 y1 x2 y2 l (stepNo k 2#32) a)).1), (at1 (stepNo k 4#32)), (sortStep n x1 y1 x2 y2 l (stepNo k 4#32) (sortStep n x1 y1 x2 y2 l (stepNo k 3#32) (sortStep n x1 y1 x2 y2 l (stepNo k 2#32) a))).2.1, (taken (winner n (sortStep n x1 y1 x2 y2 l (stepNo k 3#32) (sortStep n x1 y1 x2 y2 l (stepNo k 2#32) a)).1) x1), ((shapeCast S1x400 (at1 (stepNo k 4#32)) shapeCasts_S1x400_S1x400) : IVec S1x400 1)⟩) := rfl

/-- Piece 7 of a trip of the selection rounds. -/
theorem k0_part7_eq (k : Fin k0_t2_loop.trips) (n : IVec S8x400 32) (x1 y1 x2 y2 l : FVec F S8x400 .f32) (a : Carry F) :
    k0_part7 arg0 harg0 arg1 harg1 arg2 harg2 arg3 harg3 arg4 harg4 arg5 harg5 arg6 harg6 arg7 harg7 y1 x2 y2 l (Scf.iv 0#32 1#32 k) (sortStep n x1 y1 x2 y2 l (stepNo k 3#32) a).2.2.1 (sortStep n x1 y1 x2 y2 l (stepNo k 3#32) a).2.2.2.1 (sortStep n x1 y1 x2 y2 l (stepNo k 3#32) a).2.2.2.2.1 (sortStep n x1 y1 x2 y2 l (stepNo k 3#32) a).2.2.2.2.2.1 (sortStep n x1 y1 x2 y2 l (stepNo k 3#32) a).2.2.2.2.2.2 (sortStep n x1 y1 x2 y2 l (stepNo k 3#32) a).1 (winner n (sortStep n x1 y1 x2 y2 l (stepNo k 3#32) a).1) (at1 (stepNo k 4#32)) (taken (winner n (sortStep n x1 y1 x2 y2 l (stepNo k 3#32) a).1) x1) ((shapeCast S1x400 (at1 (stepNo k 4#32)) shapeCasts_S1x400_S1x400) : IVec S1x400 1)
      = Prog.ret (⟨(sortStep n x1 y1 x2 y2 l (stepNo k 4#32) (sortStep n x1 y1 x2 y2 l (stepNo k 3#32) a)).2.2.1, (sortStep n x1 y1 x2 y2 l (stepNo k 4#32) (sortStep n x1 y1 x2 y2 l (stepNo k 3#32) a)).2.2.2.1, (sortStep n x1 y1 x2 y2 l (stepNo k 4#32) (sortStep n x1 y1 x2 y2 l (stepNo k 3#32) a)).2.2.2.2.1, (sortStep n x1 y1 x2 y2 l (stepNo k 4#32) (sortStep n x1 y1 x2 y2 l (stepNo k 3#32) a)).2.2.2.2.2.1, (sortStep n x1 y1 x2 y2 l (stepNo k 4#32) (sortStep n x1 y1 x2 y2 l (stepNo k 3#32) a)).2.2.2.2.2.2, (sortStep n x1 y1 x2 y2 l (stepNo k 4#32) (sortStep n x1 y1 x2 y2 l (stepNo k 3#32) a)).1, (stepNo k 5#32), (slotMax (sortStep n x1 y1 x2 y2 l (stepNo k 4#32) (sortStep n x1 y1 x2 y2 l (stepNo k 3#32) a)).1), ((cmpf .oeq (sortStep n x1 y1 x2 y2 l (stepNo k 4#32) (sortStep n x1 y1 x2 y2 l (stepNo k 3#32) a)).1 ((broadcastTo S8x400 (slotMax (sortStep n x1 y1 x2 y2 l (stepNo k 4#32) (sortStep n x1 y1 x2 y2 l (stepNo k 3#32) a)).1) broadcasts_S8x1_S8x400) : FVec F S8x400 .f32)) : IVec S8x400 1)⟩) := rfl

/-- Piece 8 of a trip of the selection rounds. -/
theorem k0_part8_eq (k : Fin k0_t2_loop.trips) (n : IVec S8x400 32) (x1 y1 x2 y2 l : FVec F S8x400 .f32) (a : Carry F) :
    k0_part8 arg0 harg0 arg1 harg1 arg2 harg2 arg3 harg3 arg4 harg4 arg5 harg5 arg6 harg6 arg7 harg7 slots n x1 y1 x2 y2 (sortStep n x1 y1 x2 y2 l (stepNo k 4#32) a).2.1 (sortStep n x1 y1 x2 y2 l (stepNo k 4#32) a).2.2.1 (sortStep n x1 y1 x2 y2 l (stepNo k 4#32) a).2.2.2.1 (sortStep n x1 y1 x2 y2 l (stepNo k 4#32) a).2.2.2.2.1 (sortStep n x1 y1 x2 y2 l (stepNo k 4#32) a).2.2.2.2.2.1 (stepNo k 5#32) (slotMax (sortStep n x1 y1 x2 y2 l (stepNo k 4#32) a).1) ((cmpf .oeq (sortStep n x1 y1 x2 y2 l (stepNo k 4#32) a).1 ((broadcastTo S8x400 (slotMax (sortStep n x1 y1 x2 y2 l (stepNo k 4#32) a).1) broadcasts_S8x1_S8x400) : FVec F S8x400 .f32)) : IVec S8x400 1)
      = Prog.ret (⟨(winner n (sortStep n x1 y1 x2 y2 l (stepNo k 4#32) a).1), (at1 (stepNo k 5#32)), (sortStep n x1 y1 x2 y2 l (stepNo k 5#32) (sortStep n x1 y1 x2 y2 l (stepNo k 4#32) a)).2.1, (sortStep n x1 y1 x2 y2 l (stepNo k 5#32) (sortStep n x1 y1 x2 y2 l (stepNo k 4#32) a)).2.2.1, (sortStep n x1 y1 x2 y2 l (stepNo k 5#32) (sortStep n x1 y1 x2 y2 l (stepNo k 4#32) a)).2.2.2.1, (sortStep n x1 y1 x2 y2 l (stepNo k 5#32) (sortStep n x1 y1 x2 y2 l (stepNo k 4#32) a)).2.2.2.2.1, (sortStep n x1 y1 x2 y2 l (stepNo k 5#32) (sortStep n x1 y1 x2 y2 l (stepNo k 4#32) a)).2.2.2.2.2.1, ((Scalar.ofBits .f32 0x00000000#32) : F .f32)⟩) := rfl

/-- Piece 9 of a trip of the selection rounds. -/
theorem k0_part9_eq (k : Fin k0_t2_loop.trips) (n : IVec S8x400 32) (x1 y1 x2 y2 l : FVec F S8x400 .f32) (a : Carry F) :
    k0_part9 arg0 harg0 arg1 harg1 arg2 harg2 arg3 harg3 arg4 harg4 arg5 harg5 arg6 harg6 arg7 harg7 slots n x1 y1 l (Scf.iv 0#32 1#32 k) (sortStep n x1 y1 x2 y2 l (stepNo k 4#32) a).2.2.2.2.2.2 (sortStep n x1 y1 x2 y2 l (stepNo k 4#32) a).1 (winner n (sortStep n x1 y1 x2 y2 l (stepNo k 4#32) a).1) (at1 (stepNo k 5#32)) (sortStep n x1 y1 x2 y2 l (stepNo k 5#32) (sortStep n x1 y1 x2 y2 l (stepNo k 4#32) a)).2.1 (sortStep n x1 y1 x2 y2 l (stepNo k 5#32) (sortStep n x1 y1 x2 y2 l (stepNo k 4#32) a)).2.2.1 (sortStep n x1 y1 x2 y2 l (stepNo k 5#32) (sortStep n x1 y1 x2 y2 l (stepNo k 4#32) a)).2.2.2.1 ((Scalar.ofBits .f32 0x00000000#32) : F .f32)
      = Prog.ret (⟨(sortStep n x1 y1 x2 y2 l (stepNo k 5#32) (sortStep n x1 y1 x2 y2 l (stepNo k 4#32) a)).2.2.2.2.2.2, (sortStep n x1 y1 x2 y2 l (stepNo k 5#32) (sortStep n x1 y1 x2 y2 l (stepNo k 4#32) a)).1, (winner n (sortStep n x1 y1 x2 y2 l (stepNo k 5#32) (sortStep n x1 y1 x2 y2 l (stepNo k 4#32) a)).1), (at1 (stepNo k 6#32)), (sortStep n x1 y1 x2 y2 l (stepNo k 6#32) (sortStep n x1 y1 x2 y2 l (stepNo k 5#32) (sortStep n x1 y1 x2 y2 l (stepNo k 4#32) a))).2.1, (sortStep n x1 y1 x2 y2 l (stepNo k 6#32) (sortStep n x1 y1 x2 y2 l (stepNo k 5#32) (sortStep n x1 y1 x2 y2 l (stepNo k 4#32) a))).2.2.1, (sortStep n x1 y1 x2 y2 l (stepNo k 6#32) (sortStep n x1 y1 x2 y2 l (stepNo k 5#32) (sortStep n x1 y1 x2 y2 l (stepNo k 4#32) a))).2.2.2.1, ((Scalar.ofBits .f32 0x00000000#32) : F .f32)⟩) := rfl

/-- Piece 10 of a trip of the selection rounds. -/
theorem k0_part10_eq (k : Fin k0_t2_loop.trips) (n : IVec S8x400 32) (x1 y1 x2 y2 l : FVec F S8x400 .f32) (a : Carry F) :
    k0_part10 arg0 harg0 arg1 harg1 arg2 harg2 arg3 harg3 arg4 harg4 arg5 harg5 arg6 harg6 arg7 harg7 slots n x2 y2 l (Scf.iv 0#32 1#32 k) (sortStep n x1 y1 x2 y2 l (stepNo k 5#32) a).2.2.2.2.1 (sortStep n x1 y1 x2 y2 l (stepNo k 5#32) a).2.2.2.2.2.1 (sortStep n x1 y1 x2 y2 l (stepNo k 5#32) a).2.2.2.2.2.2 (sortStep n x1 y1 x2 y2 l (stepNo k 5#32) a).1 (winner n (sortStep n x1 y1 x2 y2 l (stepNo k 5#32) a).1) (at1 (stepNo k 6#32)) (sortStep n x1 y1 x2 y2 l (stepNo k 6#32) (sortStep n x1 y1 x2 y2 l (stepNo k 5#32) a)).2.1 ((Scalar.ofBits .f32 0x00000000#32) : F .f32)
      = Prog.ret (⟨(sortStep n x1 y1 x2 y2 l (stepNo k 6#32) (sortStep n x1 y1 x2 y2 l (stepNo k 5#32) a)).2.2.2.2.1, (sortStep n x1 y1 x2 y2 l (stepNo k 6#32) (sortStep n x1 y1 x2 y2 l (stepNo k 5#32) a)).2.2.2.2.2.1, (sortStep n x1 y1 x2 y2 l (stepNo k 6#32) (sortStep n x1 y1 x2 y2 l (stepNo k 5#32) a)).2.2.2.2.2.2, (sortStep n x1 y1 x2 y2 l (stepNo k 6#32) (sortStep n x1 y1 x2 y2 l (stepNo k 5#32) a)).1, (winner n (sortStep n x1 y1 x2 y2 l (stepNo k 6#32) (sortStep n x1 y1 x2 y2 l (stepNo k 5#32) a)).1), (at1 (stepNo k 7#32)), (sortStep n x1 y1 x2 y2 l (stepNo k 7#32) (sortStep n x1 y1 x2 y2 l (stepNo k 6#32) (sortStep n x1 y1 x2 y2 l (stepNo k 5#32) a))).2.1, ((Scalar.ofBits .f32 0x00000000#32) : F .f32)⟩) := rfl

end Cert.KernelIdeal.Gen
-- ==== Proof.Suppress.lean ====
/- The pieces of a trip of the suppression rounds are the pieces of eight of its steps. -/
module

public import proofs.«01_k».proof.Proof.Gen.KernelIdeal.Skeleton
public import proofs.«01_k».proof.Proof.Stages

@[expose] public section

noncomputable section

namespace Cert.KernelIdeal.Gen

open Idealize.ShloMosaic Idealize.SL.Sem Cert.Detect
open Cert.KernelIdeal.Facts₀ Cert.KernelIdeal.Facts

variable {F : FTy → Type} [FloatOps F]

set_option maxRecDepth 8192
set_option maxHeartbeats 800000

variable (arg0 : Memref sig .tc .vmem S25x8x5120 .f32) (harg0 : arg0.IsWhole) (arg1 : Memref sig .tc .vmem S4x5120 .f32) (harg1 : arg1.IsWhole)
  (arg2 : Memref sig .tc .vmem S8x200 .f32) (harg2 : arg2.IsWhole) (arg3 : Memref sig .tc .vmem S8x200 .f32) (harg3 : arg3.IsWhole) (arg4 : Memref sig .tc .vmem S8x200 .f32) (harg4 : arg4.IsWhole) (arg5 : Memref sig .tc .vmem S8x200 .f32) (harg5 : arg5.IsWhole) (arg6 : Memref sig .tc .vmem S8x200 .f32) (harg6 : arg6.IsWhole) (arg7 : Memref sig .tc .vmem S8x200 .f32) (harg7 : arg7.IsWhole)

/-- Piece 1 of a trip of the suppression rounds. -/
theorem k0_part12_eq (k : Fin k0_t3_loop.trips) (x1 y1 x2 y2 w ar : FVec F S8x400 .f32) (a : FVec F S8x400 .f32) :
    k0_part12 arg0 harg0 arg1 harg1 arg2 harg2 arg3 harg3 arg4 harg4 arg5 harg5 arg6 harg6 arg7 harg7 slots x1 y1 x2 y2 w ar (0#32 : BitVec 32) (1#32 : BitVec 32) k a
      = Prog.ret (⟨(Scf.iv 0#32 1#32 k), (stepNo k 0#32), (taken (atSlot (stepNo k 0#32)) x1), (taken (atSlot (stepNo k 0#32)) y1), (taken (atSlot (stepNo k 0#32)) x2), (taken (atSlot (stepNo k 0#32)) y2), (taken (atSlot (stepNo k 0#32)) ar), (taken (atSlot (stepNo k 0#32)) a), ((select (atSlot (stepNo k 0#32)) w ((broadcast S8x400 ((Scalar.ofBits .f32 0x00000000#32) : F .f32)) : FVec F S8x400 .f32)) : FVec F S8x400 .f32)⟩) := rfl

/-- Piece 2 of a trip of the suppression rounds. -/
theorem k0_part13_eq (k : Fin k0_t3_loop.trips) (x1 y1 x2 y2 w ar : FVec F S8x400 .f32) (a : FVec F S8x400 .f32) :
    k0_part13 arg0 harg0 arg1 harg1 arg2 harg2 arg3 harg3 arg4 harg4 arg5 harg5 arg6 harg6 arg7 harg7 slots x1 y1 x2 y2 ar a (Scf.iv 0#32 1#32 k) (stepNo k 0#32) (taken (atSlot (stepNo k 0#32)) x1) (taken (atSlot (stepNo k 0#32)) y1) (taken (atSlot (stepNo k 0#32)) x2) (taken (atSlot (stepNo k 0#32)) y2) (taken (atSlot (stepNo k 0#32)) ar) (taken (atSlot (stepNo k 0#32)) a) ((select (atSlot (stepNo k 0#32)) w ((broadcast S8x400 ((Scalar.ofBits .f32 0x00000000#32) : F .f32)) : FVec F S8x400 .f32)) : FVec F S8x400 .f32)
      = Prog.ret (⟨(nmsStep x1 y1 x2 y2 w ar (stepNo k 0#32) a), (stepNo k 1#32), (at1 (stepNo k 1#32)), ((Scalar.ofBits .f32 0x00000000#32) : F .f32)⟩) := rfl

/-- Piece 3 of a trip of the suppression rounds. -/
theorem k0_part14_eq (k : Fin k0_t3_loop.trips) (x1 y1 x2 y2 w ar : FVec F S8x400 .f32) (a : FVec F S8x400 .f32) :
    k0_part14 arg0 harg0 arg1 harg1 arg2 harg2 arg3 harg3 arg4 harg4 arg5 harg5 arg6 harg6 arg7 harg7 x1 y1 x2 y2 w ar a (at1 (stepNo k 1#32)) ((Scalar.ofBits .f32 0x00000000#32) : F .f32)
      = Prog.ret (⟨(taken (atSlot (stepNo k 1#32)) x2), (taken (atSlot (stepNo k 1#32)) y2), (taken (atSlot (stepNo k 1#32)) ar), (keptAt w a (stepNo k 1#32)), ((maximumf ((broadcastTo S8x400 (taken (atSlot (stepNo k 1#32)) x1) broadcasts_S8x1_S8x400) : FVec F S8x400 .f32) x1) : FVec F S8x400 .f32), ((maximumf ((broadcastTo S8x400 (taken (atSlot (stepNo k 1#32)) y1) broadcasts_S8x1_S8x400) : FVec F S8x400 .f32) y1) : FVec F S8x400 .f32)⟩) := rfl

/-- Piece 4 of a trip of the suppression rounds. -/
theorem k0_part15_eq (k : Fin k0_t3_loop.trips) (x1 y1 x2 y2 w ar : FVec F S8x400 .f32) (a : FVec F S8x400 .f32) :
    k0_part15 arg0 harg0 arg1 harg1 arg2 harg2 arg3 harg3 arg4 harg4 arg5 harg5 arg6 harg6 arg7 harg7 slots x1 x2 y2 ar (Scf.iv 0#32 1#32 k) a (stepNo k 1#32) (taken (atSlot (stepNo k 1#32)) x2) (taken (atSlot (stepNo k 1#32)) y2) (taken (atSlot (stepNo k 1#32)) ar) (keptAt w a (stepNo k 1#32)) ((maximumf ((broadcastTo S8x400 (taken (atSlot (stepNo k 1#32)) x1) broadcasts_S8x1_S8x400) : FVec F S8x400 .f32) x1) : FVec F S8x400 .f32) ((maximumf ((broadcastTo S8x400 (taken (atSlot (stepNo k 1#32)) y1) broadcasts_S8x1_S8x400) : FVec F S8x400 .f32) y1) : FVec F S8x400 .f32)
      = Prog.ret (⟨(nmsStep x1 y1 x2 y2 w ar (stepNo k 1#32) a), (stepNo k 2#32), (at1 (stepNo k 2#32)), (taken (atSlot (stepNo k 2#32)) x1), ((Scalar.ofBits .f32 0x00000000#32) : F .f32)⟩) := rfl

/-- Piece 5 of a trip of the suppression rounds. -/
theorem k0_part16_eq (k : Fin k0_t3_loop.trips) (x1 y1 x2 y2 w ar : FVec F S8x400 .f32) (a : FVec F S8x400 .f32) :
    k0_part16 arg0 harg0 arg1 harg1 arg2 harg2 arg3 harg3 arg4 harg4 arg5 harg5 arg6 harg6 arg7 harg7 x1 y1 x2 y2 w ar a (at1 (stepNo k 2#32)) (taken (atSlot (stepNo k 2#32)) x1) ((Scalar.ofBits .f32 0x00000000#32) : F .f32)
      = Prog.ret (⟨(taken (atSlot (stepNo k 2#32)) ar), (keptAt w a (stepNo k 2#32)), ((maximumf ((broadcastTo S8x400 (taken (atSlot (stepNo k 2#32)) y1) broadcasts_S8x1_S8x400) : FVec F S8x400 .f32) y1) : FVec F S8x400 .f32), ((minimumf ((broadcastTo S8x400 (taken (atSlot (stepNo k 2#32)) y2) broadcasts_S8x1_S8x400) : FVec F S8x400 .f32) y2) : FVec F S8x400 .f32), ((maximumf ((broadcast S8x400 ((Scalar.ofBits .f32 0x00000000#32) : F .f32)) : FVec F S8x400 .f32) ((subf ((minimumf ((broadcastTo S8x400 (taken (atSlot (stepNo k 2#32)) x2) broadcasts_S8x1_S8x400) : FVec F S8x400 .f32) x2) : FVec F S8x400 .f32) ((maximumf ((broadcastTo S8x400 (taken (atSlot (stepNo k 2#32)) x1) broadcasts_S8x1_S8x400) : FVec F S8x400 .f32) x1) : FVec F S8x400 .f32)) : FVec F S8x400 .f32)) : FVec F S8x400 .f32)⟩) := rfl

/-- Piece 6 of a trip of the suppression rounds. -/
theorem k0_part17_eq (k : Fin k0_t3_loop.trips) (x1 y1 x2 y2 w ar : FVec F S8x400 .f32) (a : FVec F S8x400 .f32) :
    k0_part17 arg0 harg0 arg1 harg1 arg2 harg2 arg3 harg3 arg4 harg4 arg5 harg5 arg6 harg6 arg7 harg7 slots x1 y1 ar (Scf.iv 0#32 1#32 k) a (stepNo k 2#32) (taken (atSlot (stepNo k 2#32)) ar) (keptAt w a (stepNo k 2#32)) ((maximumf ((broadcastTo S8x400 (taken (atSlot (stepNo k 2#32)) y1) broadcasts_S8x1_S8x400) : FVec F S8x400 .f32) y1) : FVec F S8x400 .f32) ((minimumf ((broadcastTo S8x400 (taken (atSlot (stepNo k 2#32)) y2) broadcasts_S8x1_S8x400) : FVec F S8x400 .f32) y2) : FVec F S8x400 .f32) ((maximumf ((broadcast S8x400 ((Scalar.ofBits .f32 0x00000000#32) : F .f32)) : FVec F S8x400 .f32) ((subf ((minimumf ((broadcastTo S8x400 (taken (atSlot (stepNo k 2#32)) x2) broadcasts_S8x1_S8x400) : FVec F S8x400 .f32) x2) : FVec F S8x400 .f32) ((maximumf ((broadcastTo S8x400 (taken (atSlot (stepNo k 2#32)) x1) broadcasts_S8x1_S8x400) : FVec F S8x400 .f32) x1) : FVec F S8x400 .f32)) : FVec F S8x400 .f32)) : FVec F S8x400 .f32)
      = Prog.ret (⟨(nmsStep x1 y1 x2 y2 w ar (stepNo k 2#32) a), (stepNo k 3#32), (at1 (stepNo k 3#32)), (taken (atSlot (stepNo k 3#32)) x1), (taken (atSlot (stepNo k 3#32)) y1), ((Scalar.ofBits .f32 0x00000000#32) : F .f32)⟩) := rfl

/-- Piece 7 of a trip of the suppression rounds. -/
theorem k0_part18_eq (k : Fin k0_t3_loop.trips) (x1 y1 x2 y2 w ar : FVec F S8x400 .f32) (a : FVec F S8x400 .f32) :
    k0_part18 arg0 harg0 arg1 harg1 arg2 harg2 arg3 harg3 arg4 harg4 arg5 harg5 arg6 harg6 arg7 harg7 x1 y1 x2 y2 w ar a (at1 (stepNo k 3#32)) (taken (atSlot (stepNo k 3#32)) x1) (taken (atSlot (stepNo k 3#32)) y1) ((Scalar.ofBits .f32 0x00000000#32) : F .f32)
      = Prog.ret (⟨(keptAt w a (stepNo k 3#32)), (inter x1 y1 x2 y2 (taken (atSlot (stepNo k 3#32)) x1) (taken (atSlot (stepNo k 3#32)) y1) (taken (atSlot (stepNo k 3#32)) x2) (taken (atSlot (stepNo k 3#32)) y2)), ((subf ((addf ((broadcastTo S8x400 (taken (atSlot (stepNo k 3#32)) ar) broadcasts_S8x1_S8x400) : FVec F S8x400 .f32) ar) : FVec F S8x400 .f32) (inter x1 y1 x2 y2 (taken (atSlot (stepNo k 3#32)) x1) (taken (atSlot (stepNo k 3#32)) y1) (taken (atSlot (stepNo k 3#32)) x2) (taken (atSlot (stepNo k 3#32)) y2))) : FVec F S8x400 .f32)⟩) := rfl

/-- Piece 8 of a trip of the suppression rounds. -/
theorem k0_part19_eq (k : Fin k0_t3_loop.trips) (x1 y1 x2 y2 w ar : FVec F S8x400 .f32) (a : FVec F S8x400 .f32) :
    k0_part19 arg0 harg0 arg1 harg1 arg2 harg2 arg3 harg3 arg4 harg4 arg5 harg5 arg6 harg6 arg7 harg7 slots x1 y1 x2 (Scf.iv 0#32 1#32 k) a (stepNo k 3#32) (keptAt w a (stepNo k 3#32)) (inter x1 y1 x2 y2 (taken (atSlot (stepNo k 3#32)) x1) (taken (atSlot (stepNo k 3#32)) y1) (taken (atSlot (stepNo k 3#32)) x2) (taken (atSlot (stepNo k 3#32)) y2)) ((subf ((addf ((broadcastTo S8x400 (taken (atSlot (stepNo k 3#32)) ar) broadcasts_S8x1_S8x400) : FVec F S8x400 .f32) ar) : FVec F S8x400 .f32) (inter x1 y1 x2 y2 (taken (atSlot (stepNo k 3#32)) x1) (taken (atSlot (stepNo k 3#32)) y1) (taken (atSlot (stepNo k 3#32)) x2) (taken (atSlot (stepNo k 3#32)) y2))) : FVec F S8x400 .f32)
      = Prog.ret (⟨(nmsStep x1 y1 x2 y2 w ar (stepNo k 3#32) a), (stepNo k 4#32), (at1 (stepNo k 4#32)), (taken (atSlot (stepNo k 4#32)) x1), (taken (atSlot (stepNo k 4#32)) y1), (taken (atSlot (stepNo k 4#32)) x2), ((Scalar.ofBits .f32 0x00000000#32) : F .f32)⟩) := rfl

/-- Piece 9 of a trip of the suppression rounds. -/
theorem k0_part20_eq (k : Fin k0_t3_loop.trips) (x1 y1 x2 y2 w ar : FVec F S8x400 .f32) (a : FVec F S8x400 .f32) :
    k0_part20 arg0 harg0 arg1 harg1 arg2 harg2 arg3 harg3 arg4 harg4 arg5 harg5 arg6 harg6 arg7 harg7 x1 y1 x2 y2 w ar a (stepNo k 4#32) (at1 (stepNo k 4#32)) (taken (atSlot (stepNo k 4#32)) x1) (taken (atSlot (stepNo k 4#32)) y1) (taken (atSlot (stepNo k 4#32)) x2) ((Scalar.ofBits .f32 0x00000000#32) : F .f32)
      = Prog.ret (⟨(keptAt w a (stepNo k 4#32)), ((cmpf .ogt (share x1 y1 x2 y2 ar (taken (atSlot (stepNo k 4#32)) x1) (taken (atSlot (stepNo k 4#32)) y1) (taken (atSlot (stepNo k 4#32)) x2) (taken (atSlot (stepNo k 4#32)) y2) (taken (atSlot (stepNo k 4#32)) ar)) ((broadcast S8x400 ((Scalar.ofBits .f32 0x3F000000#32) : F .f32)) : FVec F S8x400 .f32)) : IVec S8x400 1), ((broadcast S1x400 (stepNo k 4#32)) : IVec S1x400 32)⟩) := rfl

/-- Piece 10 of a trip of the suppression rounds. -/
theorem k0_part21_eq (k : Fin k0_t3_loop.trips) (x1 y1 x2 y2 w ar : FVec F S8x400 .f32) (a : FVec F S8x400 .f32) :
    k0_part21 arg0 harg0 arg1 harg1 arg2 harg2 arg3 harg3 arg4 harg4 arg5 harg5 arg6 harg6 arg7 harg7 slots x1 y1 x2 y2 (Scf.iv 0#32 1#32 k) a (stepNo k 4#32) (keptAt w a (stepNo k 4#32)) ((cmpf .ogt (share x1 y1 x2 y2 ar (taken (atSlot (stepNo k 4#32)) x1) (taken (atSlot (stepNo k 4#32)) y1) (taken (atSlot (stepNo k 4#32)) x2) (taken (atSlot (stepNo k 4#32)) y2) (taken (atSlot (stepNo k 4#32)) ar)) ((broadcast S8x400 ((Scalar.ofBits .f32 0x3F000000#32) : F .f32)) : FVec F S8x400 .f32)) : IVec S8x400 1) ((broadcast S1x400 (stepNo k 4#32)) : IVec S1x400 32)
      = Prog.ret (⟨(nmsStep x1 y1 x2 y2 w ar (stepNo k 4#32) a), (stepNo k 5#32), (at1 (stepNo k 5#32)), (taken (atSlot (stepNo k 5#32)) x1), (taken (atSlot (stepNo k 5#32)) y1), (taken (atSlot (stepNo k 5#32)) x2), (taken (atSlot (stepNo k 5#32)) y2), ((Scalar.ofBits .f32 0x00000000#32) : F .f32)⟩) := rfl

/-- Piece 11 of a trip of the suppression rounds. -/
theorem k0_part22_eq (k : Fin k0_t3_loop.trips) (x1 y1 x2 y2 w ar : FVec F S8x400 .f32) (a : FVec F S8x400 .f32) :
    k0_part22 arg0 harg0 arg1 harg1 arg2 harg2 arg3 harg3 arg4 harg4 arg5 harg5 arg6 harg6 arg7 harg7 slots x1 y1 x2 y2 w ar a (stepNo k 5#32) (at1 (stepNo k 5#32)) (taken (atSlot (stepNo k 5#32)) x1) (taken (atSlot (stepNo k 5#32)) y1) (taken (atSlot (stepNo k 5#32)) x2) (taken (atSlot (stepNo k 5#32)) y2) ((Scalar.ofBits .f32 0x00000000#32) : F .f32)
      = Prog.ret (⟨(keptAt w a (stepNo k 5#32)), (hits x1 y1 x2 y2 w ar a (stepNo k 5#32))⟩) := rfl

/-- Piece 12 of a trip of the suppression rounds. -/
theorem k0_part23_eq (k : Fin k0_t3_loop.trips) (x1 y1 x2 y2 w ar : FVec F S8x400 .f32) (a : FVec F S8x400 .f32) :
    k0_part23 arg0 harg0 arg1 harg1 arg2 harg2 arg3 harg3 arg4 harg4 arg5 harg5 arg6 harg6 arg7 harg7 slots x1 y1 x2 y2 ar (Scf.iv 0#32 1#32 k) a (stepNo k 5#32) (keptAt w a (stepNo k 5#32)) (hits x1 y1 x2 y2 w ar a (stepNo k 5#32))
      = Prog.ret (⟨(nmsStep x1 y1 x2 y2 w ar (stepNo k 5#32) a), (stepNo k 6#32), (at1 (stepNo k 6#32)), (taken (atSlot (stepNo k 6#32)) x1), (taken (atSlot (stepNo k 6#32)) y1), (taken (atSlot (stepNo k 6#32)) x2), (taken (atSlot (stepNo k 6#32)) y2), (taken (atSlot (stepNo k 6#32)) ar), ((Scalar.ofBits .f32 0x00000000#32) : F .f32)⟩) := rfl

/-- Piece 13 of a trip of the suppression rounds. -/
theorem k0_part24_eq (k : Fin k0_t3_loop.trips) (x1 y1 x2 y2 w ar : FVec F S8x400 .f32) (a : FVec F S8x400 .f32) :
    k0_part24 arg0 harg0 arg1 harg1 arg2 harg2 arg3 harg3 arg4 harg4 arg5 harg5 arg6 harg6 arg7 harg7 slots x1 y1 x2 y2 w ar a (stepNo k 6#32) (at1 (stepNo k 6#32)) (taken (atSlot (stepNo k 6#32)) x1) (taken (atSlot (stepNo k 6#32)) y1) (taken (atSlot (stepNo k 6#32)) x2) (taken (atSlot (stepNo k 6#32)) y2) (taken (atSlot (stepNo k 6#32)) ar) ((Scalar.ofBits .f32 0x00000000#32) : F .f32)
      = Prog.ret (⟨(keptAt w a (stepNo k 6#32)), ((mulf a ((subf ((broadcast S8x400 ((Scalar.ofBits .f32 0x3F800000#32) : F .f32)) : FVec F S8x400 .f32) ((sitofp .f32 ((extui 32 (hits x1 y1 x2 y2 w ar a (stepNo k 6#32)) natLt_1_32) : IVec S8x400 32)) : FVec F S8x400 .f32)) : FVec F S8x400 .f32)) : FVec F S8x400 .f32), (at1 (stepNo k 6#32))⟩) := rfl

/-- Piece 14 of a trip of the suppression rounds. -/
theorem k0_part25_eq (k : Fin k0_t3_loop.trips) (x1 y1 x2 y2 w ar : FVec F S8x400 .f32) (a : FVec F S8x400 .f32) :
    k0_part25 arg0 harg0 arg1 harg1 arg2 harg2 arg3 harg3 arg4 harg4 arg5 harg5 arg6 harg6 arg7 harg7 slots x1 y1 x2 y2 ar (Scf.iv 0#32 1#32 k) (keptAt w a (stepNo k 6#32)) ((mulf a ((subf ((broadcast S8x400 ((Scalar.ofBits .f32 0x3F800000#32) : F .f32)) : FVec F S8x400 .f32) ((sitofp .f32 ((extui 32 (hits x1 y1 x2 y2 w ar a (stepNo k 6#32)) natLt_1_32) : IVec S8x400 32)) : FVec F S8x400 .f32)) : FVec F S8x400 .f32)) : FVec F S8x400 .f32) (at1 (stepNo k 6#32))
      = Prog.ret (⟨(nmsStep x1 y1 x2 y2 w ar (stepNo k 6#32) a), (stepNo k 7#32), (at1 (stepNo k 7#32)), (taken (atSlot (stepNo k 7#32)) x1), (taken (atSlot (stepNo k 7#32)) y1), (taken (atSlot (stepNo k 7#32)) x2), (taken (atSlot (stepNo k 7#32)) y2), (taken (atSlot (stepNo k 7#32)) ar), (taken (atSlot (stepNo k 7#32)) (nmsStep x1 y1 x2 y2 w ar (stepNo k 6#32) a)), ((Scalar.ofBits .f32 0x00000000#32) : F .f32)⟩) := rfl

end Cert.KernelIdeal.Gen
-- ==== Proof.Trips.lean ====
/- A trip of each of the three short loops is eight of its steps. -/
module

public import proofs.«01_k».proof.Proof.Select
public import proofs.«01_k».proof.Proof.Suppress

@[expose] public section

noncomputable section

namespace Cert.KernelIdeal.Gen

open Idealize.ShloMosaic Idealize.SL.Sem Cert.Detect
open Cert.KernelIdeal.Facts₀ Cert.KernelIdeal.Facts

variable {F : FTy → Type} [FloatOps F]

set_option maxRecDepth 8192
set_option maxHeartbeats 800000

variable (arg0 : Memref sig .tc .vmem S25x8x5120 .f32) (harg0 : arg0.IsWhole) (arg1 : Memref sig .tc .vmem S4x5120 .f32) (harg1 : arg1.IsWhole)
  (arg2 : Memref sig .tc .vmem S8x200 .f32) (harg2 : arg2.IsWhole) (arg3 : Memref sig .tc .vmem S8x200 .f32) (harg3 : arg3.IsWhole) (arg4 : Memref sig .tc .vmem S8x200 .f32) (harg4 : arg4.IsWhole) (arg5 : Memref sig .tc .vmem S8x200 .f32) (harg5 : arg5.IsWhole) (arg6 : Memref sig .tc .vmem S8x200 .f32) (harg6 : arg6.IsWhole) (arg7 : Memref sig .tc .vmem S8x200 .f32) (harg7 : arg7.IsWhole)

/-- Running a finished program first. -/
theorem bindRet {ε : Type → Type} {α β : Type} {p : Prog ε α} {a : α} (h : p = Prog.ret a) (f : α → Prog ε β) :
    (p >>= f) = f a := by rw [h]; rfl

/-- All pieces but the last of a trip, one after another. -/
theorem k0_part26_eq (k : Fin k0_t3_loop.trips) (x1 y1 x2 y2 w ar : FVec F S8x400 .f32) (a : FVec F S8x400 .f32) (a1 a2 a3 a4 a5 a6 a7 a8 : FVec F S8x400 .f32)
    (h1 : a1 = nmsStep x1 y1 x2 y2 w ar (stepNo k 0#32) a)
    (h2 : a2 = nmsStep x1 y1 x2 y2 w ar (stepNo k 1#32) a1)
    (h3 : a3 = nmsStep x1 y1 x2 y2 w ar (stepNo k 2#32) a2)
    (h4 : a4 = nmsStep x1 y1 x2 y2 w ar (stepNo k 3#32) a3)
    (h5 : a5 = nmsStep x1 y1 x2 y2 w ar (stepNo k 4#32) a4)
    (h6 : a6 = nmsStep x1 y1 x2 y2 w ar (stepNo k 5#32) a5)
    (h7 : a7 = nmsStep x1 y1 x2 y2 w ar (stepNo k 6#32) a6)
    (h8 : a8 = nmsStep x1 y1 x2 y2 w ar (stepNo k 7#32) a7) :
    k0_part26 arg0 harg0 arg1 harg1 arg2 harg2 arg3 harg3 arg4 harg4 arg5 harg5 arg6 harg6 arg7 harg7 slots x1 y1 x2 y2 w ar (0#32 : BitVec 32) (1#32 : BitVec 32) k a
      = Prog.ret (⟨a7, (stepNo k 7#32), (keptAt w a7 (stepNo k 7#32)), ((sitofp .f32 ((extui 32 (hits x1 y1 x2 y2 w ar a7 (stepNo k 7#32)) natLt_1_32) : IVec S8x400 32)) : FVec F S8x400 .f32)⟩) := by
  subst h1 h2 h3 h4 h5 h6 h7 h8
  unfold k0_part26
  refine (bindRet (k0_part12_eq arg0 harg0 arg1 harg1 arg2 harg2 arg3 harg3 arg4 harg4 arg5 harg5 arg6 harg6 arg7 harg7 k x1 y1 x2 y2 w ar
    a) _).trans ?_
  refine (bindRet (k0_part13_eq arg0 harg0 arg1 harg1 arg2 harg2 arg3 harg3 arg4 harg4 arg5 harg5 arg6 harg6 arg7 harg7 k x1 y1 x2 y2 w ar
    a) _).trans ?_
  refine (bindRet (k0_part14_eq arg0 harg0 arg1 harg1 arg2 harg2 arg3 harg3 arg4 harg4 arg5 harg5 arg6 harg6 arg7 harg7 k x1 y1 x2 y2 w ar
    (nmsStep x1 y1 x2 y2 w ar (stepNo k 0#32) a)) _).trans ?_
  refine (bindRet (k0_part15_eq arg0 harg0 arg1 harg1 arg2 harg2 arg3 harg3 arg4 harg4 arg5 harg5 arg6 harg6 arg7 harg7 k x1 y1 x2 y2 w ar
    (nmsStep x1 y1 x2 y2 w ar (stepNo k 0#32) a)) _).trans ?_
  refine (bindRet (k0_part16_eq arg0 harg0 arg1 harg1 arg2 harg2 arg3 harg3 arg4 harg4 arg5 harg5 arg6 harg6 arg7 harg7 k x1 y1 x2 y2 w ar
    (nmsStep x1 y1 x2 y2 w ar (stepNo k 1#32) (nmsStep x1 y1 x2 y2 w ar (stepNo k 0#32) a))) _).trans ?_
  refine (bindRet (k0_part17_eq arg0 harg0 arg1 harg1 arg2 harg2 arg3 harg3 arg4 harg4 arg5 harg5 arg6 harg6 arg7 harg7 k x1 y1 x2 y2 w ar
    (nmsStep x1 y1 x2 y2 w ar (stepNo k 1#32) (nmsStep x1 y1 x2 y2 w ar (stepNo k 0#32) a))) _).trans ?_
  refine (bindRet (k0_part18_eq arg0 harg0 arg1 harg1 arg2 harg2 arg3 harg3 arg4 harg4 arg5 harg5 arg6 harg6 arg7 harg7 k x1 y1 x2 y2 w ar
    (nmsStep x1 y1 x2 y2 w ar (stepNo k 2#32) (nmsStep x1 y1 x2 y2 w ar (stepNo k 1#32) (nmsStep x1 y1 x2 y2 w ar (stepNo k 0#32) a)))) _).trans ?_
  refine (bindRet (k0_part19_eq arg0 harg0 arg1 harg1 arg2 harg2 arg3 harg3 arg4 harg4 arg5 harg5 arg6 harg6 arg7 harg7 k x1 y1 x2 y2 w ar
    (nmsStep x1 y1 x2 y2 w ar (stepNo k 2#32) (nmsStep x1 y1 x2 y2 w ar (stepNo k 1#32) (nmsStep x1 y1 x2 y2 w ar (stepNo k 0#32) a)))) _).trans ?_
  refine (bindRet (k0_part20_eq arg0 harg0 arg1 harg1 arg2 harg2 arg3 harg3 arg4 harg4 arg5 harg5 arg6 harg6 arg7 harg7 k x1 y1 x2 y2 w ar
    (nmsStep x1 y1 x2 y2 w ar (stepNo k 3#32) (nmsStep x1 y1 x2 y2 w ar (stepNo k 2#32) (nmsStep x1 y1 x2 y2 w ar (stepNo k 1#32) (nmsStep x1 y1 x2 y2 w ar (stepNo k 0#32) a))))) _).trans ?_
  refine (bindRet (k0_part21_eq arg0 harg0 arg1 harg1 arg2 harg2 arg3 harg3 arg4 harg4 arg5 harg5 arg6 harg6 arg7 harg7 k x1 y1 x2 y2 w ar
    (nmsStep x1 y1 x2 y2 w ar (stepNo k 3#32) (nmsStep x1 y1 x2 y2 w ar (stepNo k 2#32) (nmsStep x1 y1 x2 y2 w ar (stepNo k 1#32) (nmsStep x1 y1 x2 y2 w ar (stepNo k 0#32) a))))) _).trans ?_
  refine (bindRet (k0_part22_eq arg0 harg0 arg1 harg1 arg2 harg2 arg3 harg3 arg4 harg4 arg5 harg5 arg6 harg6 arg7 harg7 k x1 y1 x2 y2 w ar
    (nmsStep x1 y1 x2 y2 w ar (stepNo k 4#32) (nmsStep x1 y1 x2 y2 w ar (stepNo k 3#32) (nmsStep x1 y1 x2 y2 w ar (stepNo k 2#32) (nmsStep x1 y1 x2 y2 w ar (stepNo k 1#32) (nmsStep x1 y1 x2 y2 w ar (stepNo k 0#32) a)))))) _).trans ?_
  refine (bindRet (k0_part23_eq arg0 harg0 arg1 harg1 arg2 harg2 arg3 harg3 arg4 harg4 arg5 harg5 arg6 harg6 arg7 harg7 k x1 y1 x2 y2 w ar
    (nmsStep x1 y1 x2 y2 w ar (stepNo k 4#32) (nmsStep x1 y1 x2 y2 w ar (stepNo k 3#32) (nmsStep x1 y1 x2 y2 w ar (stepNo k 2#32) (nmsStep x1 y1 x2 y2 w ar (stepNo k 1#32) (nmsStep x1 y1 x2 y2 w ar (stepNo k 0#32) a)))))) _).trans ?_
  refine (bindRet (k0_part24_eq arg0 harg0 arg1 harg1 arg2 harg2 arg3 harg3 arg4 harg4 arg5 harg5 arg6 harg6 arg7 harg7 k x1 y1 x2 y2 w ar
    (nmsStep x1 y1 x2 y2 w ar (stepNo k 5#32) (nmsStep x1 y1 x2 y2 w ar (stepNo k 4#32) (nmsStep x1 y1 x2 y2 w ar (stepNo k 3#32) (nmsStep x1 y1 x2 y2 w ar (stepNo k 2#32) (nmsStep x1 y1 x2 y2 w ar (stepNo k 1#32) (nmsStep x1 y1 x2 y2 w ar (stepNo k 0#32) a))))))) _).trans ?_
  refine (bindRet (k0_part25_eq arg0 harg0 arg1 harg1 arg2 harg2 arg3 harg3 arg4 harg4 arg5 harg5 arg6 harg6 arg7 harg7 k x1 y1 x2 y2 w ar
    (nmsStep x1 y1 x2 y2 w ar (stepNo k 5#32) (nmsStep x1 y1 x2 y2 w ar (stepNo k 4#32) (nmsStep x1 y1 x2 y2 w ar (stepNo k 3#32) (nmsStep x1 y1 x2 y2 w ar (stepNo k 2#32) (nmsStep x1 y1 x2 y2 w ar (stepNo k 1#32) (nmsStep x1 y1 x2 y2 w ar (stepNo k 0#32) a))))))) _).trans ?_
  rfl

/-- A trip of the suppression rounds is eight of them. -/
theorem k0_t3_body_eq (v1207 v1211 v1215 : FVec F S8x5120 .f32) (v1230 : IVec S8x5120 1) (v1234 : FVec F S8x5120 .f32)
    (v1238 : IVec S8x5120 32) (v1242 v1246 v1249 : FVec F S8x5120 .f32) (v x1 y1 x2 y2 : FVec F S8x400 .f32)
    (k : Fin k0_t3_loop.trips) (a : FVec F S8x400 .f32) :
    k0_t3_body arg0 harg0 arg1 harg1 arg2 harg2 arg3 harg3 arg4 harg4 arg5 harg5 arg6 harg6 arg7 harg7 slots v1207 v1211 v1215 v1230 v1234 v1238 v1242 v1246 v1249 v x1 y1 x2 y2 k a
      = Prog.ret (eight (nmsStep x1 y1 x2 y2 (valid v) (area x1 y1 x2 y2)) k a) :=
  (bindRet (k0_part26_eq arg0 harg0 arg1 harg1 arg2 harg2 arg3 harg3 arg4 harg4 arg5 harg5 arg6 harg6 arg7 harg7 k x1 y1 x2 y2 (valid v) (area x1 y1 x2 y2) a _ _ _ _ _ _ _ _
    rfl rfl rfl rfl rfl rfl rfl rfl) _).trans rfl

/-- All pieces but the last of a trip, one after another. -/
theorem k0_part11_eq (k : Fin k0_t2_loop.trips) (n : IVec S8x400 32) (x1 y1 x2 y2 l : FVec F S8x400 .f32) (a : Carry F) (a1 a2 a3 a4 a5 a6 a7 a8 : Carry F)
    (h1 : a1 = sortStep n x1 y1 x2 y2 l (stepNo k 0#32) a)
    (h2 : a2 = sortStep n x1 y1 x2 y2 l (stepNo k 1#32) a1)
    (h3 : a3 = sortStep n x1 y1 x2 y2 l (stepNo k 2#32) a2)
    (h4 : a4 = sortStep n x1 y1 x2 y2 l (stepNo k 3#32) a3)
    (h5 : a5 = sortStep n x1 y1 x2 y2 l (stepNo k 4#32) a4)
    (h6 : a6 = sortStep n x1 y1 x2 y2 l (stepNo k 5#32) a5)
    (h7 : a7 = sortStep n x1 y1 x2 y2 l (stepNo k 6#32) a6)
    (h8 : a8 = sortStep n x1 y1 x2 y2 l (stepNo k 7#32) a7) :
    k0_part11 arg0 harg0 arg1 harg1 arg2 harg2 arg3 harg3 arg4 harg4 arg5 harg5 arg6 harg6 arg7 harg7 slots n x1 y1 x2 y2 l (0#32 : BitVec 32) (1#32 : BitVec 32) k a.1 a.2.1 a.2.2.1 a.2.2.2.1 a.2.2.2.2.1 a.2.2.2.2.2.1 a.2.2.2.2.2.2
      = Prog.ret (⟨a7.2.2.2.2.2.2, a7.1, (winner n a7.1), a8.2.1, a8.2.2.1, a8.2.2.2.1, a8.2.2.2.2.1, a8.2.2.2.2.2.1, (taken (winner n a7.1) l), ((shapeCast S1x400 (at1 (stepNo k 7#32)) shapeCasts_S1x400_S1x400) : IVec S1x400 1)⟩) := by
  subst h1 h2 h3 h4 h5 h6 h7 h8
  unfold k0_part11
  refine (bindRet (k0_part1_eq arg0 harg0 arg1 harg1 arg2 harg2 arg3 harg3 arg4 harg4 arg5 harg5 arg6 harg6 arg7 harg7 k n x1 y1 x2 y2 l
    a) _).trans ?_
  refine (bindRet (k0_part2_eq arg0 harg0 arg1 harg1 arg2 harg2 arg3 harg3 arg4 harg4 arg5 harg5 arg6 harg6 arg7 harg7 k n x1 y1 x2 y2 l
    a) _).trans ?_
  refine (bindRet (k0_part3_eq arg0 harg0 arg1 harg1 arg2 harg2 arg3 harg3 arg4 harg4 arg5 harg5 arg6 harg6 arg7 harg7 k n x1 y1 x2 y2 l
    a) _).trans ?_
  refine (bindRet (k0_part4_eq arg0 harg0 arg1 harg1 arg2 harg2 arg3 harg3 arg4 harg4 arg5 harg5 arg6 harg6 arg7 harg7 k n x1 y1 x2 y2 l
    (sortStep n x1 y1 x2 y2 l (stepNo k 0#32) a)) _).trans ?_
  refine (bindRet (k0_part5_eq arg0 harg0 arg1 harg1 arg2 harg2 arg3 harg3 arg4 harg4 arg5 harg5 arg6 harg6 arg7 harg7 k n x1 y1 x2 y2 l
    (sortStep n x1 y1 x2 y2 l (stepNo k 0#32) a)) _).trans ?_
  refine (bindRet (k0_part6_eq arg0 harg0 arg1 harg1 arg2 harg2 arg3 harg3 arg4 harg4 arg5 harg5 arg6 harg6 arg7 harg7 k n x1 y1 x2 y2 l
    (sortStep n x1 y1 x2 y2 l (stepNo k 1#32) (sortStep n x1 y1 x2 y2 l (stepNo k 0#32) a))) _).trans ?_
  refine (bindRet (k0_part7_eq arg0 harg0 arg1 harg1 arg2 harg2 arg3 harg3 arg4 harg4 arg5 harg5 arg6 harg6 arg7 harg7 k n x1 y1 x2 y2 l
    (sortStep n x1 y1 x2 y2 l (stepNo k 2#32) (sortStep n x1 y1 x2 y2 l (stepNo k 1#32) (sortStep n x1 y1 x2 y2 l (stepNo k 0#32) a)))) _).trans ?_
  refine (bindRet (k0_part8_eq arg0 harg0 arg1 harg1 arg2 harg2 arg3 harg3 arg4 harg4 arg5 harg5 arg6 harg6 arg7 harg7 k n x1 y1 x2 y2 l
    (sortStep n x1 y1 x2 y2 l (stepNo k 3#32) (sortStep n x1 y1 x2 y2 l (stepNo k 2#32) (sortStep n x1 y1 x2 y2 l (stepNo k 1#32) (sortStep n x1 y1 x2 y2 l (stepNo k 0#32) a))))) _).trans ?_
  refine (bindRet (k0_part9_eq arg0 harg0 arg1 harg1 arg2 harg2 arg3 harg3 arg4 harg4 arg5 harg5 arg6 harg6 arg7 harg7 k n x1 y1 x2 y2 l
    (sortStep n x1 y1 x2 y2 l (stepNo k 3#32) (sortStep n x1 y1 x2 y2 l (stepNo k 2#32) (sortStep n x1 y1 x2 y2 l (stepNo k 1#32) (sortStep n x1 y1 x2 y2 l (stepNo k 0#32) a))))) _).trans ?_
  refine (bindRet (k0_part10_eq arg0 harg0 arg1 harg1 arg2 harg2 arg3 harg3 arg4 harg4 arg5 harg5 arg6 harg6 arg7 harg7 k n x1 y1 x2 y2 l
    (sortStep n x1 y1 x2 y2 l (stepNo k 4#32) (sortStep n x1 y1 x2 y2 l (stepNo k 3#32) (sortStep n x1 y1 x2 y2 l (stepNo k 2#32) (sortStep n x1 y1 x2 y2 l (stepNo k 1#32) (sortStep n x1 y1 x2 y2 l (stepNo k 0#32) a)))))) _).trans ?_
  rfl

/-- A trip of the selection rounds is eight of them. -/
theorem k0_t2_body_eq (v1207 v1211 v1215 : FVec F S8x5120 .f32) (v1230 : IVec S8x5120 1) (v1234 : FVec F S8x5120 .f32)
    (v1238 : IVec S8x5120 32) (v1242 v1246 v1249 : FVec F S8x5120 .f32) (k : Fin k0_t2_loop.trips) (a : Carry F) :
    k0_t2_body arg0 harg0 arg1 harg1 arg2 harg2 arg3 harg3 arg4 harg4 arg5 harg5 arg6 harg6 arg7 harg7 slots v1207 v1211 v1215 v1230 v1234 v1238 v1242 v1246 v1249 k a
      = Prog.ret (eight (sortStep (head v1238) (head v1242) (head v1246) (k0_pay403 v1207 v1230 v1249)
          (k0_pay404 v1211 v1230) (k0_pay405 v1215 v1230)) k a) :=
  (bindRet (k0_part11_eq arg0 harg0 arg1 harg1 arg2 harg2 arg3 harg3 arg4 harg4 arg5 harg5 arg6 harg6 arg7 harg7 k (head v1238) (head v1242) (head v1246) (k0_pay403 v1207 v1230 v1249)
    (k0_pay404 v1211 v1230) (k0_pay405 v1215 v1230) a _ _ _ _ _ _ _ _
    rfl rfl rfl rfl rfl rfl rfl rfl) _).trans rfl

/-- A trip of the placing is eight of its steps. -/
theorem k0_t4_body_eq (v1207 v1211 v1215 : FVec F S8x5120 .f32) (v1230 : IVec S8x5120 1) (v1234 : FVec F S8x5120 .f32)
    (v1238 : IVec S8x5120 32) (v1242 v1246 v1249 : FVec F S8x5120 .f32) (y keep : FVec F S8x400 .f32)
    (k : Fin k0_t4_loop.trips) (a : IVec S8x400 32) :
    k0_t4_body arg0 harg0 arg1 harg1 arg2 harg2 arg3 harg3 arg4 harg4 arg5 harg5 arg6 harg6 arg7 harg7 slots v1207 v1211 v1215 v1230 v1234 v1238 v1242 v1246 v1249 y keep k a
      = Prog.ret (eight (placeStep y keep) k a) := rfl

end Cert.KernelIdeal.Gen
-- ==== Proof.Middle.lean ====
/- The pieces between the key and the selection rounds: the two searches, the running count and the moves. -/
module

public import proofs.«01_k».proof.Proof.Gen.KernelIdeal.Skeleton
public import proofs.«01_k».proof.Proof.Stages

@[expose] public section

noncomputable section

namespace Cert.KernelIdeal.Gen

open Idealize.ShloMosaic Idealize.SL.Sem Cert.Detect
open Cert.KernelIdeal.Facts₀ Cert.KernelIdeal.Facts

variable {F : FTy → Type} [FloatOps F]

set_option maxRecDepth 8192
set_option maxHeartbeats 800000

variable (arg0 : Memref sig .tc .vmem S25x8x5120 .f32) (harg0 : arg0.IsWhole) (arg1 : Memref sig .tc .vmem S4x5120 .f32) (harg1 : arg1.IsWhole)
  (arg2 : Memref sig .tc .vmem S8x200 .f32) (harg2 : arg2.IsWhole) (arg3 : Memref sig .tc .vmem S8x200 .f32) (harg3 : arg3.IsWhole) (arg4 : Memref sig .tc .vmem S8x200 .f32) (harg4 : arg4.IsWhole) (arg5 : Memref sig .tc .vmem S8x200 .f32) (harg5 : arg5.IsWhole) (arg6 : Memref sig .tc .vmem S8x200 .f32) (harg6 : arg6.IsWhole) (arg7 : Memref sig .tc .vmem S8x200 .f32) (harg7 : arg7.IsWhole)

/-- Piece 1 between the key and the selection rounds. -/
theorem k0_part36_eq (k : IVec S8x5120 32) (t : IVec S8x1 32) :
    k0_part36 (F := F) arg0 harg0 arg1 harg1 arg2 harg2 arg3 harg3 arg4 harg4 arg5 harg5 arg6 harg6 arg7 harg7 k
      = Prog.ret (⟨(bitStep (keyPass k) (broadcast S8x1 400#32) (bitStep (keyPass k) (broadcast S8x1 400#32) (bitStep (keyPass k) (broadcast S8x1 400#32) (bitStep (keyPass k) (broadcast S8x1 400#32) (broadcast S8x1 0#32) 2147483648#32) 1073741824#32) 536870912#32) 268435456#32), ((ori (bitStep (keyPass k) (broadcast S8x1 400#32) (bitStep (keyPass k) (broadcast S8x1 400#32) (bitStep (keyPass k) (broadcast S8x1 400#32) (bitStep (keyPass k) (broadcast S8x1 400#32) (broadcast S8x1 0#32) 2147483648#32) 1073741824#32) 536870912#32) 268435456#32) ((broadcast S8x1 (134217728#32 : BitVec 32)) : IVec S8x1 32)) : IVec S8x1 32), ((cmpi .uge k ((broadcastTo S8x5120 ((ori (bitStep (keyPass k) (broadcast S8x1 400#32) (bitStep (keyPass k) (broadcast S8x1 400#32) (bitStep (keyPass k) (broadcast S8x1 400#32) (bitStep (keyPass k) (broadcast S8x1 400#32) (broadcast S8x1 0#32) 2147483648#32) 1073741824#32) 536870912#32) 268435456#32) ((broadcast S8x1 (134217728#32 : BitVec 32)) : IVec S8x1 32)) : IVec S8x1 32) broadcasts_S8x1_S8x5120) : IVec S8x5120 32)) : IVec S8x5120 1)⟩) := rfl

/-- Piece 2 between the key and the selection rounds. -/
theorem k0_part37_eq (k : IVec S8x5120 32) (t : IVec S8x1 32) :
    k0_part37 (F := F) arg0 harg0 arg1 harg1 arg2 harg2 arg3 harg3 arg4 harg4 arg5 harg5 arg6 harg6 arg7 harg7 k t ((ori t ((broadcast S8x1 (134217728#32 : BitVec 32)) : IVec S8x1 32)) : IVec S8x1 32) ((cmpi .uge k ((broadcastTo S8x5120 ((ori t ((broadcast S8x1 (134217728#32 : BitVec 32)) : IVec S8x1 32)) : IVec S8x1 32) broadcasts_S8x1_S8x5120) : IVec S8x5120 32)) : IVec S8x5120 1)
      = Prog.ret ((bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) t 134217728#32) 67108864#32) 33554432#32) 16777216#32) 8388608#32)) := rfl

/-- Piece 3 between the key and the selection rounds. -/
theorem k0_part38_eq (k : IVec S8x5120 32) (t : IVec S8x1 32) :
    k0_part38 (F := F) arg0 harg0 arg1 harg1 arg2 harg2 arg3 harg3 arg4 harg4 arg5 harg5 arg6 harg6 arg7 harg7 k t
      = Prog.ret (⟨(bitStep (keyPass k) (broadcast S8x1 400#32) (bitStep (keyPass k) (broadcast S8x1 400#32) (bitStep (keyPass k) (broadcast S8x1 400#32) (bitStep (keyPass k) (broadcast S8x1 400#32) t 4194304#32) 2097152#32) 1048576#32) 524288#32), ((ori (bitStep (keyPass k) (broadcast S8x1 400#32) (bitStep (keyPass k) (broadcast S8x1 400#32) (bitStep (keyPass k) (broadcast S8x1 400#32) (bitStep (keyPass k) (broadcast S8x1 400#32) t 4194304#32) 2097152#32) 1048576#32) 524288#32) ((broadcast S8x1 (262144#32 : BitVec 32)) : IVec S8x1 32)) : IVec S8x1 32), ((multiReductionI .add [1] S8 ((extui 32 ((cmpi .uge k ((broadcastTo S8x5120 ((ori (bitStep (keyPass k) (broadcast S8x1 400#32) (bitStep (keyPass k) (broadcast S8x1 400#32) (bitStep (keyPass k) (broadcast S8x1 400#32) (bitStep (keyPass k) (broadcast S8x1 400#32) t 4194304#32) 2097152#32) 1048576#32) 524288#32) ((broadcast S8x1 (262144#32 : BitVec 32)) : IVec S8x1 32)) : IVec S8x1 32) broadcasts_S8x1_S8x5120) : IVec S8x5120 32)) : IVec S8x5120 1) natLt_1_32) : IVec S8x5120 32) 0#32 reduces_S8x5120_S8 rfl) : IVec S8 32)⟩) := rfl

/-- Piece 4 between the key and the selection rounds. -/
theorem k0_part39_eq (k : IVec S8x5120 32) (t : IVec S8x1 32) :
    k0_part39 (F := F) arg0 harg0 arg1 harg1 arg2 harg2 arg3 harg3 arg4 harg4 arg5 harg5 arg6 harg6 arg7 harg7 k t ((ori t ((broadcast S8x1 (262144#32 : BitVec 32)) : IVec S8x1 32)) : IVec S8x1 32) ((multiReductionI .add [1] S8 ((extui 32 ((cmpi .uge k ((broadcastTo S8x5120 ((ori t ((broadcast S8x1 (262144#32 : BitVec 32)) : IVec S8x1 32)) : IVec S8x1 32) broadcasts_S8x1_S8x5120) : IVec S8x5120 32)) : IVec S8x5120 1) natLt_1_32) : IVec S8x5120 32) 0#32 reduces_S8x5120_S8 rfl) : IVec S8 32)
      = Prog.ret (⟨(bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) t 262144#32) 131072#32) 65536#32) 32768#32) 16384#32), ((ori (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) t 262144#32) 131072#32) 65536#32) 32768#32) 16384#32) ((broadcast S8x1 (8192#32 : BitVec 32)) : IVec S8x1 32)) : IVec S8x1 32)⟩) := rfl

/-- Piece 5 between the key and the selection rounds. -/
theorem k0_part40_eq (k : IVec S8x5120 32) (t : IVec S8x1 32) :
    k0_part40 (F := F) arg0 harg0 arg1 harg1 arg2 harg2 arg3 harg3 arg4 harg4 arg5 harg5 arg6 harg6 arg7 harg7 k t ((ori t ((broadcast S8x1 (8192#32 : BitVec 32)) : IVec S8x1 32)) : IVec S8x1 32)
      = Prog.ret (⟨(bitStep (keyPass k) (broadcast S8x1 400#32) (bitStep (keyPass k) (broadcast S8x1 400#32) (bitStep (keyPass k) (broadcast S8x1 400#32) (bitStep (keyPass k) (broadcast S8x1 400#32) t 8192#32) 4096#32) 2048#32) 1024#32), ((ori (bitStep (keyPass k) (broadcast S8x1 400#32) (bitStep (keyPass k) (broadcast S8x1 400#32) (bitStep (keyPass k) (broadcast S8x1 400#32) (bitStep (keyPass k) (broadcast S8x1 400#32) t 8192#32) 4096#32) 2048#32) 1024#32) ((broadcast S8x1 (512#32 : BitVec 32)) : IVec S8x1 32)) : IVec S8x1 32), ((shapeCast S8x1 ((multiReductionI .add [1] S8 ((extui 32 ((cmpi .uge k ((broadcastTo S8x5120 ((ori (bitStep (keyPass k) (broadcast S8x1 400#32) (bitStep (keyPass k) (broadcast S8x1 400#32) (bitStep (keyPass k) (broadcast S8x1 400#32) (bitStep (keyPass k) (broadcast S8x1 400#32) t 8192#32) 4096#32) 2048#32) 1024#32) ((broadcast S8x1 (512#32 : BitVec 32)) : IVec S8x1 32)) : IVec S8x1 32) broadcasts_S8x1_S8x5120) : IVec S8x5120 32)) : IVec S8x5120 1) natLt_1_32) : IVec S8x5120 32) 0#32 reduces_S8x5120_S8 rfl) : IVec S8 32) shapeCasts_S8_S8x1) : IVec S8x1 32), ((broadcast S8x1 (400#32 : BitVec 32)) : IVec S8x1 32)⟩) := rfl

/-- Piece 6 between the key and the selection rounds. -/
theorem k0_part41_eq (k : IVec S8x5120 32) (t : IVec S8x1 32) :
    k0_part41 (F := F) arg0 harg0 arg1 harg1 arg2 harg2 arg3 harg3 arg4 harg4 arg5 harg5 arg6 harg6 arg7 harg7 k t ((ori t ((broadcast S8x1 (512#32 : BitVec 32)) : IVec S8x1 32)) : IVec S8x1 32) ((shapeCast S8x1 ((multiReductionI .add [1] S8 ((extui 32 ((cmpi .uge k ((broadcastTo S8x5120 ((ori t ((broadcast S8x1 (512#32 : BitVec 32)) : IVec S8x1 32)) : IVec S8x1 32) broadcasts_S8x1_S8x5120) : IVec S8x5120 32)) : IVec S8x5120 1) natLt_1_32) : IVec S8x5120 32) 0#32 reduces_S8x5120_S8 rfl) : IVec S8 32) shapeCasts_S8_S8x1) : IVec S8x1 32) ((broadcast S8x1 (400#32 : BitVec 32)) : IVec S8x1 32)
      = Prog.ret (⟨(bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) t 512#32) 256#32) 128#32) 64#32) 32#32), ((ori (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) t 512#32) 256#32) 128#32) 64#32) 32#32) ((broadcast S8x1 (16#32 : BitVec 32)) : IVec S8x1 32)) : IVec S8x1 32), ((extui 32 ((cmpi .uge k ((broadcastTo S8x5120 ((ori (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) t 512#32) 256#32) 128#32) 64#32) 32#32) ((broadcast S8x1 (16#32 : BitVec 32)) : IVec S8x1 32)) : IVec S8x1 32) broadcasts_S8x1_S8x5120) : IVec S8x5120 32)) : IVec S8x5120 1) natLt_1_32) : IVec S8x5120 32)⟩) := rfl

/-- Piece 7 between the key and the selection rounds. -/
theorem k0_part42_eq (k : IVec S8x5120 32) (t : IVec S8x1 32) :
    k0_part42 (F := F) arg0 harg0 arg1 harg1 arg2 harg2 arg3 harg3 arg4 harg4 arg5 harg5 arg6 harg6 arg7 harg7 k t ((ori t ((broadcast S8x1 (16#32 : BitVec 32)) : IVec S8x1 32)) : IVec S8x1 32) ((extui 32 ((cmpi .uge k ((broadcastTo S8x5120 ((ori t ((broadcast S8x1 (16#32 : BitVec 32)) : IVec S8x1 32)) : IVec S8x1 32) broadcasts_S8x1_S8x5120) : IVec S8x5120 32)) : IVec S8x5120 1) natLt_1_32) : IVec S8x5120 32)
      = Prog.ret (⟨(bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) t 16#32) 8#32) 4#32) 2#32) 1#32), ((broadcastTo S8x5120 (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) t 16#32) 8#32) 4#32) 2#32) 1#32) broadcasts_S8x1_S8x5120) : IVec S8x5120 32)⟩) := rfl

/-- Piece 8 between the key and the selection rounds. -/
theorem k0_part43_eq (k : IVec S8x5120 32) (t u : IVec S8x1 32) :
    k0_part43 (F := F) arg0 harg0 arg1 harg1 arg2 harg2 arg3 harg3 arg4 harg4 arg5 harg5 arg6 harg6 arg7 harg7 lanes k t ((broadcastTo S8x5120 t broadcasts_S8x1_S8x5120) : IVec S8x5120 32)
      = Prog.ret (⟨(ties k t), (wanted k t), back, (bitStep (fun u => andi (ties k t) (early u)) (wanted k t) (bitStep (fun u => andi (ties k t) (early u)) (wanted k t) (bitStep (fun u => andi (ties k t) (early u)) (wanted k t) (broadcast S8x1 0#32) 4096#32) 2048#32) 1024#32), ((ori (bitStep (fun u => andi (ties k t) (early u)) (wanted k t) (bitStep (fun u => andi (ties k t) (early u)) (wanted k t) (bitStep (fun u => andi (ties k t) (early u)) (wanted k t) (broadcast S8x1 0#32) 4096#32) 2048#32) 1024#32) ((broadcast S8x1 (512#32 : BitVec 32)) : IVec S8x1 32)) : IVec S8x1 32), ((multiReductionI .add [1] S8 ((extui 32 ((andi (ties k t) ((cmpi .sge back ((broadcastTo S8x5120 ((ori (bitStep (fun u => andi (ties k t) (early u)) (wanted k t) (bitStep (fun u => andi (ties k t) (early u)) (wanted k t) (bitStep (fun u => andi (ties k t) (early u)) (wanted k t) (broadcast S8x1 0#32) 4096#32) 2048#32) 1024#32) ((broadcast S8x1 (512#32 : BitVec 32)) : IVec S8x1 32)) : IVec S8x1 32) broadcasts_S8x1_S8x5120) : IVec S8x5120 32)) : IVec S8x5120 1)) : IVec S8x5120 1) natLt_1_32) : IVec S8x5120 32) 0#32 reduces_S8x5120_S8 rfl) : IVec S8 32)⟩) := rfl

/-- Piece 9 between the key and the selection rounds. -/
theorem k0_part44_eq (k : IVec S8x5120 32) (t u : IVec S8x1 32) :
    k0_part44 (F := F) arg0 harg0 arg1 harg1 arg2 harg2 arg3 harg3 arg4 harg4 arg5 harg5 arg6 harg6 arg7 harg7 (ties k t) (wanted k t) back u ((ori u ((broadcast S8x1 (512#32 : BitVec 32)) : IVec S8x1 32)) : IVec S8x1 32) ((multiReductionI .add [1] S8 ((extui 32 ((andi (ties k t) ((cmpi .sge back ((broadcastTo S8x5120 ((ori u ((broadcast S8x1 (512#32 : BitVec 32)) : IVec S8x1 32)) : IVec S8x1 32) broadcasts_S8x1_S8x5120) : IVec S8x5120 32)) : IVec S8x5120 1)) : IVec S8x5120 1) natLt_1_32) : IVec S8x5120 32) 0#32 reduces_S8x5120_S8 rfl) : IVec S8 32)
      = Prog.ret (⟨(bitStep (fun u => andi (ties k t) (early u)) (wanted k t) (bitStep (fun u => andi (ties k t) (early u)) (wanted k t) (bitStep (fun u => andi (ties k t) (early u)) (wanted k t) (bitStep (fun u => andi (ties k t) (early u)) (wanted k t) (bitStep (fun u => andi (ties k t) (early u)) (wanted k t) u 512#32) 256#32) 128#32) 64#32) 32#32), ((ori (bitStep (fun u => andi (ties k t) (early u)) (wanted k t) (bitStep (fun u => andi (ties k t) (early u)) (wanted k t) (bitStep (fun u => andi (ties k t) (early u)) (wanted k t) (bitStep (fun u => andi (ties k t) (early u)) (wanted k t) (bitStep (fun u => andi (ties k t) (early u)) (wanted k t) u 512#32) 256#32) 128#32) 64#32) 32#32) ((broadcast S8x1 (16#32 : BitVec 32)) : IVec S8x1 32)) : IVec S8x1 32), ((multiReductionI .add [1] S8 ((extui 32 ((andi (ties k t) ((cmpi .sge back ((broadcastTo S8x5120 ((ori (bitStep (fun u => andi (ties k t) (early u)) (wanted k t) (bitStep (fun u => andi (ties k t) (early u)) (wanted k t) (bitStep (fun u => andi (ties k t) (early u)) (wanted k t) (bitStep (fun u => andi (ties k t) (early u)) (wanted k t) (bitStep (fun u => andi (ties k t) (early u)) (wanted k t) u 512#32) 256#32) 128#32) 64#32) 32#32) ((broadcast S8x1 (16#32 : BitVec 32)) : IVec S8x1 32)) : IVec S8x1 32) broadcasts_S8x1_S8x5120) : IVec S8x5120 32)) : IVec S8x5120 1)) : IVec S8x5120 1) natLt_1_32) : IVec S8x5120 32) 0#32 reduces_S8x5120_S8 rfl) : IVec S8 32)⟩) := rfl

/-- Piece 10 between the key and the selection rounds. -/
theorem k0_part45_eq (k : IVec S8x5120 32) (t u : IVec S8x1 32) :
    k0_part45 (F := F) arg0 harg0 arg1 harg1 arg2 harg2 arg3 harg3 arg4 harg4 arg5 harg5 arg6 harg6 arg7 harg7 k t (ties k t) (wanted k t) back u ((ori u ((broadcast S8x1 (16#32 : BitVec 32)) : IVec S8x1 32)) : IVec S8x1 32) ((multiReductionI .add [1] S8 ((extui 32 ((andi (ties k t) ((cmpi .sge back ((broadcastTo S8x5120 ((ori u ((broadcast S8x1 (16#32 : BitVec 32)) : IVec S8x1 32)) : IVec S8x1 32) broadcasts_S8x1_S8x5120) : IVec S8x5120 32)) : IVec S8x5120 1)) : IVec S8x5120 1) natLt_1_32) : IVec S8x5120 32) 0#32 reduces_S8x5120_S8 rfl) : IVec S8 32)
      = Prog.ret (⟨((extui 32 (chosen k t (bitStep (fun u => andi (ties k t) (early u)) (wanted k t) (bitStep (fun u => andi (ties k t) (early u)) (wanted k t) (bitStep (fun u => andi (ties k t) (early u)) (wanted k t) (bitStep (fun u => andi (ties k t) (early u)) (wanted k t) (bitStep (fun u => andi (ties k t) (early u)) (wanted k t) u 16#32) 8#32) 4#32) 2#32) 1#32)) natLt_1_32) : IVec S8x5120 32), (broadcast S8x1 0#32)⟩) := rfl

/-- Piece 11 between the key and the selection rounds. -/
theorem k0_part46_eq (x : IVec S8x5120 32) :
    k0_part46 (F := F) arg0 harg0 arg1 harg1 arg2 harg2 arg3 harg3 arg4 harg4 arg5 harg5 arg6 harg6 arg7 harg7 x (broadcast S8x1 0#32)
      = Prog.ret (⟨(pushed S8x2048 S8x3072 concatenates_S8x2048_S8x3072_S8x5120_d1 slices_S8x5120_o0_0_S8x3072 (pushed S8x1024 S8x4096 concatenates_S8x1024_S8x4096_S8x5120_d1 slices_S8x5120_o0_0_S8x4096 (pushed S8x512 S8x4608 concatenates_S8x512_S8x4608_S8x5120_d1 slices_S8x5120_o0_0_S8x4608 (pushed S8x256 S8x4864 concatenates_S8x256_S8x4864_S8x5120_d1 slices_S8x5120_o0_0_S8x4864 (pushed S8x128 S8x4992 concatenates_S8x128_S8x4992_S8x5120_d1 slices_S8x5120_o0_0_S8x4992 (pushed S8x64 S8x5056 concatenates_S8x64_S8x5056_S8x5120_d1 slices_S8x5120_o0_0_S8x5056 (pushed S8x32 S8x5088 concatenates_S8x32_S8x5088_S8x5120_d1 slices_S8x5120_o0_0_S8x5088 (pushed S8x16 S8x5104 concatenates_S8x16_S8x5104_S8x5120_d1 slices_S8x5120_o0_0_S8x5104 (pushed S8x8 S8x5112 concatenates_S8x8_S8x5112_S8x5120_d1 slices_S8x5120_o0_0_S8x5112 (pushed S8x4 S8x5116 concatenates_S8x4_S8x5116_S8x5120_d1 slices_S8x5120_o0_0_S8x5116 (pushed S8x2 S8x5118 concatenates_S8x2_S8x5118_S8x5120_d1 slices_S8x5120_o0_0_S8x5118 (pushed S8x1 S8x5119 concatenates_S8x1_S8x5119_S8x5120_d1 slices_S8x5120_o0_0_S8x5119 x)))))))))))), ((broadcast S8x4096 (0#32 : BitVec 32)) : IVec S8x4096 32)⟩) := rfl

/-- Piece 12 between the key and the selection rounds. -/
theorem k0_part47_eq (x m d : IVec S8x5120 32) (s x1 y1 x2 y2 l : FVec F S8x5120 .f32) (a : Lot F)
    (hd : d = ((subi lanes ((subi (pushed S8x4096 S8x1024 concatenates_S8x4096_S8x1024_S8x5120_d1 slices_S8x5120_o0_0_S8x1024 x) m) : IVec S8x5120 32)) : IVec S8x5120 32))
    (ha : a = ⟨s, lanes, x1, y1, x2, y2, l, d⟩) :
    k0_part47 (F := F) arg0 harg0 arg1 harg1 arg2 harg2 arg3 harg3 arg4 harg4 arg5 harg5 arg6 harg6 arg7 harg7 x1 y1 x2 y2 l s lanes m x ((broadcast S8x4096 (0#32 : BitVec 32)) : IVec S8x4096 32)
      = Prog.ret (⟨(moveStep rot1 0#32 1#32 a).s, (moveStep rot1 0#32 1#32 a).n, (moveStep rot1 0#32 1#32 a).x1, (moveStep rot1 0#32 1#32 a).y1, (moveStep rot1 0#32 1#32 a).x2, (moveStep rot1 0#32 1#32 a).y2, (moveStep rot1 0#32 1#32 a).l, (moveStep rot1 0#32 1#32 a).d, ((shrsi (rot2 (moveStep rot1 0#32 1#32 a).d) ((broadcast S8x5120 (1#32 : BitVec 32)) : IVec S8x5120 32)) : IVec S8x5120 32), ((broadcast S8x5120 (1#32 : BitVec 32)) : IVec S8x5120 32)⟩) := by
  subst ha hd; rfl

/-- Piece 13 between the key and the selection rounds. -/
theorem k0_part48_eq (a : Lot F) :
    k0_part48 (F := F) arg0 harg0 arg1 harg1 arg2 harg2 arg3 harg3 arg4 harg4 arg5 harg5 arg6 harg6 arg7 harg7 a.s a.n a.x1 a.y1 a.x2 a.y2 a.l a.d ((shrsi (rot2 a.d) ((broadcast S8x5120 (1#32 : BitVec 32)) : IVec S8x5120 32)) : IVec S8x5120 32) ((broadcast S8x5120 (1#32 : BitVec 32)) : IVec S8x5120 32)
      = Prog.ret (⟨(moveStep rot2 1#32 2#32 a).x1, (moveStep rot2 1#32 2#32 a).y1, (moveStep rot2 1#32 2#32 a).x2, (moveStep rot2 1#32 2#32 a).y2, (moveStep rot2 1#32 2#32 a).l, (moveStep rot2 1#32 2#32 a).d, (moves rot4 2#32 (moveStep rot2 1#32 2#32 a).d), (moveStep rot4 2#32 4#32 (moveStep rot2 1#32 2#32 a)).s, (moveStep rot4 2#32 4#32 (moveStep rot2 1#32 2#32 a)).n, ((extractStridedSlice S8x5116 ![0, 4] (moveStep rot2 1#32 2#32 a).x1 slices_S8x5120_o0_4_S8x5116) : FVec F S8x5116 .f32)⟩) := rfl

/-- Piece 14 between the key and the selection rounds. -/
theorem k0_part49_eq (a : Lot F) :
    k0_part49 (F := F) arg0 harg0 arg1 harg1 arg2 harg2 arg3 harg3 arg4 harg4 arg5 harg5 arg6 harg6 arg7 harg7 a.x1 a.y1 a.x2 a.y2 a.l a.d (moves rot4 2#32 a.d) (moveStep rot4 2#32 4#32 a).s (moveStep rot4 2#32 4#32 a).n ((extractStridedSlice S8x5116 ![0, 4] a.x1 slices_S8x5120_o0_4_S8x5116) : FVec F S8x5116 .f32)
      = Prog.ret (⟨(moveStep rot4 2#32 4#32 a).y2, (moveStep rot4 2#32 4#32 a).l, (moveStep rot4 2#32 4#32 a).d, (moves rot8 3#32 (moveStep rot4 2#32 4#32 a).d), (moveStep rot8 3#32 8#32 (moveStep rot4 2#32 4#32 a)).s, (moveStep rot8 3#32 8#32 (moveStep rot4 2#32 4#32 a)).n, (moveStep rot8 3#32 8#32 (moveStep rot4 2#32 4#32 a)).x1, (moveStep rot8 3#32 8#32 (moveStep rot4 2#32 4#32 a)).y1, (moveStep rot8 3#32 8#32 (moveStep rot4 2#32 4#32 a)).x2, ((extractStridedSlice S8x5112 ![0, 8] (moveStep rot4 2#32 4#32 a).y2 slices_S8x5120_o0_8_S8x5112) : FVec F S8x5112 .f32), ((extractStridedSlice S8x8 ![0, 0] (moveStep rot4 2#32 4#32 a).y2 slices_S8x5120_o0_0_S8x8) : FVec F S8x8 .f32)⟩) := rfl

/-- Piece 15 between the key and the selection rounds. -/
theorem k0_part50_eq (a : Lot F) :
    k0_part50 (F := F) arg0 harg0 arg1 harg1 arg2 harg2 arg3 harg3 arg4 harg4 arg5 harg5 arg6 harg6 arg7 harg7 a.y2 a.l a.d (moves rot8 3#32 a.d) (moveStep rot8 3#32 8#32 a).s (moveStep rot8 3#32 8#32 a).n (moveStep rot8 3#32 8#32 a).x1 (moveStep rot8 3#32 8#32 a).y1 (moveStep rot8 3#32 8#32 a).x2 ((extractStridedSlice S8x5112 ![0, 8] a.y2 slices_S8x5120_o0_8_S8x5112) : FVec F S8x5112 .f32) ((extractStridedSlice S8x8 ![0, 0] a.y2 slices_S8x5120_o0_0_S8x8) : FVec F S8x8 .f32)
      = Prog.ret (⟨(moveStep rot16 4#32 16#32 (moveStep rot8 3#32 8#32 a)).s, (moveStep rot16 4#32 16#32 (moveStep rot8 3#32 8#32 a)).n, (moveStep rot16 4#32 16#32 (moveStep rot8 3#32 8#32 a)).x1, (moveStep rot16 4#32 16#32 (moveStep rot8 3#32 8#32 a)).y1, (moveStep rot16 4#32 16#32 (moveStep rot8 3#32 8#32 a)).x2, (moveStep rot16 4#32 16#32 (moveStep rot8 3#32 8#32 a)).y2, (moveStep rot16 4#32 16#32 (moveStep rot8 3#32 8#32 a)).l, (moveStep rot16 4#32 16#32 (moveStep rot8 3#32 8#32 a)).d⟩) := rfl

/-- Piece 16 between the key and the selection rounds. -/
theorem k0_part51_eq (a : Lot F) :
    k0_part51 (F := F) arg0 harg0 arg1 harg1 arg2 harg2 arg3 harg3 arg4 harg4 arg5 harg5 arg6 harg6 arg7 harg7 a.s a.n a.x1 a.y1 a.x2 a.y2 a.l a.d
      = Prog.ret (⟨(moveStep rot32 5#32 32#32 a).s, (moveStep rot32 5#32 32#32 a).n, (moveStep rot32 5#32 32#32 a).x1, (moveStep rot32 5#32 32#32 a).y1, (moveStep rot32 5#32 32#32 a).x2, (moveStep rot32 5#32 32#32 a).y2, (moveStep rot32 5#32 32#32 a).l, (moveStep rot32 5#32 32#32 a).d, (moves rot64 6#32 (moveStep rot32 5#32 32#32 a).d), ((extractStridedSlice S8x5056 ![0, 64] (moveStep rot32 5#32 32#32 a).s slices_S8x5120_o0_64_S8x5056) : FVec F S8x5056 .f32)⟩) := rfl

/-- Piece 17 between the key and the selection rounds. -/
theorem k0_part52_eq (a : Lot F) :
    k0_part52 (F := F) arg0 harg0 arg1 harg1 arg2 harg2 arg3 harg3 arg4 harg4 arg5 harg5 arg6 harg6 arg7 harg7 a.s a.n a.x1 a.y1 a.x2 a.y2 a.l a.d (moves rot64 6#32 a.d) ((extractStridedSlice S8x5056 ![0, 64] a.s slices_S8x5120_o0_64_S8x5056) : FVec F S8x5056 .f32)
      = Prog.ret (⟨(moveStep rot64 6#32 64#32 a).y1, (moveStep rot64 6#32 64#32 a).x2, (moveStep rot64 6#32 64#32 a).y2, (moveStep rot64 6#32 64#32 a).l, (moveStep rot64 6#32 64#32 a).d, (moves rot128 7#32 (moveStep rot64 6#32 64#32 a).d), (moveStep rot128 7#32 128#32 (moveStep rot64 6#32 64#32 a)).s, (moveStep rot128 7#32 128#32 (moveStep rot64 6#32 64#32 a)).n, (moveStep rot128 7#32 128#32 (moveStep rot64 6#32 64#32 a)).x1, ((extractStridedSlice S8x4992 ![0, 128] (moveStep rot64 6#32 64#32 a).y1 slices_S8x5120_o0_128_S8x4992) : FVec F S8x4992 .f32), ((extractStridedSlice S8x128 ![0, 0] (moveStep rot64 6#32 64#32 a).y1 slices_S8x5120_o0_0_S8x128) : FVec F S8x128 .f32)⟩) := rfl

/-- Piece 18 between the key and the selection rounds. -/
theorem k0_part53_eq (a : Lot F) :
    k0_part53 (F := F) arg0 harg0 arg1 harg1 arg2 harg2 arg3 harg3 arg4 harg4 arg5 harg5 arg6 harg6 arg7 harg7 a.y1 a.x2 a.y2 a.l a.d (moves rot128 7#32 a.d) (moveStep rot128 7#32 128#32 a).s (moveStep rot128 7#32 128#32 a).n (moveStep rot128 7#32 128#32 a).x1 ((extractStridedSlice S8x4992 ![0, 128] a.y1 slices_S8x5120_o0_128_S8x4992) : FVec F S8x4992 .f32) ((extractStridedSlice S8x128 ![0, 0] a.y1 slices_S8x5120_o0_0_S8x128) : FVec F S8x128 .f32)
      = Prog.ret (⟨(moveStep rot128 7#32 128#32 a).l, (moveStep rot128 7#32 128#32 a).d, (moves rot256 8#32 (moveStep rot128 7#32 128#32 a).d), (moveStep rot256 8#32 256#32 (moveStep rot128 7#32 128#32 a)).s, (moveStep rot256 8#32 256#32 (moveStep rot128 7#32 128#32 a)).n, (moveStep rot256 8#32 256#32 (moveStep rot128 7#32 128#32 a)).x1, (moveStep rot256 8#32 256#32 (moveStep rot128 7#32 128#32 a)).y1, (moveStep rot256 8#32 256#32 (moveStep rot128 7#32 128#32 a)).x2, (moveStep rot256 8#32 256#32 (moveStep rot128 7#32 128#32 a)).y2, (rot256 (moveStep rot128 7#32 128#32 a).l)⟩) := rfl

/-- Piece 19 between the key and the selection rounds. -/
theorem k0_part54_eq (a : Lot F) :
    k0_part54 (F := F) arg0 harg0 arg1 harg1 arg2 harg2 arg3 harg3 arg4 harg4 arg5 harg5 arg6 harg6 arg7 harg7 a.l a.d (moves rot256 8#32 a.d) (moveStep rot256 8#32 256#32 a).s (moveStep rot256 8#32 256#32 a).n (moveStep rot256 8#32 256#32 a).x1 (moveStep rot256 8#32 256#32 a).y1 (moveStep rot256 8#32 256#32 a).x2 (moveStep rot256 8#32 256#32 a).y2 (rot256 a.l)
      = Prog.ret (⟨(moveStep rot512 9#32 512#32 (moveStep rot256 8#32 256#32 a)).s, (moveStep rot512 9#32 512#32 (moveStep rot256 8#32 256#32 a)).n, (moveStep rot512 9#32 512#32 (moveStep rot256 8#32 256#32 a)).x1, (moveStep rot512 9#32 512#32 (moveStep rot256 8#32 256#32 a)).y1, (moveStep rot512 9#32 512#32 (moveStep rot256 8#32 256#32 a)).x2, (moveStep rot512 9#32 512#32 (moveStep rot256 8#32 256#32 a)).y2, (moveStep rot512 9#32 512#32 (moveStep rot256 8#32 256#32 a)).l, (moveStep rot512 9#32 512#32 (moveStep rot256 8#32 256#32 a)).d, (rot1024 (moveStep rot512 9#32 512#32 (moveStep rot256 8#32 256#32 a)).d), ((broadcast S8x5120 (10#32 : BitVec 32)) : IVec S8x5120 32)⟩) := rfl

/-- Piece 20 between the key and the selection rounds. -/
theorem k0_part55_eq (a : Lot F) :
    k0_part55 (F := F) arg0 harg0 arg1 harg1 arg2 harg2 arg3 harg3 arg4 harg4 arg5 harg5 arg6 harg6 arg7 harg7 a.s a.n a.x1 a.y1 a.x2 a.y2 a.l a.d (rot1024 a.d) ((broadcast S8x5120 (10#32 : BitVec 32)) : IVec S8x5120 32)
      = Prog.ret (⟨(moveStep rot1024 10#32 1024#32 a).n, (moveStep rot1024 10#32 1024#32 a).x1, (moveStep rot1024 10#32 1024#32 a).y1, (moveStep rot1024 10#32 1024#32 a).x2, (moveStep rot1024 10#32 1024#32 a).y2, (moveStep rot1024 10#32 1024#32 a).l, (moveStep rot1024 10#32 1024#32 a).d, (moves rot2048 11#32 (moveStep rot1024 10#32 1024#32 a).d), (moveStep rot2048 11#32 2048#32 (moveStep rot1024 10#32 1024#32 a)).s, ((extractStridedSlice S8x3072 ![0, 2048] (moveStep rot1024 10#32 1024#32 a).n slices_S8x5120_o0_2048_S8x3072) : IVec S8x3072 32), ((extractStridedSlice S8x2048 ![0, 0] (moveStep rot1024 10#32 1024#32 a).n slices_S8x5120_o0_0_S8x2048) : IVec S8x2048 32)⟩) := rfl

/-- Piece 21 between the key and the selection rounds. -/
theorem k0_part56_eq (a : Lot F) :
    k0_part56 (F := F) arg0 harg0 arg1 harg1 arg2 harg2 arg3 harg3 arg4 harg4 arg5 harg5 arg6 harg6 arg7 harg7 a.n a.x1 a.y1 a.x2 a.y2 a.l a.d (moves rot2048 11#32 a.d) (moveStep rot2048 11#32 2048#32 a).s ((extractStridedSlice S8x3072 ![0, 2048] a.n slices_S8x5120_o0_2048_S8x3072) : IVec S8x3072 32) ((extractStridedSlice S8x2048 ![0, 0] a.n slices_S8x5120_o0_0_S8x2048) : IVec S8x2048 32)
      = Prog.ret (⟨(moveStep rot2048 11#32 2048#32 a).x2, (moveStep rot2048 11#32 2048#32 a).y2, (moveStep rot2048 11#32 2048#32 a).l, (moves rot4096 12#32 (moveStep rot2048 11#32 2048#32 a).d), (moveStep rot4096 12#32 4096#32 (moveStep rot2048 11#32 2048#32 a)).s, (moveStep rot4096 12#32 4096#32 (moveStep rot2048 11#32 2048#32 a)).n, (moveStep rot4096 12#32 4096#32 (moveStep rot2048 11#32 2048#32 a)).x1, (moveStep rot4096 12#32 4096#32 (moveStep rot2048 11#32 2048#32 a)).y1, (rot4096 (moveStep rot2048 11#32 2048#32 a).x2)⟩) := rfl

end Cert.KernelIdeal.Gen
-- ==== Proof.Body.lean ====
/- The body is its loads, the stages, and its stores. -/
module

public import proofs.«01_k».proof.Proof.Trips
public import proofs.«01_k».proof.Proof.Middle

@[expose] public section

noncomputable section

namespace Cert.KernelIdeal.Gen

open Idealize.ShloMosaic Idealize.SL.Sem Cert.Detect
open Cert.KernelIdeal.Facts₀ Cert.KernelIdeal.Facts

variable {F : FTy → Type} [FloatOps F]

set_option maxRecDepth 8192
set_option maxHeartbeats 800000

variable (arg0 : Memref sig .tc .vmem S25x8x5120 .f32) (harg0 : arg0.IsWhole) (arg1 : Memref sig .tc .vmem S4x5120 .f32) (harg1 : arg1.IsWhole)
  (arg2 : Memref sig .tc .vmem S8x200 .f32) (harg2 : arg2.IsWhole) (arg3 : Memref sig .tc .vmem S8x200 .f32) (harg3 : arg3.IsWhole) (arg4 : Memref sig .tc .vmem S8x200 .f32) (harg4 : arg4.IsWhole) (arg5 : Memref sig .tc .vmem S8x200 .f32) (harg5 : arg5.IsWhole) (arg6 : Memref sig .tc .vmem S8x200 .f32) (harg6 : arg6.IsWhole) (arg7 : Memref sig .tc .vmem S8x200 .f32) (harg7 : arg7.IsWhole)

/-- The loops of the three kinds of rounds are their folds. -/
theorem k0_part57_eq (v1207 v1211 v1215 : FVec F S8x5120 .f32) (v1230 : IVec S8x5120 1) (v1234 : FVec F S8x5120 .f32)
    (v1238 : IVec S8x5120 32) (v1242 v1246 v1249 : FVec F S8x5120 .f32) (c : Carry F)
    (hc : c = sorted (head v1234) (head v1238) (head v1242) (head v1246) (k0_pay403 v1207 v1230 v1249)
      (k0_pay404 v1211 v1230) (k0_pay405 v1215 v1230)) :
    k0_part57 arg0 harg0 arg1 harg1 arg2 harg2 arg3 harg3 arg4 harg4 arg5 harg5 arg6 harg6 arg7 harg7 slots v1207 v1211 v1215 v1230 v1234 v1238 v1242 v1246 v1249
      = Prog.ret ⟨c.2.1, c.2.2.1, c.2.2.2.1, c.2.2.2.2.1, c.2.2.2.2.2.1, c.2.2.2.2.2.2, k0_pay415 (keeps c),
          k0_pay416 (places c.2.2.2.1 (keeps c))⟩ := by
  subst hc
  rw [k0_part57_eq_skeleton]
  unfold k0_part57_skel
  refine (Scf.for_pure_bind _ _ _ _ _ _ _ (fun k acc => k0_t2_body_eq arg0 harg0 arg1 harg1 arg2 harg2 arg3 harg3 arg4 harg4 arg5 harg5 arg6 harg6 arg7 harg7 v1207 v1211 v1215 v1230 v1234 v1238 v1242 v1246 v1249 k acc) _).trans ?_
  refine (Scf.for_pure_bind _ _ _ _ _ _ _ (fun k acc => k0_t3_body_eq arg0 harg0 arg1 harg1 arg2 harg2 arg3 harg3 arg4 harg4 arg5 harg5 arg6 harg6 arg7 harg7 v1207 v1211 v1215 v1230 v1234 v1238 v1242 v1246 v1249 _ _ _ _ _ k acc) _).trans ?_
  refine (Scf.for_pure_bind _ _ _ _ _ _ _ (fun k acc => k0_t4_body_eq arg0 harg0 arg1 harg1 arg2 harg2 arg3 harg3 arg4 harg4 arg5 harg5 arg6 harg6 arg7 harg7 v1207 v1211 v1215 v1230 v1234 v1238 v1242 v1246 v1249 _ _ k acc) _).trans ?_
  rfl

/-- The six stores, of the values of the carry at their places. -/
def stores (c : Carry F) : Prog (TpuEff nD τ sig (Elt F) Λ₀ .tc) PUnit := do
  let v1302 : Vec F S8x200 .f32 ← Prog.lift (.load arg2 (Rect.unit (s := S8x200) ![0, 0] S8x200.size inb_S8x200_S8x200_0_0).toLoadRect (View.loadsAt_vmem h_S8x200))
  Prog.lift (.store arg2 (Rect.unit (s := S8x200) ![0, 0] S8x200.size inb_S8x200_S8x200_0_0) (result (gate c) c.2.2.1) Finset.univ (View.stores_vmem_bits_univ h_S8x200 rfl) (.inl rfl))
  let v1309 : Vec F S8x200 .f32 ← Prog.lift (.load arg3 (Rect.unit (s := S8x200) ![0, 0] S8x200.size inb_S8x200_S8x200_0_0).toLoadRect (View.loadsAt_vmem h_S8x200))
  Prog.lift (.store arg3 (Rect.unit (s := S8x200) ![0, 0] S8x200.size inb_S8x200_S8x200_0_0) (result (gate c) c.2.2.2.1) Finset.univ (View.stores_vmem_bits_univ h_S8x200 rfl) (.inl rfl))
  let v1316 : Vec F S8x200 .f32 ← Prog.lift (.load arg4 (Rect.unit (s := S8x200) ![0, 0] S8x200.size inb_S8x200_S8x200_0_0).toLoadRect (View.loadsAt_vmem h_S8x200))
  Prog.lift (.store arg4 (Rect.unit (s := S8x200) ![0, 0] S8x200.size inb_S8x200_S8x200_0_0) (result (gate c) c.2.2.2.2.1) Finset.univ (View.stores_vmem_bits_univ h_S8x200 rfl) (.inl rfl))
  let v1323 : Vec F S8x200 .f32 ← Prog.lift (.load arg5 (Rect.unit (s := S8x200) ![0, 0] S8x200.size inb_S8x200_S8x200_0_0).toLoadRect (View.loadsAt_vmem h_S8x200))
  Prog.lift (.store arg5 (Rect.unit (s := S8x200) ![0, 0] S8x200.size inb_S8x200_S8x200_0_0) (result (gate c) c.2.2.2.2.2.1) Finset.univ (View.stores_vmem_bits_univ h_S8x200 rfl) (.inl rfl))
  let v1330 : Vec F S8x200 .f32 ← Prog.lift (.load arg6 (Rect.unit (s := S8x200) ![0, 0] S8x200.size inb_S8x200_S8x200_0_0).toLoadRect (View.loadsAt_vmem h_S8x200))
  Prog.lift (.store arg6 (Rect.unit (s := S8x200) ![0, 0] S8x200.size inb_S8x200_S8x200_0_0) (result (gate c) c.2.2.2.2.2.2) Finset.univ (View.stores_vmem_bits_univ h_S8x200 rfl) (.inl rfl))
  let v1337 : Vec F S8x200 .f32 ← Prog.lift (.load arg7 (Rect.unit (s := S8x200) ![0, 0] S8x200.size inb_S8x200_S8x200_0_0).toLoadRect (View.loadsAt_vmem h_S8x200))
  Prog.lift (.store arg7 (Rect.unit (s := S8x200) ![0, 0] S8x200.size inb_S8x200_S8x200_0_0) (result (gate c) c.2.1) Finset.univ (View.stores_vmem_bits_univ h_S8x200 rfl) (.inl rfl))
  pure ⟨⟩

/-- The last four rows read, and the labels, the scores and the key. -/
def scores (v140 v142 v144 : FVec F S8x5120 .f32) :
    Prog (TpuEff nD τ sig (Elt F) Λ₀ .tc) (FVec F S8x5120 .f32 × FVec F S8x5120 .f32) := do
  let v149 : Vec F S1x8x5120 .f32 ← Prog.lift (.load arg0 (Rect.unit (s := S25x8x5120) ![21, 0, 0] S1x8x5120.size inb_S25x8x5120_S1x8x5120_21_0_0).toLoadRect (View.loadsAt_vmem h_S1x8x5120))
  let v155 : Vec F S1x8x5120 .f32 ← Prog.lift (.load arg0 (Rect.unit (s := S25x8x5120) ![22, 0, 0] S1x8x5120.size inb_S25x8x5120_S1x8x5120_22_0_0).toLoadRect (View.loadsAt_vmem h_S1x8x5120))
  let v161 : Vec F S1x8x5120 .f32 ← Prog.lift (.load arg0 (Rect.unit (s := S25x8x5120) ![23, 0, 0] S1x8x5120.size inb_S25x8x5120_S1x8x5120_23_0_0).toLoadRect (View.loadsAt_vmem h_S1x8x5120))
  let v167 : Vec F S1x8x5120 .f32 ← Prog.lift (.load arg0 (Rect.unit (s := S25x8x5120) ![24, 0, 0] S1x8x5120.size inb_S25x8x5120_S1x8x5120_24_0_0).toLoadRect (View.loadsAt_vmem h_S1x8x5120))
  pure (k0_pay255 v140 v142 v144 v149 v155 v161 v167, k0_pay256 v140 v144 v149 v155 v161 v167)

/-- The key loop is its fold. -/
theorem k0_part35_eq (v140 v142 v144 : FVec F S8x5120 .f32) :
    k0_part35 arg0 harg0 arg1 harg1 arg2 harg2 arg3 harg3 arg4 harg4 arg5 harg5 arg6 harg6 arg7 harg7 v140 v142 v144
      = scores arg0 v140 v142 v144 >>= fun p => Prog.ret ⟨p.1, p.2, lanes, slots, key p.2⟩ := by
  rw [k0_part35_eq_skeleton]
  unfold k0_part35_skel scores
  refine congrArg (Prog.op _) (funext fun v149 => ?_)
  refine congrArg (Prog.op _) (funext fun v155 => ?_)
  refine congrArg (Prog.op _) (funext fun v161 => ?_)
  refine congrArg (Prog.op _) (funext fun v167 => ?_)
  refine (Scf.for_pure_bind _ _ _ _ _ _
    (fun k acc => keyStep (k0_pay256 v140 v144 v149 v155 v161 v167) (Scf.iv 0#32 1#32 k) acc)
    (fun k acc => rfl) _).trans ?_
  rfl

/-- All that follows the key. -/
theorem rest_eq (s x1 y1 x2 y2 l : FVec F S8x5120 .f32) (k : IVec S8x5120 32) (c : Carry F)
    (hc : c = rounds (lot s x1 y1 x2 y2 l (picked k))) :
    (do
      let ⟨v222, v224, v226⟩ : Σ' (v222 : IVec S8x1 32) (v224 : IVec S8x1 32), IVec S8x5120 1 ← k0_part36 arg0 harg0 arg1 harg1 arg2 harg2 arg3 harg3 arg4 harg4 arg5 harg5 arg6 harg6 arg7 harg7 k
      let v272 : IVec S8x1 32 ← k0_part37 arg0 harg0 arg1 harg1 arg2 harg2 arg3 harg3 arg4 harg4 arg5 harg5 arg6 harg6 arg7 harg7 k v222 v224 v226
      let ⟨v312, v314, v318⟩ : Σ' (v312 : IVec S8x1 32) (v314 : IVec S8x1 32), IVec S8 32 ← k0_part38 arg0 harg0 arg1 harg1 arg2 harg2 arg3 harg3 arg4 harg4 arg5 harg5 arg6 harg6 arg7 harg7 k v272
      let ⟨v362, v364⟩ : Σ' (v362 : IVec S8x1 32), IVec S8x1 32 ← k0_part39 arg0 harg0 arg1 harg1 arg2 harg2 arg3 harg3 arg4 harg4 arg5 harg5 arg6 harg6 arg7 harg7 k v312 v314 v318
      let ⟨v402, v404, v409, v410⟩ : Σ' (v402 : IVec S8x1 32) (v404 : IVec S8x1 32) (v409 : IVec S8x1 32), IVec S8x1 32 ← k0_part40 arg0 harg0 arg1 harg1 arg2 harg2 arg3 harg3 arg4 harg4 arg5 harg5 arg6 harg6 arg7 harg7 k v362 v364
      let ⟨v452, v454, v457⟩ : Σ' (v452 : IVec S8x1 32) (v454 : IVec S8x1 32), IVec S8x5120 32 ← k0_part41 arg0 harg0 arg1 harg1 arg2 harg2 arg3 harg3 arg4 harg4 arg5 harg5 arg6 harg6 arg7 harg7 k v402 v404 v409 v410
      let ⟨v502, v503⟩ : Σ' (v502 : IVec S8x1 32), IVec S8x5120 32 ← k0_part42 arg0 harg0 arg1 harg1 arg2 harg2 arg3 harg3 arg4 harg4 arg5 harg5 arg6 harg6 arg7 harg7 k v452 v454 v457
      let ⟨v504, v511, v513, v544, v546, v551⟩ : Σ' (v504 : IVec S8x5120 1) (v511 : IVec S8x1 32) (v513 : IVec S8x5120 32) (v544 : IVec S8x1 32) (v546 : IVec S8x1 32), IVec S8 32 ← k0_part43 arg0 harg0 arg1 harg1 arg2 harg2 arg3 harg3 arg4 harg4 arg5 harg5 arg6 harg6 arg7 harg7 lanes k v502 v503
      let ⟨v594, v596, v601⟩ : Σ' (v594 : IVec S8x1 32) (v596 : IVec S8x1 32), IVec S8 32 ← k0_part44 arg0 harg0 arg1 harg1 arg2 harg2 arg3 harg3 arg4 harg4 arg5 harg5 arg6 harg6 arg7 harg7 v504 v511 v513 v544 v546 v551
      let ⟨v651, v652⟩ : Σ' (v651 : IVec S8x5120 32), IVec S8x1 32 ← k0_part45 arg0 harg0 arg1 harg1 arg2 harg2 arg3 harg3 arg4 harg4 arg5 harg5 arg6 harg6 arg7 harg7 k v502 v504 v511 v513 v594 v596 v601
      let ⟨v699, v700⟩ : Σ' (v699 : IVec S8x5120 32), IVec S8x4096 32 ← k0_part46 arg0 harg0 arg1 harg1 arg2 harg2 arg3 harg3 arg4 harg4 arg5 harg5 arg6 harg6 arg7 harg7 v651 v652
      let ⟨v718, v722, v726, v730, v734, v738, v742, v748, v753, v754⟩ : Σ' (v718 : FVec F S8x5120 .f32) (v722 : IVec S8x5120 32) (v726 : FVec F S8x5120 .f32) (v730 : FVec F S8x5120 .f32) (v734 : FVec F S8x5120 .f32) (v738 : FVec F S8x5120 .f32) (v742 : FVec F S8x5120 .f32) (v748 : IVec S8x5120 32) (v753 : IVec S8x5120 32), IVec S8x5120 32 ← k0_part47 arg0 harg0 arg1 harg1 arg2 harg2 arg3 harg3 arg4 harg4 arg5 harg5 arg6 harg6 arg7 harg7 x1 y1 x2 y2 l s lanes v651 v699 v700
      let ⟨v769, v773, v777, v781, v785, v791, v800, v804, v808, v809⟩ : Σ' (v769 : FVec F S8x5120 .f32) (v773 : FVec F S8x5120 .f32) (v777 : FVec F S8x5120 .f32) (v781 : FVec F S8x5120 .f32) (v785 : FVec F S8x5120 .f32) (v791 : IVec S8x5120 32) (v800 : IVec S8x5120 1) (v804 : FVec F S8x5120 .f32) (v808 : IVec S8x5120 32), FVec F S8x5116 .f32 ← k0_part48 arg0 harg0 arg1 harg1 arg2 harg2 arg3 harg3 arg4 harg4 arg5 harg5 arg6 harg6 arg7 harg7 v718 v722 v726 v730 v734 v738 v742 v748 v753 v754
      let ⟨v824, v828, v834, v843, v847, v851, v855, v859, v863, v864, v865⟩ : Σ' (v824 : FVec F S8x5120 .f32) (v828 : FVec F S8x5120 .f32) (v834 : IVec S8x5120 32) (v843 : IVec S8x5120 1) (v847 : FVec F S8x5120 .f32) (v851 : IVec S8x5120 32) (v855 : FVec F S8x5120 .f32) (v859 : FVec F S8x5120 .f32) (v863 : FVec F S8x5120 .f32) (v864 : FVec F S8x5112 .f32), FVec F S8x8 .f32 ← k0_part49 arg0 harg0 arg1 harg1 arg2 harg2 arg3 harg3 arg4 harg4 arg5 harg5 arg6 harg6 arg7 harg7 v769 v773 v777 v781 v785 v791 v800 v804 v808 v809
      let ⟨v890, v894, v898, v902, v906, v910, v914, v920⟩ : Σ' (v890 : FVec F S8x5120 .f32) (v894 : IVec S8x5120 32) (v898 : FVec F S8x5120 .f32) (v902 : FVec F S8x5120 .f32) (v906 : FVec F S8x5120 .f32) (v910 : FVec F S8x5120 .f32) (v914 : FVec F S8x5120 .f32), IVec S8x5120 32 ← k0_part50 arg0 harg0 arg1 harg1 arg2 harg2 arg3 harg3 arg4 harg4 arg5 harg5 arg6 harg6 arg7 harg7 v824 v828 v834 v843 v847 v851 v855 v859 v863 v864 v865
      let ⟨v933, v937, v941, v945, v949, v953, v957, v963, v972, v973⟩ : Σ' (v933 : FVec F S8x5120 .f32) (v937 : IVec S8x5120 32) (v941 : FVec F S8x5120 .f32) (v945 : FVec F S8x5120 .f32) (v949 : FVec F S8x5120 .f32) (v953 : FVec F S8x5120 .f32) (v957 : FVec F S8x5120 .f32) (v963 : IVec S8x5120 32) (v972 : IVec S8x5120 1), FVec F S8x5056 .f32 ← k0_part51 arg0 harg0 arg1 harg1 arg2 harg2 arg3 harg3 arg4 harg4 arg5 harg5 arg6 harg6 arg7 harg7 v890 v894 v898 v902 v906 v910 v914 v920
      let ⟨v988, v992, v996, v1000, v1006, v1015, v1019, v1023, v1027, v1028, v1029⟩ : Σ' (v988 : FVec F S8x5120 .f32) (v992 : FVec F S8x5120 .f32) (v996 : FVec F S8x5120 .f32) (v1000 : FVec F S8x5120 .f32) (v1006 : IVec S8x5120 32) (v1015 : IVec S8x5120 1) (v1019 : FVec F S8x5120 .f32) (v1023 : IVec S8x5120 32) (v1027 : FVec F S8x5120 .f32) (v1028 : FVec F S8x4992 .f32), FVec F S8x128 .f32 ← k0_part52 arg0 harg0 arg1 harg1 arg2 harg2 arg3 harg3 arg4 harg4 arg5 harg5 arg6 harg6 arg7 harg7 v933 v937 v941 v945 v949 v953 v957 v963 v972 v973
      let ⟨v1043, v1049, v1058, v1062, v1066, v1070, v1074, v1078, v1082, v1085⟩ : Σ' (v1043 : FVec F S8x5120 .f32) (v1049 : IVec S8x5120 32) (v1058 : IVec S8x5120 1) (v1062 : FVec F S8x5120 .f32) (v1066 : IVec S8x5120 32) (v1070 : FVec F S8x5120 .f32) (v1074 : FVec F S8x5120 .f32) (v1078 : FVec F S8x5120 .f32) (v1082 : FVec F S8x5120 .f32), FVec F S8x5120 .f32 ← k0_part53 arg0 harg0 arg1 harg1 arg2 harg2 arg3 harg3 arg4 harg4 arg5 harg5 arg6 harg6 arg7 harg7 v988 v992 v996 v1000 v1006 v1015 v1019 v1023 v1027 v1028 v1029
      let ⟨v1105, v1109, v1113, v1117, v1121, v1125, v1129, v1135, v1138, v1139⟩ : Σ' (v1105 : FVec F S8x5120 .f32) (v1109 : IVec S8x5120 32) (v1113 : FVec F S8x5120 .f32) (v1117 : FVec F S8x5120 .f32) (v1121 : FVec F S8x5120 .f32) (v1125 : FVec F S8x5120 .f32) (v1129 : FVec F S8x5120 .f32) (v1135 : IVec S8x5120 32) (v1138 : IVec S8x5120 32), IVec S8x5120 32 ← k0_part54 arg0 harg0 arg1 harg1 arg2 harg2 arg3 harg3 arg4 harg4 arg5 harg5 arg6 harg6 arg7 harg7 v1043 v1049 v1058 v1062 v1066 v1070 v1074 v1078 v1082 v1085
      let ⟨v1152, v1156, v1160, v1164, v1168, v1172, v1178, v1187, v1191, v1192, v1193⟩ : Σ' (v1152 : IVec S8x5120 32) (v1156 : FVec F S8x5120 .f32) (v1160 : FVec F S8x5120 .f32) (v1164 : FVec F S8x5120 .f32) (v1168 : FVec F S8x5120 .f32) (v1172 : FVec F S8x5120 .f32) (v1178 : IVec S8x5120 32) (v1187 : IVec S8x5120 1) (v1191 : FVec F S8x5120 .f32) (v1192 : IVec S8x3072 32), IVec S8x2048 32 ← k0_part55 arg0 harg0 arg1 harg1 arg2 harg2 arg3 harg3 arg4 harg4 arg5 harg5 arg6 harg6 arg7 harg7 v1105 v1109 v1113 v1117 v1121 v1125 v1129 v1135 v1138 v1139
      let ⟨v1207, v1211, v1215, v1230, v1234, v1238, v1242, v1246, v1249⟩ : Σ' (v1207 : FVec F S8x5120 .f32) (v1211 : FVec F S8x5120 .f32) (v1215 : FVec F S8x5120 .f32) (v1230 : IVec S8x5120 1) (v1234 : FVec F S8x5120 .f32) (v1238 : IVec S8x5120 32) (v1242 : FVec F S8x5120 .f32) (v1246 : FVec F S8x5120 .f32), FVec F S8x5120 .f32 ← k0_part56 arg0 harg0 arg1 harg1 arg2 harg2 arg3 harg3 arg4 harg4 arg5 harg5 arg6 harg6 arg7 harg7 v1152 v1156 v1160 v1164 v1168 v1172 v1178 v1187 v1191 v1192 v1193
      let ⟨v1268_1, v1268_2, v1268_3, v1268_4, v1268_5, v1268_6, v1287, v1291⟩ : Σ' (v1268_1 : FVec F S8x400 .f32) (v1268_2 : FVec F S8x400 .f32) (v1268_3 : FVec F S8x400 .f32) (v1268_4 : FVec F S8x400 .f32) (v1268_5 : FVec F S8x400 .f32) (v1268_6 : FVec F S8x400 .f32) (v1287 : FVec F S8x1x400 .f32), IVec S8x200x400 1 ← k0_part57 arg0 harg0 arg1 harg1 arg2 harg2 arg3 harg3 arg4 harg4 arg5 harg5 arg6 harg6 arg7 harg7 slots v1207 v1211 v1215 v1230 v1234 v1238 v1242 v1246 v1249
      let ⟨v1295, v1328⟩ : Σ' (v1295 : IVec S8x200x400 1), FVec F S8x200x400 .f32 ← k0_part58 arg0 harg0 arg1 harg1 arg2 harg2 arg3 harg3 arg4 harg4 arg5 harg5 arg6 harg6 arg7 harg7 v1268_2 v1268_3 v1268_4 v1268_5 v1268_6 v1287 v1291
      let v1330 : Vec F S8x200 .f32 ← Prog.lift (.load arg6 (Rect.unit (s := S8x200) ![0, 0] S8x200.size inb_S8x200_S8x200_0_0).toLoadRect (View.loadsAt_vmem h_S8x200))
      Prog.lift (.store arg6 (Rect.unit (s := S8x200) ![0, 0] S8x200.size inb_S8x200_S8x200_0_0) (k0_pay1 v1328) Finset.univ (View.stores_vmem_bits_univ h_S8x200 rfl) (.inl rfl))
      let v1337 : Vec F S8x200 .f32 ← Prog.lift (.load arg7 (Rect.unit (s := S8x200) ![0, 0] S8x200.size inb_S8x200_S8x200_0_0).toLoadRect (View.loadsAt_vmem h_S8x200))
      Prog.lift (.store arg7 (Rect.unit (s := S8x200) ![0, 0] S8x200.size inb_S8x200_S8x200_0_0) (k0_pay2 v1268_1 v1295) Finset.univ (View.stores_vmem_bits_univ h_S8x200 rfl) (.inl rfl))
      pure ⟨⟩)
      = stores arg2 arg3 arg4 arg5 arg6 arg7 c := by
  refine (bindRet (k0_part36_eq arg0 harg0 arg1 harg1 arg2 harg2 arg3 harg3 arg4 harg4 arg5 harg5 arg6 harg6 arg7 harg7 k (broadcast S8x1 0#32)) _).trans ?_
  refine (bindRet (k0_part37_eq arg0 harg0 arg1 harg1 arg2 harg2 arg3 harg3 arg4 harg4 arg5 harg5 arg6 harg6 arg7 harg7 k (bitStep (keyPass k) (broadcast S8x1 400#32) (bitStep (keyPass k) (broadcast S8x1 400#32) (bitStep (keyPass k) (broadcast S8x1 400#32) (bitStep (keyPass k) (broadcast S8x1 400#32) (broadcast S8x1 0#32) 2147483648#32) 1073741824#32) 536870912#32) 268435456#32)) _).trans ?_
  refine (bindRet (k0_part38_eq arg0 harg0 arg1 harg1 arg2 harg2 arg3 harg3 arg4 harg4 arg5 harg5 arg6 harg6 arg7 harg7 k (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (broadcast S8x1 0#32) 2147483648#32) 1073741824#32) 536870912#32) 268435456#32) 134217728#32) 67108864#32) 33554432#32) 16777216#32) 8388608#32)) _).trans ?_
  refine (bindRet (k0_part39_eq arg0 harg0 arg1 harg1 arg2 harg2 arg3 harg3 arg4 harg4 arg5 harg5 arg6 harg6 arg7 harg7 k (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (broadcast S8x1 0#32) 2147483648#32) 1073741824#32) 536870912#32) 268435456#32) 134217728#32) 67108864#32) 33554432#32) 16777216#32) 8388608#32) 4194304#32) 2097152#32) 1048576#32) 524288#32)) _).trans ?_
  refine (bindRet (k0_part40_eq arg0 harg0 arg1 harg1 arg2 harg2 arg3 harg3 arg4 harg4 arg5 harg5 arg6 harg6 arg7 harg7 k (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (broadcast S8x1 0#32) 2147483648#32) 1073741824#32) 536870912#32) 268435456#32) 134217728#32) 67108864#32) 33554432#32) 16777216#32) 8388608#32) 4194304#32) 2097152#32) 1048576#32) 524288#32) 262144#32) 131072#32) 65536#32) 32768#32) 16384#32)) _).trans ?_
  refine (bindRet (k0_part41_eq arg0 harg0 arg1 harg1 arg2 harg2 arg3 harg3 arg4 harg4 arg5 harg5 arg6 harg6 arg7 harg7 k (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (broadcast S8x1 0#32) 2147483648#32) 1073741824#32) 536870912#32) 268435456#32) 134217728#32) 67108864#32) 33554432#32) 16777216#32) 8388608#32) 4194304#32) 2097152#32) 1048576#32) 524288#32) 262144#32) 131072#32) 65536#32) 32768#32) 16384#32) 8192#32) 4096#32) 2048#32) 1024#32)) _).trans ?_
  refine (bindRet (k0_part42_eq arg0 harg0 arg1 harg1 arg2 harg2 arg3 harg3 arg4 harg4 arg5 harg5 arg6 harg6 arg7 harg7 k (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (broadcast S8x1 0#32) 2147483648#32) 1073741824#32) 536870912#32) 268435456#32) 134217728#32) 67108864#32) 33554432#32) 16777216#32) 8388608#32) 4194304#32) 2097152#32) 1048576#32) 524288#32) 262144#32) 131072#32) 65536#32) 32768#32) 16384#32) 8192#32) 4096#32) 2048#32) 1024#32) 512#32) 256#32) 128#32) 64#32) 32#32)) _).trans ?_
  rw [show (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (bitStep (keyPass k) (broadcast S8x1 400#32) (broadcast S8x1 0#32) 2147483648#32) 1073741824#32) 536870912#32) 268435456#32) 134217728#32) 67108864#32) 33554432#32) 16777216#32) 8388608#32) 4194304#32) 2097152#32) 1048576#32) 524288#32) 262144#32) 131072#32) 65536#32) 32768#32) 16384#32) 8192#32) 4096#32) 2048#32) 1024#32) 512#32) 256#32) 128#32) 64#32) 32#32) 16#32) 8#32) 4#32) 2#32) 1#32) = cut k bits32 from by simp only [cut, bits32, List.foldl_cons, List.foldl_nil]]
  refine (bindRet (k0_part43_eq arg0 harg0 arg1 harg1 arg2 harg2 arg3 harg3 arg4 harg4 arg5 harg5 arg6 harg6 arg7 harg7 k (cut k bits32) (broadcast S8x1 0#32)) _).trans ?_
  refine (bindRet (k0_part44_eq arg0 harg0 arg1 harg1 arg2 harg2 arg3 harg3 arg4 harg4 arg5 harg5 arg6 harg6 arg7 harg7 k (cut k bits32) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (broadcast S8x1 0#32) 4096#32) 2048#32) 1024#32)) _).trans ?_
  refine (bindRet (k0_part45_eq arg0 harg0 arg1 harg1 arg2 harg2 arg3 harg3 arg4 harg4 arg5 harg5 arg6 harg6 arg7 harg7 k (cut k bits32) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (broadcast S8x1 0#32) 4096#32) 2048#32) 1024#32) 512#32) 256#32) 128#32) 64#32) 32#32)) _).trans ?_
  rw [show (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (bitStep (fun u => andi (ties k (cut k bits32)) (early u)) (wanted k (cut k bits32)) (broadcast S8x1 0#32) 4096#32) 2048#32) 1024#32) 512#32) 256#32) 128#32) 64#32) 32#32) 16#32) 8#32) 4#32) 2#32) 1#32) = tieCut k (cut k bits32) bits13 from by simp only [tieCut, bits13, List.foldl_cons, List.foldl_nil]]
  refine (bindRet (k0_part46_eq arg0 harg0 arg1 harg1 arg2 harg2 arg3 harg3 arg4 harg4 arg5 harg5 arg6 harg6 arg7 harg7 (extui 32 (picked k) natLt_1_32)) _).trans ?_
  refine (bindRet (k0_part47_eq arg0 harg0 arg1 harg1 arg2 harg2 arg3 harg3 arg4 harg4 arg5 harg5 arg6 harg6 arg7 harg7 (pushed S8x2048 S8x3072 concatenates_S8x2048_S8x3072_S8x5120_d1 slices_S8x5120_o0_0_S8x3072 (pushed S8x1024 S8x4096 concatenates_S8x1024_S8x4096_S8x5120_d1 slices_S8x5120_o0_0_S8x4096 (pushed S8x512 S8x4608 concatenates_S8x512_S8x4608_S8x5120_d1 slices_S8x5120_o0_0_S8x4608 (pushed S8x256 S8x4864 concatenates_S8x256_S8x4864_S8x5120_d1 slices_S8x5120_o0_0_S8x4864 (pushed S8x128 S8x4992 concatenates_S8x128_S8x4992_S8x5120_d1 slices_S8x5120_o0_0_S8x4992 (pushed S8x64 S8x5056 concatenates_S8x64_S8x5056_S8x5120_d1 slices_S8x5120_o0_0_S8x5056 (pushed S8x32 S8x5088 concatenates_S8x32_S8x5088_S8x5120_d1 slices_S8x5120_o0_0_S8x5088 (pushed S8x16 S8x5104 concatenates_S8x16_S8x5104_S8x5120_d1 slices_S8x5120_o0_0_S8x5104 (pushed S8x8 S8x5112 concatenates_S8x8_S8x5112_S8x5120_d1 slices_S8x5120_o0_0_S8x5112 (pushed S8x4 S8x5116 concatenates_S8x4_S8x5116_S8x5120_d1 slices_S8x5120_o0_0_S8x5116 (pushed S8x2 S8x5118 concatenates_S8x2_S8x5118_S8x5120_d1 slices_S8x5120_o0_0_S8x5118 (pushed S8x1 S8x5119 concatenates_S8x1_S8x5119_S8x5120_d1 slices_S8x5120_o0_0_S8x5119 (extui 32 (picked k) natLt_1_32))))))))))))) (extui 32 (picked k) natLt_1_32) _ s x1 y1 x2 y2 l ⟨s, lanes, x1, y1, x2, y2, l, shift (picked k)⟩ rfl rfl) _).trans ?_
  refine (bindRet (k0_part48_eq arg0 harg0 arg1 harg1 arg2 harg2 arg3 harg3 arg4 harg4 arg5 harg5 arg6 harg6 arg7 harg7 (moveStep rot1 0#32 1#32 ⟨s, lanes, x1, y1, x2, y2, l, shift (picked k)⟩)) _).trans ?_
  refine (bindRet (k0_part49_eq arg0 harg0 arg1 harg1 arg2 harg2 arg3 harg3 arg4 harg4 arg5 harg5 arg6 harg6 arg7 harg7 (moveStep rot2 1#32 2#32 (moveStep rot1 0#32 1#32 ⟨s, lanes, x1, y1, x2, y2, l, shift (picked k)⟩))) _).trans ?_
  refine (bindRet (k0_part50_eq arg0 harg0 arg1 harg1 arg2 harg2 arg3 harg3 arg4 harg4 arg5 harg5 arg6 harg6 arg7 harg7 (moveStep rot4 2#32 4#32 (moveStep rot2 1#32 2#32 (moveStep rot1 0#32 1#32 ⟨s, lanes, x1, y1, x2, y2, l, shift (picked k)⟩)))) _).trans ?_
  refine (bindRet (k0_part51_eq arg0 harg0 arg1 harg1 arg2 harg2 arg3 harg3 arg4 harg4 arg5 harg5 arg6 harg6 arg7 harg7 (moveStep rot16 4#32 16#32 (moveStep rot8 3#32 8#32 (moveStep rot4 2#32 4#32 (moveStep rot2 1#32 2#32 (moveStep rot1 0#32 1#32 ⟨s, lanes, x1, y1, x2, y2, l, shift (picked k)⟩)))))) _).trans ?_
  refine (bindRet (k0_part52_eq arg0 harg0 arg1 harg1 arg2 harg2 arg3 harg3 arg4 harg4 arg5 harg5 arg6 harg6 arg7 harg7 (moveStep rot32 5#32 32#32 (moveStep rot16 4#32 16#32 (moveStep rot8 3#32 8#32 (moveStep rot4 2#32 4#32 (moveStep rot2 1#32 2#32 (moveStep rot1 0#32 1#32 ⟨s, lanes, x1, y1, x2, y2, l, shift (picked k)⟩))))))) _).trans ?_
  refine (bindRet (k0_part53_eq arg0 harg0 arg1 harg1 arg2 harg2 arg3 harg3 arg4 harg4 arg5 harg5 arg6 harg6 arg7 harg7 (moveStep rot64 6#32 64#32 (moveStep rot32 5#32 32#32 (moveStep rot16 4#32 16#32 (moveStep rot8 3#32 8#32 (moveStep rot4 2#32 4#32 (moveStep rot2 1#32 2#32 (moveStep rot1 0#32 1#32 ⟨s, lanes, x1, y1, x2, y2, l, shift (picked k)⟩)))))))) _).trans ?_
  refine (bindRet (k0_part54_eq arg0 harg0 arg1 harg1 arg2 harg2 arg3 harg3 arg4 harg4 arg5 harg5 arg6 harg6 arg7 harg7 (moveStep rot128 7#32 128#32 (moveStep rot64 6#32 64#32 (moveStep rot32 5#32 32#32 (moveStep rot16 4#32 16#32 (moveStep rot8 3#32 8#32 (moveStep rot4 2#32 4#32 (moveStep rot2 1#32 2#32 (moveStep rot1 0#32 1#32 ⟨s, lanes, x1, y1, x2, y2, l, shift (picked k)⟩))))))))) _).trans ?_
  refine (bindRet (k0_part55_eq arg0 harg0 arg1 harg1 arg2 harg2 arg3 harg3 arg4 harg4 arg5 harg5 arg6 harg6 arg7 harg7 (moveStep rot512 9#32 512#32 (moveStep rot256 8#32 256#32 (moveStep rot128 7#32 128#32 (moveStep rot64 6#32 64#32 (moveStep rot32 5#32 32#32 (moveStep rot16 4#32 16#32 (moveStep rot8 3#32 8#32 (moveStep rot4 2#32 4#32 (moveStep rot2 1#32 2#32 (moveStep rot1 0#32 1#32 ⟨s, lanes, x1, y1, x2, y2, l, shift (picked k)⟩))))))))))) _).trans ?_
  refine (bindRet (k0_part56_eq arg0 harg0 arg1 harg1 arg2 harg2 arg3 harg3 arg4 harg4 arg5 harg5 arg6 harg6 arg7 harg7 (moveStep rot1024 10#32 1024#32 (moveStep rot512 9#32 512#32 (moveStep rot256 8#32 256#32 (moveStep rot128 7#32 128#32 (moveStep rot64 6#32 64#32 (moveStep rot32 5#32 32#32 (moveStep rot16 4#32 16#32 (moveStep rot8 3#32 8#32 (moveStep rot4 2#32 4#32 (moveStep rot2 1#32 2#32 (moveStep rot1 0#32 1#32 ⟨s, lanes, x1, y1, x2, y2, l, shift (picked k)⟩)))))))))))) _).trans ?_
  refine (bindRet (k0_part57_eq arg0 harg0 arg1 harg1 arg2 harg2 arg3 harg3 arg4 harg4 arg5 harg5 arg6 harg6 arg7 harg7 _ _ _ _ _ _ _ _ _ c hc) _).trans ?_
  rfl

end Cert.KernelIdeal.Gen
-- ==== Proof.Run.lean ====
/- The program's frame: its body run over its windows, and its launch. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Detect
open Cert.KernelIdeal.Facts₀ Cert.KernelIdeal.Facts

variable {F : FTy → Type} [FloatOps F]

local notation "𝕄" => MT nD τ sig Unit (Elt F) ℕ (UR sig nD τ) ℕ

/-! ## The body, as loads, stages and stores -/

/-- The body with its loops and its straight-line stages as functions. -/
def staged (arg0 : Memref sig .tc .vmem S25x8x5120 .f32) (harg0 : arg0.IsWhole)
  (arg1 : Memref sig .tc .vmem S4x5120 .f32) (harg1 : arg1.IsWhole)
  (arg2 : Memref sig .tc .vmem S8x200 .f32) (harg2 : arg2.IsWhole)
  (arg3 : Memref sig .tc .vmem S8x200 .f32) (harg3 : arg3.IsWhole)
  (arg4 : Memref sig .tc .vmem S8x200 .f32) (harg4 : arg4.IsWhole)
  (arg5 : Memref sig .tc .vmem S8x200 .f32) (harg5 : arg5.IsWhole)
  (arg6 : Memref sig .tc .vmem S8x200 .f32) (harg6 : arg6.IsWhole)
  (arg7 : Memref sig .tc .vmem S8x200 .f32) (harg7 : arg7.IsWhole) :
    Prog (TpuEff nD τ sig (Elt F) Λ₀ .tc) PUnit := do
  let ⟨v15, v21, v27, v32, v35⟩ ← k0_part31 arg0 harg0 arg1 harg1 arg2 harg2 arg3 harg3 arg4 harg4 arg5 harg5 arg6 harg6 arg7 harg7
  let ⟨v40, v43, v46, v49, v68, v70, v72⟩ ← k0_part32 arg0 harg0 arg1 harg1 arg2 harg2 arg3 harg3 arg4 harg4 arg5 harg5 arg6 harg6 arg7 harg7 v15 v21 v27 v32 v35
  let ⟨v104, v106, v108⟩ ← k0_part33 arg0 harg0 arg1 harg1 arg2 harg2 arg3 harg3 arg4 harg4 arg5 harg5 arg6 harg6 arg7 harg7 v68 v70 v72
  let ⟨v140, v142, v144⟩ ← k0_part34 arg0 harg0 arg1 harg1 arg2 harg2 arg3 harg3 arg4 harg4 arg5 harg5 arg6 harg6 arg7 harg7 v104 v106 v108
  let p ← scores arg0 v140 v142 v144
  stores arg2 arg3 arg4 arg5 arg6 arg7 (rounds (lot p.2 v40 v43 v46 v49 p.1 (picked (key p.2))))

/-- The printed body is that one. -/
theorem body_eq (arg0 : Memref sig .tc .vmem S25x8x5120 .f32) (harg0 : arg0.IsWhole)
  (arg1 : Memref sig .tc .vmem S4x5120 .f32) (harg1 : arg1.IsWhole)
  (arg2 : Memref sig .tc .vmem S8x200 .f32) (harg2 : arg2.IsWhole)
  (arg3 : Memref sig .tc .vmem S8x200 .f32) (harg3 : arg3.IsWhole)
  (arg4 : Memref sig .tc .vmem S8x200 .f32) (harg4 : arg4.IsWhole)
  (arg5 : Memref sig .tc .vmem S8x200 .f32) (harg5 : arg5.IsWhole)
  (arg6 : Memref sig .tc .vmem S8x200 .f32) (harg6 : arg6.IsWhole)
  (arg7 : Memref sig .tc .vmem S8x200 .f32) (harg7 : arg7.IsWhole) :
    cc0__detect_body (F := F) arg0 harg0 arg1 harg1 arg2 harg2 arg3 harg3 arg4 harg4 arg5 harg5 arg6 harg6 arg7 harg7 = staged arg0 harg0 arg1 harg1 arg2 harg2 arg3 harg3 arg4 harg4 arg5 harg5 arg6 harg6 arg7 harg7 := by
  rw [cc0__detect_body_eq_skeleton]
  unfold cc0__detect_body_skel staged
  refine congrArg (Prog.bind _) (funext fun ⟨v15, v21, v27, v32, v35⟩ => ?_)
  refine congrArg (Prog.bind _) (funext fun ⟨v40, v43, v46, v49, v68, v70, v72⟩ => ?_)
  refine congrArg (Prog.bind _) (funext fun ⟨v104, v106, v108⟩ => ?_)
  refine congrArg (Prog.bind _) (funext fun ⟨v140, v142, v144⟩ => ?_)
  refine (congrArg (fun p => Prog.bind p _) (k0_part35_eq arg0 harg0 arg1 harg1 arg2 harg2 arg3 harg3 arg4 harg4 arg5 harg5 arg6 harg6 arg7 harg7 v140 v142 v144)).trans ?_
  refine (Prog.bind_assoc _ _ _).trans ?_
  refine congrArg (Prog.bind _) (funext fun p => ?_)
  refine (Prog.bind_ret _ _).trans ?_
  dsimp only
  exact rest_eq arg0 harg0 arg1 harg1 arg2 harg2 arg3 harg3 arg4 harg4 arg5 harg5 arg6 harg6 arg7 harg7 p.2 v40 v43 v46 v49 p.1 (key p.2)
    (rounds (lot p.2 v40 v43 v46 v49 p.1 (picked (key p.2)))) rfl

/-! ## What the body leaves -/

/-- A value of the body between its parts. -/
def at_v15 (x0 : Vec F S25x8x5120 .f32) (x1 : Vec F S4x5120 .f32) := k0_pay182 (F := F) (View.ld x1 (Rect.unit (s := S4x5120) ![3, 0] S1x5120.size inb_S4x5120_S1x5120_3_0))

/-- A value of the body between its parts. -/
def at_v21 (x0 : Vec F S25x8x5120 .f32) (x1 : Vec F S4x5120 .f32) := k0_pay183 (F := F) (View.ld x0 (Rect.unit (s := S25x8x5120) ![0, 0, 0] S1x8x5120.size inb_S25x8x5120_S1x8x5120_0_0_0)) (View.ld x1 (Rect.unit (s := S4x5120) ![0, 0] S1x5120.size inb_S4x5120_S1x5120_0_0)) (View.ld x1 (Rect.unit (s := S4x5120) ![2, 0] S1x5120.size inb_S4x5120_S1x5120_2_0))

/-- A value of the body between its parts. -/
def at_v27 (x0 : Vec F S25x8x5120 .f32) (x1 : Vec F S4x5120 .f32) := k0_pay184 (F := F) (View.ld x0 (Rect.unit (s := S25x8x5120) ![1, 0, 0] S1x8x5120.size inb_S25x8x5120_S1x8x5120_1_0_0)) (View.ld x1 (Rect.unit (s := S4x5120) ![1, 0] S1x5120.size inb_S4x5120_S1x5120_1_0)) (View.ld x1 (Rect.unit (s := S4x5120) ![3, 0] S1x5120.size inb_S4x5120_S1x5120_3_0))

/-- A value of the body between its parts. -/
def at_v32 (x0 : Vec F S25x8x5120 .f32) (x1 : Vec F S4x5120 .f32) := k0_pay185 (F := F) (View.ld x0 (Rect.unit (s := S25x8x5120) ![2, 0, 0] S1x8x5120.size inb_S25x8x5120_S1x8x5120_2_0_0)) (View.ld x1 (Rect.unit (s := S4x5120) ![2, 0] S1x5120.size inb_S4x5120_S1x5120_2_0))

/-- A value of the body between its parts. -/
def at_v35 (x0 : Vec F S25x8x5120 .f32) (x1 : Vec F S4x5120 .f32) := k0_pay186 (F := F) (View.ld x0 (Rect.unit (s := S25x8x5120) ![3, 0, 0] S1x8x5120.size inb_S25x8x5120_S1x8x5120_3_0_0))

/-- A value of the body between its parts. -/
def at_v40 (x0 : Vec F S25x8x5120 .f32) (x1 : Vec F S4x5120 .f32) := k0_pay188 (F := F) (at_v21 x0 x1) (at_v32 x0 x1)

/-- A value of the body between its parts. -/
def at_v43 (x0 : Vec F S25x8x5120 .f32) (x1 : Vec F S4x5120 .f32) := k0_pay189 (F := F) (at_v15 x0 x1) (at_v27 x0 x1) (at_v35 x0 x1)

/-- A value of the body between its parts. -/
def at_v46 (x0 : Vec F S25x8x5120 .f32) (x1 : Vec F S4x5120 .f32) := k0_pay190 (F := F) (at_v21 x0 x1) (at_v32 x0 x1)

/-- A value of the body between its parts. -/
def at_v49 (x0 : Vec F S25x8x5120 .f32) (x1 : Vec F S4x5120 .f32) := k0_pay191 (F := F) (at_v15 x0 x1) (at_v27 x0 x1) (at_v35 x0 x1)

/-- A value of the body between its parts. -/
def at_v68 (x0 : Vec F S25x8x5120 .f32) (x1 : Vec F S4x5120 .f32) := k0_pay201 (F := F) (View.ld x0 (Rect.unit (s := S25x8x5120) ![4, 0, 0] S1x8x5120.size inb_S25x8x5120_S1x8x5120_4_0_0)) (View.ld x0 (Rect.unit (s := S25x8x5120) ![5, 0, 0] S1x8x5120.size inb_S25x8x5120_S1x8x5120_5_0_0)) (View.ld x0 (Rect.unit (s := S25x8x5120) ![6, 0, 0] S1x8x5120.size inb_S25x8x5120_S1x8x5120_6_0_0)) (View.ld x0 (Rect.unit (s := S25x8x5120) ![7, 0, 0] S1x8x5120.size inb_S25x8x5120_S1x8x5120_7_0_0))

/-- A value of the body between its parts. -/
def at_v70 (x0 : Vec F S25x8x5120 .f32) (x1 : Vec F S4x5120 .f32) := k0_pay202 (F := F) (View.ld x0 (Rect.unit (s := S25x8x5120) ![4, 0, 0] S1x8x5120.size inb_S25x8x5120_S1x8x5120_4_0_0)) (View.ld x0 (Rect.unit (s := S25x8x5120) ![5, 0, 0] S1x8x5120.size inb_S25x8x5120_S1x8x5120_5_0_0)) (View.ld x0 (Rect.unit (s := S25x8x5120) ![6, 0, 0] S1x8x5120.size inb_S25x8x5120_S1x8x5120_6_0_0)) (View.ld x0 (Rect.unit (s := S25x8x5120) ![7, 0, 0] S1x8x5120.size inb_S25x8x5120_S1x8x5120_7_0_0))

/-- A value of the body between its parts. -/
def at_v72 (x0 : Vec F S25x8x5120 .f32) (x1 : Vec F S4x5120 .f32) := k0_pay203 (F := F) (View.ld x0 (Rect.unit (s := S25x8x5120) ![8, 0, 0] S1x8x5120.size inb_S25x8x5120_S1x8x5120_8_0_0))

/-- A value of the body between its parts. -/
def at_v104 (x0 : Vec F S25x8x5120 .f32) (x1 : Vec F S4x5120 .f32) := k0_pay220 (F := F) (at_v68 x0 x1) (at_v72 x0 x1) (View.ld x0 (Rect.unit (s := S25x8x5120) ![9, 0, 0] S1x8x5120.size inb_S25x8x5120_S1x8x5120_9_0_0)) (View.ld x0 (Rect.unit (s := S25x8x5120) ![10, 0, 0] S1x8x5120.size inb_S25x8x5120_S1x8x5120_10_0_0)) (View.ld x0 (Rect.unit (s := S25x8x5120) ![11, 0, 0] S1x8x5120.size inb_S25x8x5120_S1x8x5120_11_0_0)) (View.ld x0 (Rect.unit (s := S25x8x5120) ![12, 0, 0] S1x8x5120.size inb_S25x8x5120_S1x8x5120_12_0_0)) (View.ld x0 (Rect.unit (s := S25x8x5120) ![13, 0, 0] S1x8x5120.size inb_S25x8x5120_S1x8x5120_13_0_0))

/-- A value of the body between its parts. -/
def at_v106 (x0 : Vec F S25x8x5120 .f32) (x1 : Vec F S4x5120 .f32) := k0_pay221 (F := F) (at_v68 x0 x1) (at_v70 x0 x1) (at_v72 x0 x1) (View.ld x0 (Rect.unit (s := S25x8x5120) ![9, 0, 0] S1x8x5120.size inb_S25x8x5120_S1x8x5120_9_0_0)) (View.ld x0 (Rect.unit (s := S25x8x5120) ![10, 0, 0] S1x8x5120.size inb_S25x8x5120_S1x8x5120_10_0_0)) (View.ld x0 (Rect.unit (s := S25x8x5120) ![11, 0, 0] S1x8x5120.size inb_S25x8x5120_S1x8x5120_11_0_0)) (View.ld x0 (Rect.unit (s := S25x8x5120) ![12, 0, 0] S1x8x5120.size inb_S25x8x5120_S1x8x5120_12_0_0)) (View.ld x0 (Rect.unit (s := S25x8x5120) ![13, 0, 0] S1x8x5120.size inb_S25x8x5120_S1x8x5120_13_0_0))

/-- A value of the body between its parts. -/
def at_v108 (x0 : Vec F S25x8x5120 .f32) (x1 : Vec F S4x5120 .f32) := k0_pay222 (F := F) (View.ld x0 (Rect.unit (s := S25x8x5120) ![14, 0, 0] S1x8x5120.size inb_S25x8x5120_S1x8x5120_14_0_0))

/-- A value of the body between its parts. -/
def at_v140 (x0 : Vec F S25x8x5120 .f32) (x1 : Vec F S4x5120 .f32) := k0_pay239 (F := F) (at_v104 x0 x1) (at_v108 x0 x1) (View.ld x0 (Rect.unit (s := S25x8x5120) ![15, 0, 0] S1x8x5120.size inb_S25x8x5120_S1x8x5120_15_0_0)) (View.ld x0 (Rect.unit (s := S25x8x5120) ![16, 0, 0] S1x8x5120.size inb_S25x8x5120_S1x8x5120_16_0_0)) (View.ld x0 (Rect.unit (s := S25x8x5120) ![17, 0, 0] S1x8x5120.size inb_S25x8x5120_S1x8x5120_17_0_0)) (View.ld x0 (Rect.unit (s := S25x8x5120) ![18, 0, 0] S1x8x5120.size inb_S25x8x5120_S1x8x5120_18_0_0)) (View.ld x0 (Rect.unit (s := S25x8x5120) ![19, 0, 0] S1x8x5120.size inb_S25x8x5120_S1x8x5120_19_0_0))

/-- A value of the body between its parts. -/
def at_v142 (x0 : Vec F S25x8x5120 .f32) (x1 : Vec F S4x5120 .f32) := k0_pay240 (F := F) (at_v104 x0 x1) (at_v106 x0 x1) (at_v108 x0 x1) (View.ld x0 (Rect.unit (s := S25x8x5120) ![15, 0, 0] S1x8x5120.size inb_S25x8x5120_S1x8x5120_15_0_0)) (View.ld x0 (Rect.unit (s := S25x8x5120) ![16, 0, 0] S1x8x5120.size inb_S25x8x5120_S1x8x5120_16_0_0)) (View.ld x0 (Rect.unit (s := S25x8x5120) ![17, 0, 0] S1x8x5120.size inb_S25x8x5120_S1x8x5120_17_0_0)) (View.ld x0 (Rect.unit (s := S25x8x5120) ![18, 0, 0] S1x8x5120.size inb_S25x8x5120_S1x8x5120_18_0_0)) (View.ld x0 (Rect.unit (s := S25x8x5120) ![19, 0, 0] S1x8x5120.size inb_S25x8x5120_S1x8x5120_19_0_0))

/-- A value of the body between its parts. -/
def at_v144 (x0 : Vec F S25x8x5120 .f32) (x1 : Vec F S4x5120 .f32) := k0_pay241 (F := F) (View.ld x0 (Rect.unit (s := S25x8x5120) ![20, 0, 0] S1x8x5120.size inb_S25x8x5120_S1x8x5120_20_0_0))

/-- The labels. -/
def at_label (x0 : Vec F S25x8x5120 .f32) (x1 : Vec F S4x5120 .f32) : FVec F S8x5120 .f32 := k0_pay255 (F := F) (at_v140 x0 x1) (at_v142 x0 x1) (at_v144 x0 x1) (View.ld x0 (Rect.unit (s := S25x8x5120) ![21, 0, 0] S1x8x5120.size inb_S25x8x5120_S1x8x5120_21_0_0)) (View.ld x0 (Rect.unit (s := S25x8x5120) ![22, 0, 0] S1x8x5120.size inb_S25x8x5120_S1x8x5120_22_0_0)) (View.ld x0 (Rect.unit (s := S25x8x5120) ![23, 0, 0] S1x8x5120.size inb_S25x8x5120_S1x8x5120_23_0_0)) (View.ld x0 (Rect.unit (s := S25x8x5120) ![24, 0, 0] S1x8x5120.size inb_S25x8x5120_S1x8x5120_24_0_0))

/-- The masked scores. -/
def at_score (x0 : Vec F S25x8x5120 .f32) (x1 : Vec F S4x5120 .f32) : FVec F S8x5120 .f32 := k0_pay256 (F := F) (at_v140 x0 x1) (at_v144 x0 x1) (View.ld x0 (Rect.unit (s := S25x8x5120) ![21, 0, 0] S1x8x5120.size inb_S25x8x5120_S1x8x5120_21_0_0)) (View.ld x0 (Rect.unit (s := S25x8x5120) ![22, 0, 0] S1x8x5120.size inb_S25x8x5120_S1x8x5120_22_0_0)) (View.ld x0 (Rect.unit (s := S25x8x5120) ![23, 0, 0] S1x8x5120.size inb_S25x8x5120_S1x8x5120_23_0_0)) (View.ld x0 (Rect.unit (s := S25x8x5120) ![24, 0, 0] S1x8x5120.size inb_S25x8x5120_S1x8x5120_24_0_0))

/-- The four hundred in their order, off the two blocks. -/
def found (x0 : Vec F S25x8x5120 .f32) (x1 : Vec F S4x5120 .f32) : Carry F :=
  rounds (lot (at_score x0 x1) (at_v40 x0 x1) (at_v43 x0 x1) (at_v46 x0 x1) (at_v49 x0 x1) (at_label x0 x1)
    (picked (key (at_score x0 x1))))

/-- The whole of a result window. -/
abbrev whole : Rect S8x200 := Rect.unit (s := S8x200) ![0, 0] S8x200.size inb_S8x200_S8x200_0_0

/-- What window 2 holds after the body. -/
def out0_2 (x0 : Vec F S25x8x5120 .f32) (x1 : Vec F S4x5120 .f32) : Vec F S8x200 .f32 :=
  View.canon [⟨whole, result (gate (found x0 x1)) (found x0 x1).2.2.1⟩]

/-- What window 3 holds after the body. -/
def out0_3 (x0 : Vec F S25x8x5120 .f32) (x1 : Vec F S4x5120 .f32) : Vec F S8x200 .f32 :=
  View.canon [⟨whole, result (gate (found x0 x1)) (found x0 x1).2.2.2.1⟩]

/-- What window 4 holds after the body. -/
def out0_4 (x0 : Vec F S25x8x5120 .f32) (x1 : Vec F S4x5120 .f32) : Vec F S8x200 .f32 :=
  View.canon [⟨whole, result (gate (found x0 x1)) (found x0 x1).2.2.2.2.1⟩]

/-- What window 5 holds after the body. -/
def out0_5 (x0 : Vec F S25x8x5120 .f32) (x1 : Vec F S4x5120 .f32) : Vec F S8x200 .f32 :=
  View.canon [⟨whole, result (gate (found x0 x1)) (found x0 x1).2.2.2.2.2.1⟩]

/-- What window 6 holds after the body. -/
def out0_6 (x0 : Vec F S25x8x5120 .f32) (x1 : Vec F S4x5120 .f32) : Vec F S8x200 .f32 :=
  View.canon [⟨whole, result (gate (found x0 x1)) (found x0 x1).2.2.2.2.2.2⟩]

/-- What window 7 holds after the body. -/
def out0_7 (x0 : Vec F S25x8x5120 .f32) (x1 : Vec F S4x5120 .f32) : Vec F S8x200 .f32 :=
  View.canon [⟨whole, result (gate (found x0 x1)) (found x0 x1).2.1⟩]

/-- One store covers a result window. -/
theorem cover_whole (p0 : Vec F S8x200 .f32) (y : S8x200.Idx) :
    ∃ pc ∈ ([⟨whole, p0⟩] : List (View.Piece (Elt F) S8x200 .f32)), y ∈ pc.1.set :=
  View.cover_of_tiled [⟨whole, p0⟩] S8x200.size (by rfl) y

set_option maxHeartbeats 4000000 in
/-- The body on whole windows leaves the inputs as they were and each result window at its value. -/
theorem sound_kernel (c : Dev nD) (E : Set ℕ) (arg0 : Memref sig .tc .vmem S25x8x5120 .f32) (harg0 : arg0.IsWhole)
  (arg1 : Memref sig .tc .vmem S4x5120 .f32) (harg1 : arg1.IsWhole)
  (arg2 : Memref sig .tc .vmem S8x200 .f32) (harg2 : arg2.IsWhole)
  (arg3 : Memref sig .tc .vmem S8x200 .f32) (harg3 : arg3.IsWhole)
  (arg4 : Memref sig .tc .vmem S8x200 .f32) (harg4 : arg4.IsWhole)
  (arg5 : Memref sig .tc .vmem S8x200 .f32) (harg5 : arg5.IsWhole)
  (arg6 : Memref sig .tc .vmem S8x200 .f32) (harg6 : arg6.IsWhole)
  (arg7 : Memref sig .tc .vmem S8x200 .f32) (harg7 : arg7.IsWhole)
    (x0 : Vec F S25x8x5120 .f32) (x1 : Vec F S4x5120 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1) ∗ owns (c : Thread nD τ) arg5 fullShare (out0_5 x0 x1) ∗ owns (c : Thread nD τ) arg6 fullShare (out0_6 x0 x1) ∗ owns (c : Thread nD τ) arg7 fullShare (out0_7 x0 x1)) -∗ K ⟨⟩))
      ⊢ wp frame (wpE (defs₀ (F := F)) Variants.none c none) E (cc0__detect_body arg0 harg0 arg1 harg1 arg2 harg2 arg3 harg3 arg4 harg4 arg5 harg5 arg6 harg6 arg7 harg7) K := by
  rw [body_eq]
  unfold staged
  unfold scores stores
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_whole _)
  isplitl [H3]
  · iexists _; isplitr
    swap; · iexact H3
    ipureintro
    exact View.read_writes_eq_canon _ _ _ (cover_whole _)
  isplitl [H4]
  · iexists _; isplitr
    swap; · iexact H4
    ipureintro
    exact View.read_writes_eq_canon _ _ _ (cover_whole _)
  isplitl [H5]
  · iexists _; isplitr
    swap; · iexact H5
    ipureintro
    exact View.read_writes_eq_canon _ _ _ (cover_whole _)
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

variable (m : (ℓ : Loc nD τ sig) → Buf (Elt F) ℓ) (ρ : Dev nD → PrngReg)

/-- The proof data of the one region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
    | ⟨5, _⟩ => out0_5 (iblk m c 0 t) (iblk m c 1 t)
    | ⟨6, _⟩ => out0_6 (iblk m c 0 t) (iblk m c 1 t)
    | ⟨7, _⟩ => out0_7 (iblk m c 0 t) (iblk m c 1 t)
  Φ _ := Pipeline.ΦA spec0 c
  q _ := fullShare
  owed _ := 0

/-- The arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]
theorem after0_5 (c : Dev nD) (t : Fin cfg0.N) : (dats m 0 c).after 5 t = out0_5 (iblk m c 0 t) (iblk m c 1 t) := by dsimp only [dats]
theorem after0_6 (c : Dev nD) (t : Fin cfg0.N) : (dats m 0 c).after 6 t = out0_6 (iblk m c 0 t) (iblk m c 1 t) := by dsimp only [dats]
theorem after0_7 (c : Dev nD) (t : Fin cfg0.N) : (dats m 0 c).after 7 t = out0_7 (iblk m c 0 t) (iblk m c 1 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch runs to its post, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch runs to its post. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- and the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.RefRun.lean ====
/- The reference's frame. -/
module

public import proofs.«01_k».proof.Proof.Gen.ReferenceIdeal.Run
public import Idealize.ShloMosaic.Lib.Claim

@[expose] public section

set_option maxRecDepth 8192

noncomputable section

namespace Cert.ReferenceIdeal.Value

open Idealize.ShloMosaic Idealize.ShloMosaic.TcCoe Idealize.ShloMosaic.StableHlo
open Idealize.SL Idealize.SL.Sem
open Cert.ReferenceIdeal.Gen

variable {F : FTy → Type} [FloatOps F] (m : (ℓ : Loc nD τ sig) → Buf (Elt F) ℓ) (ρ : Dev nD → PrngReg)

/-- What a stretch after the loop writes. -/
abbrev hostOps0_7_R : List (Ref sig .tc) := [main_v93, main_v94, main_cst_13]
theorem hostOps0_7_R_writes : (hostOps0_7 : List (HloOp τ sig (Elt F))).Forall fun op => op.writes ⊆ (hostOps0_7_R.map (Proc.devRef (τ := τ) .tc)).toFinset :=
  forall_writes_sub_of_map rfl

/-- What a stretch after the loop writes. -/
abbrev hostOps0_8_R : List (Ref sig .tc) := [main_call3_v0, main_call3_v1, main_v95]
theorem hostOps0_8_R_writes : (hostOps0_8 : List (HloOp τ sig (Elt F))).Forall fun op => op.writes ⊆ (hostOps0_8_R.map (Proc.devRef (τ := τ) .tc)).toFinset :=
  forall_writes_sub_of_map rfl

/-- What a stretch after the loop writes. -/
abbrev hostOps0_9_R : List (Ref sig .tc) := [main_call4_v0, main_call4_v1_0, main_v96]
theorem hostOps0_9_R_writes : (hostOps0_9 : List (HloOp τ sig (Elt F))).Forall fun op => op.writes ⊆ (hostOps0_9_R.map (Proc.devRef (τ := τ) .tc)).toFinset :=
  forall_writes_sub_of_map rfl

/-- What a stretch after the loop writes. -/
abbrev hostOps0_10_R : List (Ref sig .tc) := [main_v97, main_v98, main_v99, main_v100, main_v101, main_v102]
theorem hostOps0_10_R_writes : (hostOps0_10 : List (HloOp τ sig (Elt F))).Forall fun op => op.writes ⊆ (hostOps0_10_R.map (Proc.devRef (τ := τ) .tc)).toFinset :=
  forall_writes_sub_of_map rfl

/-- What a stretch after the loop writes. -/
abbrev hostOps0_11_R : List (Ref sig .tc) := [main_call5_c, main_call5_v0, main_call5_v1, main_call5_c_0, main_call5_v2, main_call5_v3, main_call5_v4, main_v103]
theorem hostOps0_11_R_writes : (hostOps0_11 : List (HloOp τ sig (Elt F))).Forall fun op => op.writes ⊆ (hostOps0_11_R.map (Proc.devRef (τ := τ) .tc)).toFinset :=
  forall_writes_sub_of_map rfl

theorem trip_keeps_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [after_of_writes_sub hostOps0_6 _ hostOps0_6_writes (by decide +kernel), after_of_writes_sub hostOps0_5 _ hostOps0_5_writes (by decide +kernel),
      after_of_writes_sub hostOps0_4 _ hostOps0_4_writes (by decide +kernel), after_of_writes_sub hostOps0_3 _ hostOps0_3_writes (by decide +kernel),
      after_of_writes_sub hostOps0_2 _ hostOps0_2_writes (by decide +kernel), after_of_writes_sub hostOps0_1 _ hostOps0_1_writes (by decide +kernel),
      after_of_writes_sub hostOps0 _ hostOps0_writes (by decide +kernel)]
  | k + 1 => by
    rw [show atK m (k + 1) c = afterL bodyI (after condOps (atK m k c)) from rfl]
    simp only [afterL_cons, afterL_nil]
    rw [after_of_writes_sub while0Ops0 _ while0Ops0_writes (by decide +kernel), after_of_writes_sub condOps _ condOps_writes (by decide +kernel),
      trip_keeps_main_arg0 c k]

theorem final_main_arg0 (c : Dev nD) :
    finalContents condOps preI bodyI postI 400 m c (Proc.devRef .tc main_arg0) = m ((c.tc : Thread nD τ).loc main_arg0) := by
  simp only [finalContents, afterL_cons, afterL_nil]
  rw [after_of_writes_sub hostOps0_11 _ hostOps0_11_R_writes (by decide +kernel), after_of_writes_sub hostOps0_10 _ hostOps0_10_R_writes (by decide +kernel), after_of_writes_sub hostOps0_9 _ hostOps0_9_R_writes (by decide +kernel), after_of_writes_sub hostOps0_8 _ hostOps0_8_R_writes (by decide +kernel), after_of_writes_sub hostOps0_7 _ hostOps0_7_R_writes (by decide +kernel),
    after_of_writes_sub condOps _ condOps_writes (by decide +kernel)]
  exact trip_keeps_main_arg0 m c 400

theorem trip_keeps_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [after_of_writes_sub hostOps0_6 _ hostOps0_6_writes (by decide +kernel), after_of_writes_sub hostOps0_5 _ hostOps0_5_writes (by decide +kernel),
      after_of_writes_sub hostOps0_4 _ hostOps0_4_writes (by decide +kernel), after_of_writes_sub hostOps0_3 _ hostOps0_3_writes (by decide +kernel),
      after_of_writes_sub hostOps0_2 _ hostOps0_2_writes (by decide +kernel), after_of_writes_sub hostOps0_1 _ hostOps0_1_writes (by decide +kernel),
      after_of_writes_sub hostOps0 _ hostOps0_writes (by decide +kernel)]
  | k + 1 => by
    rw [show atK m (k + 1) c = afterL bodyI (after condOps (atK m k c)) from rfl]
    simp only [afterL_cons, afterL_nil]
    rw [after_of_writes_sub while0Ops0 _ while0Ops0_writes (by decide +kernel), after_of_writes_sub condOps _ condOps_writes (by decide +kernel),
      trip_keeps_main_arg1 c k]

theorem final_main_arg1 (c : Dev nD) :
    finalContents condOps preI bodyI postI 400 m c (Proc.devRef .tc main_arg1) = m ((c.tc : Thread nD τ).loc main_arg1) := by
  simp only [finalContents, afterL_cons, afterL_nil]
  rw [after_of_writes_sub hostOps0_11 _ hostOps0_11_R_writes (by decide +kernel), after_of_writes_sub hostOps0_10 _ hostOps0_10_R_writes (by decide +kernel), after_of_writes_sub hostOps0_9 _ hostOps0_9_R_writes (by decide +kernel), after_of_writes_sub hostOps0_8 _ hostOps0_8_R_writes (by decide +kernel), after_of_writes_sub hostOps0_7 _ hostOps0_7_R_writes (by decide +kernel),
    after_of_writes_sub condOps _ condOps_writes (by decide +kernel)]
  exact trip_keeps_main_arg1 m c 400

/-- The reference runs, its arguments end unchanged and every counter ends at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0 (by decide)).trans (final_main_arg0 m c),
      (h c main_arg1 (by decide)).trans (final_main_arg1 m c)⟩,
      Idealize.ShloMosaic.sem_eq_zero_of_no_sems (by decide) r.2⟩)
    (run_fold m ρ)

end Cert.ReferenceIdeal.Value

end
-- ==== Proof.At.lean ====
/- The stages read at an index, at the ideal values. -/
module

public import proofs.«01_k».proof.Proof.Stages
public import Idealize.ShloMosaic.Lib.Pointwise
public import Idealize.ShloMosaic.Lib.IndicatorCount

@[expose] public section

noncomputable section

namespace Cert.Detect

open Cert.KernelIdeal Cert.KernelIdeal.Facts₀ Cert.KernelIdeal.Facts
open Idealize.ShloMosaic

/-! ## Layout -/

theorem lanes_at (b : Fin 8) (i : Fin 5120) : lanes (ix2 b i) = BitVec.ofNat 32 i.val := by
  pointwise

theorem wide_at {α : Type} (x : S8x1.Idx → α) (b : Fin 8) (i : Fin 5120) : wide x (ix2 b i) = x (ix2 b 0) := by
  pointwise

theorem wideS_at {α : Type} (x : S8x1.Idx → α) (b : Fin 8) (i : Fin 400) : wideS x (ix2 b i) = x (ix2 b 0) := by
  pointwise

theorem wideC_at {α : Type} (x : S8x1.Idx → α) (b : Fin 8) (i : Fin 400) : wideC x (ix2 b i) = x (ix2 b 0) := by
  pointwise

theorem tall_at {α : Type} (x : S1x400.Idx → α) (b : Fin 8) (i : Fin 400) : tall x (ix2 b i) = x (ix2 0 i) := by
  pointwise

theorem head_at {α : Type} (x : S8x5120.Idx → α) (b : Fin 8) (i : Fin 400) :
    head x (ix2 b i) = x (ix2 b ⟨i.val, by omega⟩) := by
  pointwise

theorem slots_at (i : Fin 400) : slots (ix2 0 i) = BitVec.ofNat 32 i.val := by
  pointwise

theorem flt_at (s : Shape) (w : BitVec 32) (i : s.Idx) : flt (F := Ideal) s w i = Ideal.ofBits .f32 w := rfl

/-- A choice at an index. -/
theorem sel_at {α : Type} {s : Shape} (c : IVec s 1) (a b : s.Idx → α) (j : s.Idx) :
    select c a b j = if c j = 1#1 then a j else b j := rfl

/-- A comparison's bit. -/
theorem ofBool_eq_one (p : Bool) : BitVec.ofBool p = 1#1 ↔ p = true := by cases p <;> decide

theorem ogt_one (x y : Ideal .f32) : FloatOps.cmpf .ogt x y = 1#1 ↔ y < x := by
  show BitVec.ofBool (decide (y < x)) = 1#1 ↔ _
  rw [ofBool_eq_one, decide_eq_true_iff]

theorem olt_one (x y : Ideal .f32) : FloatOps.cmpf .olt x y = 1#1 ↔ x < y := by
  show BitVec.ofBool (decide (x < y)) = 1#1 ↔ _
  rw [ofBool_eq_one, decide_eq_true_iff]

theorem oeq_one (x y : Ideal .f32) : FloatOps.cmpf .oeq x y = 1#1 ↔ x = y := by
  show BitVec.ofBool (decide (x = y)) = 1#1 ↔ _
  rw [ofBool_eq_one, decide_eq_true_iff]

theorem and_one (x y : BitVec 1) : x &&& y = 1#1 ↔ x = 1#1 ∧ y = 1#1 := by
  revert x y; decide

theorem or_one (x y : BitVec 1) : x ||| y = 1#1 ↔ x = 1#1 ∨ y = 1#1 := by
  revert x y; decide

/-! ## Sums and counts -/

theorem laneSum_at (x : FVec Ideal S8x5120 .f32) (b : Fin 8) : laneSum x (ix2 b 0) = ∑ k : Fin 5120, x (ix2 b k) := by
  pointwise [laneSum]

theorem slotSum_at (x : FVec Ideal S8x400 .f32) (b : Fin 8) : slotSum x (ix2 b 0) = ∑ k : Fin 400, x (ix2 b k) := by
  pointwise [slotSum]

theorem slotMax_at (x : FVec Ideal S8x400 .f32) (b : Fin 8) :
    slotMax x (ix2 b 0) = (Finset.univ : Finset (Fin 400)).fold max (Ideal.ofBits .f32 0xFF800000#32) fun k => x (ix2 b k) := by
  pointwise [slotMax]

theorem slotMin_at (x : IVec S8x400 32) (b : Fin 8) :
    slotMin x (ix2 b 0) = (Finset.univ : Finset (Fin 400)).fold IntOp.minsi 2147483647#32 fun k => x (ix2 b k) := by
  pointwise [slotMin]

theorem slotCount_at (m : IVec S8x400 1) (b : Fin 8) :
    slotCount m (ix2 b 0) = BitVec.ofNat 32 ((Finset.univ : Finset (Fin 400)).filter fun k => m (ix2 b k) = 1#1).card := by
  rw [← IndicatorCount.fold_addi_setWidth_eq_card]
  pointwise [slotCount]

theorem laneCount_at (m : IVec S8x5120 1) (b : Fin 8) :
    laneCount m (ix2 b 0) = BitVec.ofNat 32 ((Finset.univ : Finset (Fin 5120)).filter fun k => m (ix2 b k) = 1#1).card := by
  rw [← IndicatorCount.fold_addi_setWidth_eq_card]
  pointwise [laneCount]

end Cert.Detect
-- ==== Proof.Search.lean ====
/- The search by bits: the largest number at which a condition still holds. -/
module

public import proofs.«01_k».proof.Proof.At

@[expose] public section

noncomputable section

namespace Cert.Detect

open Cert.KernelIdeal Cert.KernelIdeal.Facts₀ Cert.KernelIdeal.Facts
open Idealize.ShloMosaic

/-- The `n` lowest bits from the highest. -/
def bitsL : ℕ → List (BitVec 32)
  | 0 => []
  | n + 1 => BitVec.ofNat 32 (2 ^ n) :: bitsL n

theorem bits32_eq : bits32 = bitsL 32 := by rfl
theorem bits13_eq : bits13 = bitsL 13 := by rfl

/-- A bit below a multiple is added. -/
theorem toNat_or_bit (t : BitVec 32) (n : ℕ) (hd : 2 ^ (n + 1) ∣ t.toNat) (hn : t.toNat + 2 ^ (n + 1) ≤ 2 ^ 32) :
    (t ||| BitVec.ofNat 32 (2 ^ n)).toNat = t.toNat + 2 ^ n := by
  obtain ⟨q, hq⟩ := hd
  have h2 : (2 : ℕ) ^ (n + 1) = 2 * 2 ^ n := by rw [pow_succ]; ring
  have hlt : 2 ^ n < 2 ^ 32 := by have : 0 < 2 ^ n := by positivity
                                  omega
  rw [BitVec.toNat_or, BitVec.toNat_ofNat, Nat.mod_eq_of_lt hlt, hq]
  rw [← Nat.two_pow_add_eq_or_of_lt (b := 2 ^ n) (by rw [h2]; have : 0 < 2 ^ n := by positivity
                                                     omega)]

/-- The search ends at a number where the condition holds and at whose successor it does not. -/
theorem search_ends (b : Fin 8) (pass : IVec S8x1 32 → IVec S8x5120 1) (need : IVec S8x1 32) (P : ℕ → Prop)
    (L : ℕ) (hL : L ≤ 2 ^ 32)
    (h : ∀ t : IVec S8x1 32, (t (ix2 b 0)).toNat < L → ((cmpi .sge (laneCount (pass t)) need) (ix2 b 0) = 1#1 ↔ P (t (ix2 b 0)).toNat)) :
    ∀ (n : ℕ) (t : IVec S8x1 32), 2 ^ n ∣ (t (ix2 b 0)).toNat → (t (ix2 b 0)).toNat + 2 ^ n ≤ L →
      P (t (ix2 b 0)).toNat → ¬ P ((t (ix2 b 0)).toNat + 2 ^ n) →
      P (((bitsL n).foldl (bitStep pass need) t) (ix2 b 0)).toNat ∧
        ¬ P ((((bitsL n).foldl (bitStep pass need) t) (ix2 b 0)).toNat + 1)
  | 0, t, _, _, hp, hq => by simpa [bitsL] using ⟨hp, hq⟩
  | n + 1, t, hd, hn, hp, hq => by
    have h2 : (2 : ℕ) ^ (n + 1) = 2 ^ n + 2 ^ n := by rw [pow_succ]; ring
    have e : ((ori t (broadcast S8x1 (BitVec.ofNat 32 (2 ^ n)))) (ix2 b 0)).toNat = (t (ix2 b 0)).toNat + 2 ^ n :=
      toNat_or_bit _ n hd (hn.trans hL)
    rw [show bitsL (n + 1) = BitVec.ofNat 32 (2 ^ n) :: bitsL n from rfl, List.foldl_cons]
    have hd' : 2 ^ n ∣ (t (ix2 b 0)).toNat := (pow_dvd_pow 2 (Nat.le_succ n)).trans hd
    have hs : bitStep pass need t (BitVec.ofNat 32 (2 ^ n)) (ix2 b 0)
        = if (cmpi .sge (laneCount (pass (ori t (broadcast S8x1 (BitVec.ofNat 32 (2 ^ n)))))) need) (ix2 b 0) = 1#1
          then (ori t (broadcast S8x1 (BitVec.ofNat 32 (2 ^ n)))) (ix2 b 0) else t (ix2 b 0) := by
      rw [bitStep, sel_at]
    have hb : ((ori t (broadcast S8x1 (BitVec.ofNat 32 (2 ^ n)))) (ix2 b 0)).toNat < L := by
      rw [e]; have : 0 < 2 ^ n := by positivity
      omega
    by_cases hc : P ((t (ix2 b 0)).toNat + 2 ^ n)
    · rw [if_pos ((h _ hb).2 (by rw [e]; exact hc))] at hs
      have e' : (bitStep pass need t (BitVec.ofNat 32 (2 ^ n)) (ix2 b 0)).toNat = (t (ix2 b 0)).toNat + 2 ^ n := by
        rw [hs, e]
      refine search_ends b pass need P L hL h n _ ?_ ?_ ?_ ?_
      · rw [e']; exact Dvd.dvd.add hd' dvd_rfl
      · rw [e']; omega
      · rw [e']; exact hc
      · rw [e']; rw [h2, ← add_assoc] at hq; exact hq
    · rw [if_neg (fun hh => hc (by rw [← e]; exact (h _ hb).1 hh))] at hs
      refine search_ends b pass need P L hL h n _ ?_ ?_ ?_ ?_
      · rw [hs]; exact hd'
      · rw [hs]; omega
      · rw [hs]; exact hp
      · rw [hs]; exact hc

end Cert.Detect
-- ==== Proof.Sets.lean ====
/- Counting in a row: ranks, the four hundred first, and the marks the two searches leave. -/
module

public import proofs.«01_k».proof.Proof.At

@[expose] public section

namespace Cert.Detect

variable {N : ℕ}

/-- How many lanes have the property. -/
def count (p : Fin N → Prop) [DecidablePred p] : ℕ := (Finset.univ.filter p).card

theorem count_congr (p q : Fin N → Prop) [DecidablePred p] [DecidablePred q] (h : ∀ i, p i ↔ q i) : count p = count q := by
  unfold count; congr 1; ext i; simp [h]

theorem count_le (p q : Fin N → Prop) [DecidablePred p] [DecidablePred q] (h : ∀ i, p i → q i) : count p ≤ count q :=
  Finset.card_le_card fun i hi => by simp at hi ⊢; exact h i hi

theorem count_le_size (p : Fin N → Prop) [DecidablePred p] : count p ≤ N := by
  unfold count; exact (Finset.card_le_univ _).trans (by simp)

theorem count_true (p : Fin N → Prop) [DecidablePred p] (h : ∀ i, p i) : count p = N := by
  unfold count; rw [Finset.filter_true_of_mem fun i _ => h i]; simp

theorem count_false (p : Fin N → Prop) [DecidablePred p] (h : ∀ i, ¬ p i) : count p = 0 := by
  unfold count; rw [Finset.filter_false_of_mem fun i _ => h i]; simp

theorem count_or (p q : Fin N → Prop) [DecidablePred p] [DecidablePred q] (h : ∀ i, p i → ¬ q i) :
    count (fun i => p i ∨ q i) = count p + count q := by
  unfold count
  rw [Finset.filter_or, Finset.card_union_of_disjoint]
  exact Finset.disjoint_filter.2 fun i _ hp => h i hp

theorem count_le_one (p : Fin N → Prop) [DecidablePred p] (h : ∀ i j, p i → p j → i = j) : count p ≤ 1 :=
  Finset.card_le_one.2 fun i hi j hj => h i j (by simpa using hi) (by simpa using hj)

/-- The marks of the two searches are four hundred (`W` of them). -/
theorem count_marks (K : Fin N → ℕ) (T U W : ℕ) (h1 : W ≤ count fun i => T ≤ K i) (h2 : ¬ W ≤ count fun i => T + 1 ≤ K i)
    (h3 : W - (count fun i => T < K i) ≤ count fun i : Fin N => K i = T ∧ U ≤ N - 1 - i.val)
    (h4 : ¬ W - (count fun i => T < K i) ≤ count fun i : Fin N => K i = T ∧ U + 1 ≤ N - 1 - i.val) :
    (count fun i : Fin N => T < K i ∨ (K i = T ∧ U ≤ N - 1 - i.val)) = W := by
  rw [count_or _ _ (fun i h h' => by omega)]
  have e : (count fun i => T + 1 ≤ K i) = count fun i => T < K i := count_congr _ _ fun i => Nat.succ_le_iff
  rw [e] at h2
  have le1 : (count fun i : Fin N => K i = T ∧ U ≤ N - 1 - i.val)
      ≤ (count fun i : Fin N => K i = T ∧ U + 1 ≤ N - 1 - i.val) + count fun i : Fin N => N - 1 - i.val = U := by
    have : (count fun i : Fin N => (K i = T ∧ U + 1 ≤ N - 1 - i.val) ∨ N - 1 - i.val = U) = _ :=
      count_or _ _ (fun i h h' => by omega)
    rw [← this]
    refine count_le _ _ fun i h => ?_
    by_cases h' : N - 1 - i.val = U
    · exact .inr h'
    · exact .inl ⟨h.1, by omega⟩
  have le2 : (count fun i : Fin N => N - 1 - i.val = U) ≤ 1 :=
    count_le_one _ fun i j hi hj => Fin.ext (by have := i.isLt; have := j.isLt; omega)
  omega

/-! ## Running counts and shifts -/

/-- How many marks come before a place. -/
def before (S : Fin N → Prop) [DecidablePred S] (i : ℕ) : ℕ := count fun j : Fin N => S j ∧ j.val < i

variable (S : Fin N → Prop) [DecidablePred S]

theorem before_zero : before S 0 = 0 := count_false _ fun i h => by omega

theorem before_succ (i : Fin N) : before S (i.val + 1) = before S i.val + if S i then 1 else 0 := by
  unfold before
  have : (count fun j : Fin N => S j ∧ j.val < i.val + 1) = count fun j : Fin N => (S j ∧ j.val < i.val) ∨ (S j ∧ j = i) :=
    count_congr _ _ fun j => by
      constructor
      · rintro ⟨h, h'⟩
        rcases Nat.lt_succ_iff_lt_or_eq.1 h' with h' | h'
        · exact .inl ⟨h, h'⟩
        · exact .inr ⟨h, Fin.ext h'⟩
      · rintro (⟨h, h'⟩ | ⟨h, h'⟩)
        · exact ⟨h, by omega⟩
        · subst h'; exact ⟨h, by omega⟩
  rw [this, count_or _ _ (fun j h h' => by have := h'.2; subst this; omega)]
  congr 1
  by_cases hs : S i
  · rw [if_pos hs]
    apply le_antisymm
    · exact count_le_one _ fun a b ha hb => ha.2.trans hb.2.symm
    · exact Finset.card_pos.2 ⟨i, by simp [hs]⟩
  · rw [if_neg hs]
    exact count_false _ fun j h => hs (h.2 ▸ h.1)

theorem before_mono (i j : ℕ) (h : i ≤ j) : before S i ≤ before S j :=
  count_le _ _ fun a ha => ⟨ha.1, by omega⟩

theorem before_step (i j : ℕ) (h : i ≤ j) (hj : j ≤ N) : before S j ≤ before S i + (j - i) := by
  induction j, h using Nat.le_induction with
  | base => omega
  | succ j hij ih =>
    have := before_succ S ⟨j, by omega⟩
    have := ih (by omega)
    simp only at *
    split at * <;> omega

theorem before_le (i : ℕ) (hi : i ≤ N) : before S i ≤ i := by
  have := before_step S 0 i (by omega) hi
  rw [before_zero] at this; omega

theorem before_lt (i : Fin N) (j : ℕ) (h : S i) (hij : i.val < j) : before S i.val + 1 ≤ before S j := by
  have := before_succ S i
  rw [if_pos h] at this
  rw [← this]; exact before_mono S _ _ hij

theorem before_all : before S N = count S := count_congr _ _ fun i => ⟨fun h => h.1, fun h => ⟨h, i.isLt⟩⟩

/-- The marks in their order. -/
theorem exists_nth (p : ℕ) (hp : p < count S) : ∃ i : Fin N, S i ∧ before S i.val = p := by
  by_contra hno
  push Not at hno
  have : ∀ k ≤ N, before S k ≤ p := by
    intro k
    induction k with
    | zero => intro _; rw [before_zero]; omega
    | succ k ih =>
      intro hk
      have h1 := before_succ S ⟨k, hk⟩
      have h2 := ih (by omega)
      by_cases hs : S ⟨k, hk⟩
      · have h3 := hno ⟨k, hk⟩ hs
        simp only [if_pos hs] at *
        omega
      · simp only [if_neg hs] at *
        omega
  have := this N le_rfl
  rw [before_all] at this
  omega

theorem nth_inj (i j : Fin N) (hi : S i) (hj : S j) (h : before S i.val = before S j.val) : i = j := by
  rcases lt_trichotomy i.val j.val with h' | h' | h'
  · have := before_lt S i j hi h'; omega
  · exact Fin.ext h'
  · have := before_lt S j i hj h'; omega

end Cert.Detect
-- ==== Proof.Order.lean ====
/- Rows in the order of a score and then of the place. -/
module

public import proofs.«01_k».proof.Proof.Sets
public import Idealize.ShloMosaic.Lib.SortPrefix

@[expose] public section

noncomputable section

namespace Cert.Detect

open Idealize.ShloMosaic

variable {N : ℕ}

theorem count_bij (f : Fin N → Fin N) (hf : Function.Bijective f) (p : Fin N → Prop) [DecidablePred p] :
    (count fun i => p (f i)) = count p := by
  unfold count
  refine Finset.card_bij (fun i _ => f i) ?_ ?_ ?_
  · intro i hi; simpa using hi
  · intro i _ j _ h; exact hf.1 h
  · intro j hj
    obtain ⟨i, rfl⟩ := hf.2 j
    exact ⟨i, by simpa using hj, rfl⟩

theorem count_below (k : ℕ) (hk : k ≤ N) : (count fun i : Fin N => i.val < k) = k := by
  have h : ∀ j ≤ N, before (fun _ : Fin N => True) j = j := by
    intro j
    induction j with
    | zero => intro _; exact before_zero _
    | succ j ih =>
      intro hj
      have := before_succ (fun _ : Fin N => True) ⟨j, hj⟩
      simp only [if_true] at this
      rw [this, ih (by omega)]
  refine (count_congr _ _ fun i => ?_).trans (h k hk)
  simp

/-! ## A stable sort is a sort by the key and then the place -/

theorem stableSort_place {κ : Type} [DecidableEq κ] (lt : κ → κ → Bool) (key : Fin N → κ) :
    ∀ l : List (Fin N), l.Pairwise (· < ·) →
      stableSort (fun k k' => lt (key k) (key k')) l
        = stableSort (fun k k' => lt (key k) (key k') || (decide (key k = key k') && decide (k < k'))) l
  | [], _ => rfl
  | a :: l, h => by
    rw [List.pairwise_cons] at h
    unfold stableSort
    rw [stableSort_place lt key l h.2]
    refine insertBefore_congr _ _ a _ fun b hb => ?_
    have hb' : a < b := h.1 b ((perm_stableSort _ l).mem_iff.mp hb)
    have : ¬ b < a := not_lt.2 hb'.le
    simp [this]

theorem sortedFrom_place {κ : Type} [DecidableEq κ] (lt : κ → κ → Bool) (key : Fin N → κ) :
    sortedFrom (fun k k' => lt (key k) (key k'))
      = sortedFrom (fun k k' => lt (key k) (key k') || (decide (key k = key k') && decide (k < k'))) := by
  funext k
  unfold sortedFrom
  have : sortPositions N (fun k k' => lt (key k) (key k'))
      = sortPositions N (fun k k' => lt (key k) (key k') || (decide (key k = key k') && decide (k < k'))) :=
    stableSort_place lt key _ (List.pairwise_lt_finRange N)
  rw [List.get_of_eq this]
  rfl

/-! ## Any strict total order -/

section total

variable {B : Fin N → Fin N → Bool} (hB : StrictTotalBefore B)
include hB

theorem sortedFrom_before (i j : Fin N) (h : i < j) : B (sortedFrom B i) (sortedFrom B j) = true := by
  have h1 := sortedFrom_noInversion B B (fun a b h => hB.asymm a b h) (fun _ _ h => h) hB.negTrans i j h
  rcases hB.total _ _ (fun e => absurd (sortedFrom_injective B e) (ne_of_lt h)) with h2 | h2
  · exact h2
  · rw [h1] at h2; exact absurd h2 (by decide)

theorem sortedFrom_before_iff (i j : Fin N) : B (sortedFrom B i) (sortedFrom B j) = true ↔ i < j := by
  refine ⟨fun h => ?_, sortedFrom_before hB i j⟩
  rcases lt_trichotomy i j with h' | h' | h'
  · exact h'
  · subst h'; rw [hB.irrefl] at h; exact absurd h (by decide)
  · have := hB.asymm _ _ h; rw [sortedFrom_before hB j i h'] at this; exact absurd this (by decide)

/-- A set that is closed to the front is the first of the order. -/
theorem closed_iff (S : Fin N → Prop) [DecidablePred S] (hS : ∀ i j, S i → B j i = true → S j) (t : Fin N) :
    S (sortedFrom B t) ↔ t.val < count S := by
  have hb : Function.Bijective (sortedFrom B) := ⟨sortedFrom_injective B, sortedFrom_surjective B⟩
  have hc := count_bij (sortedFrom B) hb S
  constructor
  · intro h
    have h1 : (count fun i : Fin N => i.val < t.val + 1) ≤ count fun i => S (sortedFrom B i) :=
      count_le _ _ fun i hi => by
        rcases Nat.lt_succ_iff_lt_or_eq.1 hi with h' | h'
        · exact hS _ _ h (sortedFrom_before hB i t h')
        · rw [Fin.ext h']; exact h
    rw [count_below _ t.isLt, hc] at h1
    omega
  · intro h
    by_contra hn
    have h1 : (count fun i => S (sortedFrom B i)) ≤ count fun i : Fin N => i.val < t.val :=
      count_le _ _ fun i hi => by
        by_contra hle
        have hle' : t.val ≤ i.val := Nat.le_of_not_lt hle
        rcases Nat.lt_or_eq_of_le hle' with h' | h'
        · exact hn (hS _ _ hi (sortedFrom_before hB t i h'))
        · exact hn (by rw [Fin.ext h']; exact hi)
    rw [count_below _ t.isLt.le, hc] at h1
    omega

end total

/-! ## By falling score -/

/-- Whether lane `i` comes before lane `j`: a larger score, or the same and a smaller place. -/
def ahead (s : Fin N → EReal) (i j : Fin N) : Bool :=
  decide (s j < s i) || (decide (s i = s j) && decide (i < j))

theorem ahead_iff (s : Fin N → EReal) (i j : Fin N) : ahead s i j = true ↔ s j < s i ∨ (s i = s j ∧ i < j) := by
  simp [ahead]

theorem ahead_total (s : Fin N → EReal) : StrictTotalBefore (ahead s) :=
  StrictTotalBefore.of_key_then_position (fun a b : EReal => decide (b < a)) s (by simp)
    (by intro a b c h1 h2; simp at *; exact lt_trans h2 h1)
    (by intro a b; simp; rcases lt_trichotomy a b with h | h | h
        · exact .inr (.inr h)
        · exact .inr (.inl h)
        · exact .inl h)

/-- The lanes in that order. -/
def ord (s : Fin N → EReal) : Fin N → Fin N := sortedFrom (ahead s)

theorem ord_stable (s : Fin N → EReal) : sortedFrom (fun i j => decide (s j < s i)) = ord s :=
  sortedFrom_place (fun a b : EReal => decide (b < a)) s

/-- Lanes behind all others do not change the first ones. -/
theorem ord_prefix {M : ℕ} (hM : M ≤ N) (s : Fin N → EReal) (s' : Fin M → EReal)
    (hs : ∀ i : Fin M, s' i = s (i.castLE hM)) (hp : ∀ i p : Fin N, i.val < M → M ≤ p.val → s p ≤ s i)
    (W : ℕ) (hW : W ≤ M) (t : Fin W) :
    (ord s (t.castLE (hW.trans hM))).val = (ord s' (t.castLE hW)).val := by
  have hT := ahead_total s
  have hin : ∀ u : Fin N, u.val < M → (ord s u).val < M := by
    intro u hu
    have := (closed_iff hT (fun i : Fin N => i.val < M) (fun i j hi hj => by
      by_contra hc
      have hc' : M ≤ j.val := Nat.le_of_not_lt hc
      have h1 := hp i j hi hc'
      rw [ahead_iff] at hj
      rcases hj with h2 | ⟨h2, h3⟩
      · exact absurd h2 (not_lt.2 h1)
      · have : j.val < i.val := h3
        omega) u).2 (by rw [count_below _ hM]; exact hu)
    exact this
  let σ : Fin W → Fin M := fun u => ⟨(ord s (u.castLE (hW.trans hM))).val, hin _ (by have := u.isLt; simp; omega)⟩
  have hσ : ∀ u, (σ u).castLE hM = ord s (u.castLE (hW.trans hM)) := fun u => Fin.ext rfl
  have hah : ∀ a b : Fin M, ahead s' a b = ahead s (a.castLE hM) (b.castLE hM) := by
    intro a b; unfold ahead; rw [hs, hs]; rfl
  have h := StrictTotalBefore.sortedFrom_eq_of_prefix (ahead_total s') hW σ
    (fun a b e => by
      have : ord s (a.castLE (hW.trans hM)) = ord s (b.castLE (hW.trans hM)) := by rw [← hσ, ← hσ, e]
      have := sortedFrom_injective _ this
      exact Fin.ext (by simpa using congrArg Fin.val this))
    (fun a b hab => by
      rw [hah, hσ, hσ]
      exact hT.asymm _ _ (sortedFrom_before hT _ _ hab))
    (fun a p hno => by
      rw [hah, hσ]
      obtain ⟨u, hu⟩ := sortedFrom_surjective (ahead s) (p.castLE hM)
      rw [← hu]
      refine hT.asymm _ _ (sortedFrom_before hT _ _ ?_)
      show a.val < u.val
      by_contra hc
      have hc' : u.val < W := by have := a.isLt; omega
      exact hno ⟨u.val, hc'⟩ (Fin.ext (by
        show (ord s _).val = _
        have : (⟨u.val, hc'⟩ : Fin W).castLE (hW.trans hM) = u := Fin.ext rfl
        rw [this]; unfold ord; rw [hu]; rfl))) t
  unfold ord at h ⊢
  rw [h]
  rfl

/-! ## By rising height among the kept -/

/-- How many kept places come before a place. -/
def rankKept (keep : Fin N → Prop) [DecidablePred keep] (y : Fin N → EReal) (p : Fin N) : ℕ :=
  count fun q => keep q ∧ (y q < y p ∨ (y q = y p ∧ q < p))

/-- The order of a key and then of the place. -/
def rising (k : Fin N → EReal) (i j : Fin N) : Bool :=
  decide (k i < k j) || (decide (k i = k j) && decide (i < j))

theorem rising_total (k : Fin N → EReal) : StrictTotalBefore (rising k) :=
  StrictTotalBefore.of_key_then_position (fun a b : EReal => decide (a < b)) k (by simp)
    (by intro a b c h1 h2; simp at *; exact lt_trans h1 h2)
    (by intro a b; simp; rcases lt_trichotomy a b with h | h | h
        · exact .inl h
        · exact .inr (.inl h)
        · exact .inr (.inr h))

/-- The places in that order. -/
def up (k : Fin N → EReal) : Fin N → Fin N := sortedFrom (rising k)

theorem up_stable (k : Fin N → EReal) : sortedFrom (fun i j => decide (k i < k j)) = up k :=
  sortedFrom_place (fun a b : EReal => decide (a < b)) k

section kept

variable (keep : Fin N → Prop) [DecidablePred keep] (y : Fin N → EReal) (hy : ∀ p, keep p → y p < ⊤)
include hy

/-- With the others' height infinite, a kept place stands where the kept ones before it leave it. -/
theorem rank_up (i : Fin N) (h : keep (up (fun p => if keep p then y p else ⊤) i)) :
    rankKept keep y (up (fun p => if keep p then y p else ⊤) i) = i.val := by
  set k : Fin N → EReal := fun p => if keep p then y p else ⊤ with hk
  have hb : Function.Bijective (up k) := ⟨sortedFrom_injective _, sortedFrom_surjective _⟩
  unfold rankKept
  rw [← count_bij (up k) hb, ← count_below i.val i.isLt.le]
  refine count_congr _ _ fun t => ?_
  have hr : rising k (up k t) (up k i) = true ↔ t < i := sortedFrom_before_iff (rising_total k) t i
  have hki : k (up k i) = y (up k i) := if_pos h
  constructor
  · rintro ⟨ht, hlt⟩
    refine hr.1 ?_
    have hkt : k (up k t) = y (up k t) := if_pos ht
    simp only [rising, Bool.or_eq_true, Bool.and_eq_true, decide_eq_true_eq, hki, hkt]
    exact hlt
  · intro ht
    have := hr.2 ht
    simp only [rising, Bool.or_eq_true, Bool.and_eq_true, decide_eq_true_eq] at this
    have hkt : keep (up k t) := by
      by_contra hn
      have e : k (up k t) = ⊤ := if_neg hn
      have l := hy _ h
      rw [e, hki] at this
      rcases this with h1 | ⟨h1, _⟩
      · exact absurd h1 (not_lt.2 le_top)
      · rw [← h1] at l; exact absurd l (lt_irrefl _)
    have e : k (up k t) = y (up k t) := if_pos hkt
    rw [e, hki] at this
    exact ⟨hkt, this⟩

/-- The only kept place with that many before it. -/
theorem eq_up (i p : Fin N) (h : keep p) (hr : rankKept keep y p = i.val) :
    p = up (fun p => if keep p then y p else ⊤) i := by
  obtain ⟨t, rfl⟩ := sortedFrom_surjective (rising fun p => if keep p then y p else ⊤) p
  have := rank_up keep y hy t h
  unfold up at this ⊢
  rw [hr] at this
  rw [Fin.ext this]

end kept

end Cert.Detect
-- ==== Proof.Loops.lean ====
/- The counted loops, by what holds after each step. -/
module

public import proofs.«01_k».proof.Proof.At

@[expose] public section

noncomputable section

namespace Cert.Detect

open Cert.KernelIdeal Cert.KernelIdeal.Facts₀ Cert.KernelIdeal.Facts
open Idealize.ShloMosaic

/-- What holds after each trip holds after all. -/
theorem fold_holds {σ : Type} {n : ℕ} (g : Fin n → σ → σ) (init : σ) (Inv : ℕ → σ → Prop) (h0 : Inv 0 init)
    (hs : ∀ (k : Fin n) a, Inv k.val a → Inv (k.val + 1) (g k a)) : Inv n (Scf.fold g init) := by
  rw [Scf.fold_eq]
  have h : ∀ m (hm : m ≤ n), Inv m (((List.finRange n).take m).foldl (fun acc k => g k acc) init) := by
    intro m
    induction m with
    | zero => intro _; exact h0
    | succ m ih =>
      intro hm
      have hl : m < (List.finRange n).length := by rw [List.length_finRange]; omega
      rw [List.take_succ_eq_append_getElem hl, List.foldl_append]
      simp only [List.foldl_cons, List.foldl_nil]
      have := hs ⟨m, hm⟩ _ (ih (by omega))
      simpa using this
  have := h n le_rfl
  rwa [List.take_of_length_le (by rw [List.length_finRange])] at this

theorem iv_eq {n : ℕ} (k : Fin n) : Scf.iv 0#32 1#32 k = BitVec.ofNat 32 k.val := by
  simp [Scf.iv]

theorem stepNo_eq {n : ℕ} (k : Fin n) (j : ℕ) : stepNo k (BitVec.ofNat 32 j) = BitVec.ofNat 32 (8 * k.val + j) := by
  show Scf.iv 0#32 1#32 k * 8#32 + BitVec.ofNat 32 j = _
  rw [iv_eq, show (8#32 : BitVec 32) = BitVec.ofNat 32 8 from rfl, ← BitVec.ofNat_mul, ← BitVec.ofNat_add, mul_comm]

/-- The same of a loop whose trips are eight steps each. -/
theorem fold_eight {σ : Type} {n : ℕ} (f : BitVec 32 → σ → σ) (init : σ) (Inv : ℕ → σ → Prop) (h0 : Inv 0 init)
    (hs : ∀ j < 8 * n, ∀ a, Inv j a → Inv (j + 1) (f (BitVec.ofNat 32 j) a)) :
    Inv (8 * n) (Scf.fold (n := n) (fun k acc => eight f k acc) init) := by
  refine fold_holds (n := n) (fun k acc => eight f k acc) init (fun m a => Inv (8 * m) a) h0 fun k a h => ?_
  unfold eight
  have hk := k.isLt
  have e0 := hs (8 * k.val) (by omega) _ h
  have e1 := hs (8 * k.val + 1) (by omega) _ e0
  have e2 := hs (8 * k.val + 2) (by omega) _ e1
  have e3 := hs (8 * k.val + 3) (by omega) _ e2
  have e4 := hs (8 * k.val + 4) (by omega) _ e3
  have e5 := hs (8 * k.val + 5) (by omega) _ e4
  have e6 := hs (8 * k.val + 6) (by omega) _ e5
  have e7 := hs (8 * k.val + 7) (by omega) _ e6
  have c := fun j => stepNo_eq k j
  have c0 := c 0
  rw [Nat.add_zero] at c0
  rw [show stepNo k 0#32 = _ from c0, show stepNo k 1#32 = _ from c 1, show stepNo k 2#32 = _ from c 2,
    show stepNo k 3#32 = _ from c 3, show stepNo k 4#32 = _ from c 4, show stepNo k 5#32 = _ from c 5,
    show stepNo k 6#32 = _ from c 6, show stepNo k 7#32 = _ from c 7]
  exact e7

theorem trips1 : k0_t1_loop.trips = 5120 := by rfl
theorem trips2 : k0_t2_loop.trips = 50 := by rfl
theorem trips3 : k0_t3_loop.trips = 50 := by rfl
theorem trips4 : k0_t4_loop.trips = 50 := by rfl

end Cert.Detect
-- ==== Proof.Picked.lean ====
/- The ranking key and the lanes the two searches leave. -/
module

public import proofs.«01_k».proof.Proof.Search
public import proofs.«01_k».proof.Proof.Order
public import proofs.«01_k».proof.Proof.Loops

@[expose] public section

noncomputable section

namespace Cert.Detect

open Cert.KernelIdeal Cert.KernelIdeal.Facts₀ Cert.KernelIdeal.Facts
open Idealize.ShloMosaic

/-! ## Small words -/

theorem ofNat_inj32 (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem eq_one32 (x y : BitVec 32) : IntOp.cmpi .eq x y = 1#1 ↔ x = y := by
  show BitVec.ofBool (x == y) = 1#1 ↔ _
  rw [ofBool_eq_one, beq_iff_eq]

theorem uge_one (x y : BitVec 32) : IntOp.cmpi .uge x y = 1#1 ↔ y.toNat ≤ x.toNat := by
  show BitVec.ofBool (y.ule x) = 1#1 ↔ _
  rw [ofBool_eq_one]; simp [BitVec.ule]

theorem ugt_one (x y : BitVec 32) : IntOp.cmpi .ugt x y = 1#1 ↔ y.toNat < x.toNat := by
  show BitVec.ofBool (y.ult x) = 1#1 ↔ _
  rw [ofBool_eq_one]; simp [BitVec.ult]

theorem toInt_small (x : BitVec 32) (h : x.toNat < 2 ^ 31) : x.toInt = x.toNat := by
  rw [BitVec.toInt_eq_toNat_cond, if_pos (by omega)]

theorem sge_one (x y : BitVec 32) (hx : x.toNat < 2 ^ 31) (hy : y.toNat < 2 ^ 31) :
    IntOp.cmpi .sge x y = 1#1 ↔ y.toNat ≤ x.toNat := by
  show BitVec.ofBool (y.sle x) = 1#1 ↔ _
  rw [ofBool_eq_one]; simp only [BitVec.sle, decide_eq_true_eq, toInt_small x hx, toInt_small y hy]; omega

theorem slt_one (x y : BitVec 32) (hx : x.toNat < 2 ^ 31) (hy : y.toNat < 2 ^ 31) :
    IntOp.cmpi .slt x y = 1#1 ↔ x.toNat < y.toNat := by
  show BitVec.ofBool (x.slt y) = 1#1 ↔ _
  rw [ofBool_eq_one]; simp only [BitVec.slt, decide_eq_true_eq, toInt_small x hx, toInt_small y hy]; omega

theorem sgt_one (x y : BitVec 32) (hx : x.toNat < 2 ^ 31) (hy : y.toNat < 2 ^ 31) :
    IntOp.cmpi .sgt x y = 1#1 ↔ y.toNat < x.toNat := by
  show BitVec.ofBool (y.slt x) = 1#1 ↔ _
  rw [ofBool_eq_one]; simp only [BitVec.slt, decide_eq_true_eq, toInt_small x hx, toInt_small y hy]; omega

theorem toNat_small (a : ℕ) (h : a < 2 ^ 31) : (BitVec.ofNat 32 a).toNat = a := by
  rw [BitVec.toNat_ofNat, Nat.mod_eq_of_lt (by omega)]

/-! ## The key -/

/-- The score of one lane, taken out by a sum. -/
theorem laneAt (s : FVec Ideal S8x5120 .f32) (k : Fin 5120) (b : Fin 8) :
    laneSum (select (cmpi .eq lanes (broadcast S8x5120 (BitVec.ofNat 32 k.val))) s (flt S8x5120 0x00000000#32)) (ix2 b 0)
      = s (ix2 b k) := by
  rw [laneSum_at, Finset.sum_eq_single k]
  · rw [sel_at, if_pos]
    exact (eq_one32 _ _).2 (lanes_at b k)
  · intro j _ hj
    rw [sel_at, if_neg, flt_at, Ideal.ofBits_zero_f32]
    intro h
    have := (eq_one32 _ _).1 h
    rw [lanes_at] at this
    exact hj (Fin.ext ((ofNat_inj32 _ _ (by omega) (by omega)).1 this))
  · intro h; exact absurd (Finset.mem_univ k) h

theorem keyStep_at (s : FVec Ideal S8x5120 .f32) (k : Fin 5120) (acc : IVec S8x5120 32) (b : Fin 8) (i : Fin 5120) :
    keyStep s (BitVec.ofNat 32 k.val) acc (ix2 b i)
      = acc (ix2 b i) + BitVec.ofNat 32 (if s (ix2 b k) < s (ix2 b i) then 1 else 0) := by
  show acc (ix2 b i) + (FloatOps.cmpf .olt (wide (laneSum _) (ix2 b i)) (s (ix2 b i))).setWidth 32 = _
  rw [wide_at, laneAt]
  congr 1
  by_cases h : s (ix2 b k) < s (ix2 b i)
  · rw [if_pos h, (olt_one _ _).2 h]; rfl
  · rw [if_neg h]
    have : FloatOps.cmpf .olt (s (ix2 b k)) (s (ix2 b i)) = 0#1 := by
      have := fun e => h ((olt_one _ _).1 e)
      revert this
      generalize FloatOps.cmpf .olt (s (ix2 b k)) (s (ix2 b i)) = z
      revert z; decide
    rw [this]; rfl

/-- The key is how many lanes score less. -/
theorem key_at (s : FVec Ideal S8x5120 .f32) (b : Fin 8) (i : Fin 5120) :
    (key s (ix2 b i)).toNat = count fun j : Fin 5120 => s (ix2 b j) < s (ix2 b i) := by
  have h : ∀ b i, key s (ix2 b i) = BitVec.ofNat 32 (before (fun j : Fin 5120 => s (ix2 b j) < s (ix2 b i)) 5120) :=
    fold_holds (n := k0_t1_loop.trips) (fun k acc => keyStep s (Scf.iv 0#32 1#32 k) acc) (broadcast S8x5120 0#32)
      (fun m acc => ∀ b i, acc (ix2 b i) = BitVec.ofNat 32 (before (fun j : Fin 5120 => s (ix2 b j) < s (ix2 b i)) m))
      (fun b i => by rw [before_zero]; rfl)
      (fun k acc ih b i => by
        rw [iv_eq]
        refine (keyStep_at s ⟨k.val, k.isLt⟩ acc b i).trans ?_
        rw [ih b i]
        have := before_succ (fun j : Fin 5120 => s (ix2 b j) < s (ix2 b i)) ⟨k.val, k.isLt⟩
        rw [show k.val + 1 = (⟨k.val, k.isLt⟩ : Fin 5120).val + 1 from rfl, this, BitVec.ofNat_add])
  rw [h, before_all]
  have := count_le_size fun j : Fin 5120 => s (ix2 b j) < s (ix2 b i)
  exact toNat_small _ (by omega)

/-! ## The two searches -/

section searches

variable (k : IVec S8x5120 32) (b : Fin 8)

theorem laneCount_toNat (m : IVec S8x5120 1) : (laneCount m (ix2 b 0)).toNat = count fun i : Fin 5120 => m (ix2 b i) = 1#1 := by
  rw [laneCount_at]
  have := count_le_size fun i : Fin 5120 => m (ix2 b i) = 1#1
  exact toNat_small _ (by unfold count at this; omega)

/-- A lane's key as a number. -/
abbrev keyNo (i : Fin 5120) : ℕ := (k (ix2 b i)).toNat
/-- The first search's end. -/
abbrev cutNo : ℕ := (cut k bits32 (ix2 b 0)).toNat
/-- The second search's end. -/
abbrev tieNo : ℕ := (tieCut k (cut k bits32) bits13 (ix2 b 0)).toNat

theorem cut_ends : 400 ≤ (count fun i => cutNo k b ≤ keyNo k b i) ∧ ¬ 400 ≤ (count fun i => cutNo k b + 1 ≤ keyNo k b i) := by
  have h := search_ends b (keyPass k) (broadcast S8x1 400#32) (fun t => 400 ≤ count fun i => t ≤ keyNo k b i) (2 ^ 32) le_rfl
    (fun t _ => by
      have hc := count_le_size fun i : Fin 5120 => keyPass k t (ix2 b i) = 1#1
      refine (sge_one _ _ ?_ ?_).trans ?_
      · rw [laneCount_toNat]; omega
      · show (400#32 : BitVec 32).toNat < 2 ^ 31; decide
      · rw [laneCount_toNat]
        show 400 ≤ _ ↔ _
        rw [count_congr (fun i : Fin 5120 => keyPass k t (ix2 b i) = 1#1) (fun i => (t (ix2 b 0)).toNat ≤ keyNo k b i)]
        intro i
        refine (uge_one _ _).trans ?_
        rw [wide_at])
    32 (broadcast S8x1 0#32) (by show 2 ^ 32 ∣ 0; exact dvd_zero _) (by show 0 + 2 ^ 32 ≤ 2 ^ 32; omega)
    (by show 400 ≤ count fun i => 0 ≤ keyNo k b i
        rw [count_true _ fun i => Nat.zero_le _]; omega)
    (by show ¬ 400 ≤ count fun i => 0 + 2 ^ 32 ≤ keyNo k b i
        rw [count_false _ fun i => by have := (k (ix2 b i)).isLt; show ¬ 0 + 2 ^ 32 ≤ (k (ix2 b i)).toNat; omega]; omega)
  rw [← bits32_eq] at h
  exact h

theorem above_count : (laneCount (above k (cut k bits32)) (ix2 b 0)).toNat = count fun i => cutNo k b < keyNo k b i := by
  rw [laneCount_toNat]
  refine count_congr _ _ fun i => ?_
  refine (ugt_one _ _).trans ?_
  rw [wide_at]

theorem above_lt : (count fun i => cutNo k b < keyNo k b i) < 400 := by
  have := (cut_ends k b).2
  rw [count_congr _ _ fun i => Nat.succ_le_iff] at this
  omega

theorem wanted_toNat : (wanted k (cut k bits32) (ix2 b 0)).toNat = 400 - count fun i => cutNo k b < keyNo k b i := by
  have h1 := above_count k b
  have h2 := above_lt k b
  show ((400#32 : BitVec 32) - laneCount (above k (cut k bits32)) (ix2 b 0)).toNat = _
  rw [BitVec.toNat_sub_of_le (by rw [BitVec.le_def, h1]; show _ ≤ 400; omega), h1]
  rfl

theorem ties_at (i : Fin 5120) : ties k (cut k bits32) (ix2 b i) = 1#1 ↔ keyNo k b i = cutNo k b := by
  have e := wide_at (cut k bits32) b i
  refine (eq_one32 (k (ix2 b i)) (wide (cut k bits32) (ix2 b i))).trans ?_
  rw [e]
  exact ⟨fun h => congrArg BitVec.toNat h, fun h => BitVec.eq_of_toNat_eq h⟩

theorem back_toNat (i : Fin 5120) : (back (ix2 b i)).toNat = 5119 - i.val := by
  show ((5119#32 : BitVec 32) - lanes (ix2 b i)).toNat = _
  have hi := i.isLt
  have e : (lanes (ix2 b i)).toNat = i.val := by rw [lanes_at]; exact toNat_small _ (by omega)
  rw [BitVec.toNat_sub_of_le (by rw [BitVec.le_def, e]; show _ ≤ 5119; omega), e]
  rfl

theorem early_at (t : IVec S8x1 32) (ht : (t (ix2 b 0)).toNat < 2 ^ 31) (i : Fin 5120) :
    early t (ix2 b i) = 1#1 ↔ (t (ix2 b 0)).toNat ≤ 5120 - 1 - i.val := by
  have e := wide_at t b i
  refine (sge_one (back (ix2 b i)) (wide t (ix2 b i)) ?_ ?_).trans ?_
  · rw [back_toNat]; omega
  · rw [e]; exact ht
  · rw [e, back_toNat]

theorem tie_ends :
    (400 - (count fun i => cutNo k b < keyNo k b i)
        ≤ count fun i : Fin 5120 => keyNo k b i = cutNo k b ∧ tieNo k b ≤ 5120 - 1 - i.val) ∧
      ¬ 400 - (count fun i => cutNo k b < keyNo k b i)
        ≤ count fun i : Fin 5120 => keyNo k b i = cutNo k b ∧ tieNo k b + 1 ≤ 5120 - 1 - i.val := by
  have hw := wanted_toNat k b
  have ha := above_lt k b
  have h := search_ends b (fun u => andi (ties k (cut k bits32)) (early u)) (wanted k (cut k bits32))
    (fun t => 400 - (count fun i => cutNo k b < keyNo k b i)
        ≤ count fun i : Fin 5120 => keyNo k b i = cutNo k b ∧ t ≤ 5120 - 1 - i.val) (2 ^ 13) (by norm_num)
    (fun t ht => by
      have hc := count_le_size fun i : Fin 5120 => (andi (ties k (cut k bits32)) (early t)) (ix2 b i) = 1#1
      refine (sge_one _ _ ?_ ?_).trans ?_
      · rw [laneCount_toNat]; omega
      · rw [hw]; omega
      · rw [laneCount_toNat, hw]
        rw [count_congr (fun i : Fin 5120 => (andi (ties k (cut k bits32)) (early t)) (ix2 b i) = 1#1)
          (fun i => keyNo k b i = cutNo k b ∧ (t (ix2 b 0)).toNat ≤ 5120 - 1 - i.val)]
        intro i
        refine (and_one _ _).trans ?_
        rw [ties_at, early_at b t (by omega)])
    13 (broadcast S8x1 0#32) (by show 2 ^ 13 ∣ 0; exact dvd_zero _) (by show 0 + 2 ^ 13 ≤ 2 ^ 13; omega)
    (by show 400 - _ ≤ count fun i : Fin 5120 => keyNo k b i = cutNo k b ∧ 0 ≤ 5120 - 1 - i.val
        have h1 := (cut_ends k b).1
        have h2 : (count fun i => cutNo k b < keyNo k b i ∨ keyNo k b i = cutNo k b) = _ :=
          count_or _ _ (fun i h h' => by omega)
        rw [count_congr (fun i => cutNo k b ≤ keyNo k b i) (fun i => cutNo k b < keyNo k b i ∨ keyNo k b i = cutNo k b)
          (fun i => by omega), h2] at h1
        rw [count_congr (fun i : Fin 5120 => keyNo k b i = cutNo k b ∧ 0 ≤ 5120 - 1 - i.val) (fun i => keyNo k b i = cutNo k b)
          (fun i => by simp)]
        omega)
    (by show ¬ 400 - _ ≤ count fun i : Fin 5120 => keyNo k b i = cutNo k b ∧ 0 + 2 ^ 13 ≤ 5120 - 1 - i.val
        rw [count_false (fun i : Fin 5120 => keyNo k b i = cutNo k b ∧ 0 + 2 ^ 13 ≤ 5120 - 1 - i.val)
          fun i h => by have := h.2; norm_num at this; omega]
        omega)
  rw [← bits13_eq] at h
  exact h

theorem tieNo_lt : tieNo k b < 5120 := by
  have h := (tie_ends k b).1
  by_contra hn
  have ha := above_lt k b
  rw [count_false (fun i : Fin 5120 => keyNo k b i = cutNo k b ∧ tieNo k b ≤ 5120 - 1 - i.val)
    fun i h => by have := h.2; have := i.isLt; omega] at h
  omega

/-- The marks of the two searches. -/
theorem picked_at (i : Fin 5120) : picked k (ix2 b i) = 1#1 ↔
    cutNo k b < keyNo k b i ∨ (keyNo k b i = cutNo k b ∧ tieNo k b ≤ 5120 - 1 - i.val) := by
  refine (or_one _ _).trans ?_
  refine or_congr ((ugt_one _ _).trans (by rw [wide_at])) ((and_one _ _).trans ?_)
  rw [ties_at, early_at b _ (by have := tieNo_lt k b; unfold tieNo at this; omega)]

theorem picked_count : (count fun i : Fin 5120 => picked k (ix2 b i) = 1#1) = 400 := by
  rw [count_congr _ _ (picked_at k b)]
  exact count_marks (keyNo k b) (cutNo k b) (tieNo k b) 400 (cut_ends k b).1 (cut_ends k b).2 (tie_ends k b).1 (tie_ends k b).2

end searches

/-- The lanes selected are the first four hundred by falling score and then the place. -/
theorem picked_iff (s : FVec Ideal S8x5120 .f32) (b : Fin 8) (t : Fin 5120) :
    picked (key s) (ix2 b (ord (fun i => s (ix2 b i)) t)) = 1#1 ↔ t.val < 400 := by
  have h := closed_iff (ahead_total fun i : Fin 5120 => s (ix2 b i)) (fun i => picked (key s) (ix2 b i) = 1#1) (fun i j hi hj => by
    rw [picked_at] at hi ⊢
    rw [ahead_iff] at hj
    rcases hj with h | ⟨h, h'⟩
    · -- a larger score has a larger key
      have : keyNo (key s) b i < keyNo (key s) b j := by
        show (key s (ix2 b i)).toNat < (key s (ix2 b j)).toNat
        rw [key_at, key_at]
        have h1 : (count fun l : Fin 5120 => s (ix2 b l) < s (ix2 b i) ∨ l = i) = _ :=
          count_or _ _ (fun l h h' => by subst h'; exact lt_irrefl _ h)
        have h2 : (count fun l : Fin 5120 => l = i) = 1 :=
          le_antisymm (count_le_one _ fun a b ha hb => ha.trans hb.symm) (Finset.card_pos.2 ⟨i, by simp⟩)
        have h3 : (count fun l : Fin 5120 => s (ix2 b l) < s (ix2 b i) ∨ l = i) ≤ count fun l : Fin 5120 => s (ix2 b l) < s (ix2 b j) :=
          count_le _ _ fun l hl => by
            rcases hl with hl | hl
            · exact lt_trans hl h
            · rw [hl]; exact h
        omega
      omega
    · have : keyNo (key s) b j = keyNo (key s) b i := by
        show (key s (ix2 b j)).toNat = (key s (ix2 b i)).toNat
        rw [key_at, key_at, show s (ix2 b j) = s (ix2 b i) from h]
      have h'' : j.val < i.val := h'
      omega) t
  rw [picked_count] at h
  exact h

end Cert.Detect
-- ==== Proof.Rounds.lean ====
/- The selection rounds: slot `t` gets the values of the lane at place `t` of the order. -/
module

public import proofs.«01_k».proof.Proof.Picked

@[expose] public section

noncomputable section

namespace Cert.Detect

open Cert.KernelIdeal Cert.KernelIdeal.Facts₀ Cert.KernelIdeal.Facts
open Idealize.ShloMosaic

/-! ## Reductions and slots -/

theorem ofBits_bot : Ideal.ofBits .f32 0xFF800000#32 = ⊥ := by simp [Ideal.ofBits, Ideal.ieee]

theorem fold_max_eq {ι : Type} [Fintype ι] (f : ι → EReal) (p : ι) (h : ∀ q, f q ≤ f p) :
    (Finset.univ : Finset ι).fold max (⊥ : EReal) f = f p := by
  refine le_antisymm (Finset.fold_max_le _ |>.2 ⟨bot_le, fun q _ => h q⟩) (Finset.le_fold_max _ |>.2 (.inr ⟨p, Finset.mem_univ p, le_rfl⟩))

theorem minsi_le (x y : BitVec 32) : (IntOp.minsi x y).toInt ≤ x.toInt ∧ (IntOp.minsi x y).toInt ≤ y.toInt := by
  unfold IntOp.minsi
  by_cases h : x.slt y = true
  · rw [if_pos h]; simp only [BitVec.slt, decide_eq_true_eq] at h; omega
  · rw [if_neg h]; simp only [BitVec.slt, decide_eq_true_eq] at h; omega

theorem minsi_or (x y : BitVec 32) : IntOp.minsi x y = x ∨ IntOp.minsi x y = y := by
  unfold IntOp.minsi
  split
  · exact .inl rfl
  · exact .inr rfl

theorem fold_minsi {ι : Type} (f : ι → BitVec 32) (z : BitVec 32) (S : Finset ι) :
    (∀ p ∈ S, (S.fold IntOp.minsi z f).toInt ≤ (f p).toInt) ∧ (S.fold IntOp.minsi z f).toInt ≤ z.toInt ∧
      (S.fold IntOp.minsi z f = z ∨ ∃ p ∈ S, S.fold IntOp.minsi z f = f p) := by
  classical
  induction S using Finset.induction_on with
  | empty => exact ⟨fun p hp => absurd hp (Finset.notMem_empty p), by simp, .inl (by simp)⟩
  | insert a S ha ih =>
    rw [Finset.fold_insert ha]
    obtain ⟨h1, h2, h3⟩ := ih
    have h4 := minsi_le (f a) (S.fold IntOp.minsi z f)
    refine ⟨fun p hp => ?_, h4.2.trans h2, ?_⟩
    · rcases Finset.mem_insert.1 hp with rfl | hp
      · exact h4.1
      · exact h4.2.trans (h1 p hp)
    · rcases minsi_or (f a) (S.fold IntOp.minsi z f) with h5 | h5
      · exact .inr ⟨a, Finset.mem_insert_self a S, h5⟩
      · rw [h5]
        rcases h3 with h3 | ⟨p, hp, h3⟩
        · exact .inl h3
        · exact .inr ⟨p, Finset.mem_insert_of_mem hp, h3⟩

theorem fold_minsi_eq {ι : Type} [Fintype ι] (f : ι → BitVec 32) (z : BitVec 32) (p : ι) (hz : (f p).toInt ≤ z.toInt)
    (h : ∀ q, (f p).toInt ≤ (f q).toInt) : (Finset.univ : Finset ι).fold IntOp.minsi z f = f p := by
  obtain ⟨h1, h2, h3⟩ := fold_minsi f z Finset.univ
  apply BitVec.eq_of_toInt_eq
  refine le_antisymm (h1 p (Finset.mem_univ p)) ?_
  rcases h3 with h3 | ⟨q, _, h3⟩
  · rw [h3]; exact hz
  · rw [h3]; exact h q

theorem atSlot_at (j : ℕ) (hj : j < 2 ^ 32) (b : Fin 8) (u : Fin 400) : atSlot (BitVec.ofNat 32 j) (ix2 b u) = 1#1 ↔ u.val = j := by
  have e : atSlot (BitVec.ofNat 32 j) (ix2 b u) = IntOp.cmpi .eq (BitVec.ofNat 32 u.val) (BitVec.ofNat 32 j) := by pointwise
  rw [e, eq_one32, ofNat_inj32 _ _ (by omega) hj]

/-- A value taken out at one slot. -/
theorem taken_at (m : IVec S8x400 1) (x : FVec Ideal S8x400 .f32) (b : Fin 8) (p : Fin 400) (hm : ∀ q, m (ix2 b q) = 1#1 ↔ q = p) :
    taken m x (ix2 b 0) = x (ix2 b p) := by
  unfold taken
  rw [slotSum_at, Finset.sum_eq_single p]
  · rw [sel_at, if_pos ((hm p).2 rfl)]
  · intro q _ hq
    rw [sel_at, if_neg (fun h => hq ((hm q).1 h)), flt_at, Ideal.ofBits_zero_f32]
  · intro h; exact absurd (Finset.mem_univ p) h

theorem takenSlot_at (j : Fin 400) (x : FVec Ideal S8x400 .f32) (b : Fin 8) :
    taken (atSlot (BitVec.ofNat 32 j.val)) x (ix2 b 0) = x (ix2 b j) :=
  taken_at _ x b j fun q => by rw [atSlot_at j.val (by omega) b q, Fin.ext_iff]

theorem placed_at (j : ℕ) (hj : j < 2 ^ 32) (x : FVec Ideal S8x1 .f32) (a : FVec Ideal S8x400 .f32) (b : Fin 8) (u : Fin 400) :
    placed (BitVec.ofNat 32 j) x a (ix2 b u) = if u.val = j then x (ix2 b 0) else a (ix2 b u) := by
  unfold placed
  rw [sel_at, wideC_at]
  by_cases h : u.val = j
  · rw [if_pos ((atSlot_at j hj b u).2 h), if_pos h]
  · rw [if_neg (fun e => h ((atSlot_at j hj b u).1 e)), if_neg h]

/-! ## The rounds -/

/-- The mark of a score already taken. -/
abbrev used : EReal := Ideal.ofBits .f32 0xFF61B1E6#32

section rounds

variable (b : Fin 8) (n : IVec S8x400 32) (v x1 y1 x2 y2 l : FVec Ideal S8x400 .f32)
variable (σ : Fin 5120 → EReal) (g : Fin 400 → Fin 5120) (r : Fin 400 → Fin 400)

/-- The slots hold the first four hundred lanes of the order, in some order. -/
structure Held : Prop where
  inj : Function.Injective g
  score : ∀ p, v (ix2 b p) = σ (g p)
  lane : ∀ p, n (ix2 b p) = BitVec.ofNat 32 (g p).val
  place : ∀ t : Fin 400, g (r t) = ord σ ⟨t.val, by omega⟩
  onto : ∀ p, ∃ t, r t = p
  above : ∀ i, used < σ i

/-- What holds after `t` rounds. -/
structure Placed (t : ℕ) (a : Carry Ideal) : Prop where
  left : ∀ p, (∀ u : Fin 400, u.val < t → r u ≠ p) → a.1 (ix2 b p) = σ (g p)
  gone : ∀ u : Fin 400, u.val < t → a.1 (ix2 b (r u)) = used
  v : ∀ u : Fin 400, u.val < t → a.2.1 (ix2 b u) = σ (g (r u))
  x1 : ∀ u : Fin 400, u.val < t → a.2.2.1 (ix2 b u) = x1 (ix2 b (r u))
  y1 : ∀ u : Fin 400, u.val < t → a.2.2.2.1 (ix2 b u) = y1 (ix2 b (r u))
  x2 : ∀ u : Fin 400, u.val < t → a.2.2.2.2.1 (ix2 b u) = x2 (ix2 b (r u))
  y2 : ∀ u : Fin 400, u.val < t → a.2.2.2.2.2.1 (ix2 b u) = y2 (ix2 b (r u))
  l : ∀ u : Fin 400, u.val < t → a.2.2.2.2.2.2 (ix2 b u) = l (ix2 b (r u))

variable {b n v x1 y1 x2 y2 l σ g r}

theorem Held.inj_r (H : Held b n v σ g r) (t u : Fin 400) (h : r t = r u) : t = u := by
  have h1 := H.place t
  rw [h, H.place u] at h1
  have := sortedFrom_injective _ h1
  exact Fin.ext (congrArg Fin.val this).symm

theorem Held.later (H : Held b n v σ g r) (t u : Fin 400) (h : t.val < u.val) :
    σ (g (r u)) < σ (g (r t)) ∨ (σ (g (r t)) = σ (g (r u)) ∧ (g (r t)).val < (g (r u)).val) := by
  have h1 := sortedFrom_before (ahead_total σ) (⟨t.val, by omega⟩ : Fin 5120) ⟨u.val, by omega⟩ h
  rw [H.place t, H.place u]
  exact (ahead_iff σ _ _).1 h1

theorem Held.max_le (H : Held b n v σ g r) (t : Fin 400) (a : Carry Ideal) (P : Placed b x1 y1 x2 y2 l σ g r t.val a) :
    (∀ p, a.1 (ix2 b p) ≤ σ (g (r t))) ∧ a.1 (ix2 b (r t)) = σ (g (r t)) := by
  have ht : a.1 (ix2 b (r t)) = σ (g (r t)) := P.left _ fun u hu h => by
    have := H.inj_r _ _ h; subst this; exact lt_irrefl _ hu
  refine ⟨fun p => ?_, ht⟩
  obtain ⟨u, rfl⟩ := H.onto p
  rcases lt_trichotomy u.val t.val with h | h | h
  · rw [P.gone u h]; exact (H.above _).le
  · rw [Fin.ext h, ht]
  · rw [P.left (r u) fun w hw e => by have := H.inj_r _ _ e; subst this; omega]
    rcases H.later t u h with h' | ⟨h', _⟩
    · exact h'.le
    · exact h'.ge

theorem Held.max_eq (H : Held b n v σ g r) (t : Fin 400) (a : Carry Ideal) (P : Placed b x1 y1 x2 y2 l σ g r t.val a) :
    slotMax a.1 (ix2 b 0) = σ (g (r t)) := by
  obtain ⟨h1, h2⟩ := H.max_le t a P
  rw [slotMax_at, ofBits_bot, fold_max_eq (fun k => a.1 (ix2 b k)) (r t) fun q => by rw [h2]; exact h1 q, h2]

theorem small_word (i : Fin 5120) : (BitVec.ofNat 32 i.val).toInt = i.val := by
  have : (BitVec.ofNat 32 i.val).toNat = i.val := toNat_small _ (by omega)
  rw [toInt_small _ (by omega), this]

theorem Held.winner_at (H : Held b n v σ g r) (t : Fin 400) (a : Carry Ideal) (P : Placed b x1 y1 x2 y2 l σ g r t.val a) (q : Fin 400) :
    winner n a.1 (ix2 b q) = 1#1 ↔ q = r t := by
  obtain ⟨h1, h2⟩ := H.max_le t a P
  have hmax := H.max_eq t a P
  have hsel : ∀ p, (select (cmpf .oeq a.1 (wideS (slotMax a.1))) n (broadcast S8x400 5120#32)) (ix2 b p)
      = if a.1 (ix2 b p) = σ (g (r t)) then BitVec.ofNat 32 (g p).val else 5120#32 := by
    intro p
    rw [sel_at]
    have e := wideS_at (slotMax a.1) b p
    rw [hmax] at e
    have c : cmpf .oeq a.1 (wideS (slotMax a.1)) (ix2 b p) = 1#1 ↔ a.1 (ix2 b p) = σ (g (r t)) := by
      rw [← e]; exact oeq_one _ _
    by_cases h : a.1 (ix2 b p) = σ (g (r t))
    · rw [if_pos (c.2 h), if_pos h, H.lane]
    · rw [if_neg (fun e => h (c.1 e)), if_neg h]; rfl
  have hmin : slotMin (select (cmpf .oeq a.1 (wideS (slotMax a.1))) n (broadcast S8x400 5120#32)) (ix2 b 0)
      = BitVec.ofNat 32 (g (r t)).val := by
    rw [slotMin_at]
    have e0 : (select (cmpf .oeq a.1 (wideS (slotMax a.1))) n (broadcast S8x400 5120#32)) (ix2 b (r t))
        = BitVec.ofNat 32 (g (r t)).val := by rw [hsel, if_pos h2]
    refine (fold_minsi_eq _ _ (r t) ?_ fun q => ?_).trans e0
    · rw [e0, small_word]
      have := (g (r t)).isLt
      have : (2147483647#32 : BitVec 32).toInt = 2147483647 := by decide
      omega
    · rw [e0, hsel, small_word]
      by_cases h : a.1 (ix2 b q) = σ (g (r t))
      · rw [if_pos h, small_word]
        obtain ⟨u, rfl⟩ := H.onto q
        rcases lt_trichotomy u.val t.val with h' | h' | h'
        · rw [P.gone u h'] at h
          exact absurd h (ne_of_lt (H.above _))
        · rw [Fin.ext h']
        · rw [P.left (r u) fun w hw e => by have := H.inj_r _ _ e; subst this; omega] at h
          rcases H.later t u h' with h'' | ⟨_, h''⟩
          · exact absurd h (ne_of_lt h'')
          · omega
      · rw [if_neg h]
        have := (g (r t)).isLt
        have : (5120#32 : BitVec 32).toInt = 5120 := by decide
        omega
  have ew := wideS_at (slotMin (select (cmpf .oeq a.1 (wideS (slotMax a.1))) n (broadcast S8x400 5120#32))) b q
  rw [hmin] at ew
  refine (eq_one32 (n (ix2 b q)) (wideS (slotMin (select (cmpf .oeq a.1 (wideS (slotMax a.1))) n (broadcast S8x400 5120#32))) (ix2 b q))).trans ?_
  rw [ew, H.lane, ofNat_inj32 _ _ (by omega) (by omega)]
  exact ⟨fun h => H.inj (Fin.ext h), fun h => by rw [h]⟩

theorem Held.step (H : Held b n v σ g r) (t : Fin 400) (a : Carry Ideal) (P : Placed b x1 y1 x2 y2 l σ g r t.val a) :
    Placed b x1 y1 x2 y2 l σ g r (t.val + 1) (sortStep n x1 y1 x2 y2 l (BitVec.ofNat 32 t.val) a) := by
  have hw := H.winner_at t a P
  have hp : ∀ (x o : FVec Ideal S8x400 .f32), (∀ u : Fin 400, u.val < t.val → o (ix2 b u) = x (ix2 b (r u))) →
      ∀ u : Fin 400, u.val < t.val + 1 → placed (BitVec.ofNat 32 t.val) (taken (winner n a.1) x) o (ix2 b u) = x (ix2 b (r u)) := by
    intro x o ho u hu
    rw [placed_at _ (by omega)]
    by_cases h : u.val = t.val
    · rw [if_pos h, taken_at _ x b (r t) hw, Fin.ext h]
    · rw [if_neg h, ho u (by omega)]
  refine ⟨fun p hpn => ?_, fun u hu => ?_, fun u hu => ?_, hp _ _ P.x1, hp _ _ P.y1, hp _ _ P.x2, hp _ _ P.y2, hp _ _ P.l⟩
  · show select (winner n a.1) _ a.1 (ix2 b p) = _
    rw [sel_at, if_neg (fun e => hpn t (by omega) ((hw p).1 e).symm)]
    exact P.left p fun u hu => hpn u (by omega)
  · show select (winner n a.1) _ a.1 (ix2 b (r u)) = _
    rw [sel_at]
    by_cases h : u.val = t.val
    · rw [if_pos ((hw _).2 (by rw [Fin.ext h]))]; rfl
    · rw [if_neg (fun e => h (congrArg Fin.val (H.inj_r _ _ ((hw _).1 e))))]
      exact P.gone u (by omega)
  · show placed (BitVec.ofNat 32 t.val) (slotMax a.1) a.2.1 (ix2 b u) = _
    rw [placed_at _ (by omega)]
    by_cases h : u.val = t.val
    · rw [if_pos h, H.max_eq t a P, Fin.ext h]
    · rw [if_neg h, P.v u (by omega)]

/-- After all rounds. -/
theorem Held.sorted_at (H : Held b n v σ g r) : Placed b x1 y1 x2 y2 l σ g r 400 (sorted v n x1 y1 x2 y2 l) := by
  have h8 : 8 * k0_t2_loop.trips = 400 := by rw [trips2]
  have h := fold_eight (n := k0_t2_loop.trips) (sortStep n x1 y1 x2 y2 l)
    (v, flt S8x400 0x00000000#32, flt S8x400 0x00000000#32, flt S8x400 0x00000000#32, flt S8x400 0x00000000#32,
      flt S8x400 0x00000000#32, flt S8x400 0x00000000#32) (fun t a => t ≤ 400 → Placed b x1 y1 x2 y2 l σ g r t a) ?_ ?_
  · rw [h8] at h
    exact h le_rfl
  · intro _
    exact ⟨fun p _ => H.score p, fun u hu => absurd hu (Nat.not_lt_zero _), fun u hu => absurd hu (Nat.not_lt_zero _),
      fun u hu => absurd hu (Nat.not_lt_zero _), fun u hu => absurd hu (Nat.not_lt_zero _), fun u hu => absurd hu (Nat.not_lt_zero _),
      fun u hu => absurd hu (Nat.not_lt_zero _), fun u hu => absurd hu (Nat.not_lt_zero _)⟩
  · intro j _ a h hj
    exact H.step ⟨j, hj⟩ a (h (by omega))

end rounds

end Cert.Detect
-- ==== Proof.Nms.lean ====
/- The suppression rounds as a walk over yes-or-no marks, the places of the kept slots, and the values put there. -/
module

public import proofs.«01_k».proof.Proof.Picked
public import Idealize.ShloMosaic.Lib.IdealHost

@[expose] public section

noncomputable section

namespace Cert.Detect

open Cert.KernelIdeal Cert.KernelIdeal.Facts₀ Cert.KernelIdeal.Facts
open Idealize.ShloMosaic

/-! ## The walk -/

/-- The constants: one half, zero, the least union. -/
abbrev half : EReal := Ideal.ofBits .f32 0x3F000000#32
abbrev leastUnion : EReal := Ideal.ofBits .f32 0x3089705F#32

theorem half_eq : half = (((1 : ℝ) / 2 : ℝ) : EReal) := by
  simp [Ideal.ofBits, Ideal.ieee, -EReal.coe_mul]; norm_num

theorem half_lt_one : half < 1 := by
  rw [half_eq, show (1 : EReal) = ((1 : ℝ) : EReal) by norm_cast, EReal.coe_lt_coe_iff]; norm_num

theorem half_pos : (0 : EReal) < half := by
  rw [half_eq, show (0 : EReal) = ((0 : ℝ) : EReal) by norm_cast, EReal.coe_lt_coe_iff]; norm_num

section walk

variable (v x1 y1 x2 y2 : Fin 400 → EReal)

/-- A box's area. -/
def areaOf (p : Fin 400) : EReal := max 0 (x2 p - x1 p) * max 0 (y2 p - y1 p)

/-- The overlap of two boxes. -/
def overlap (i p : Fin 400) : EReal :=
  max 0 (min (x2 i) (x2 p) - max (x1 i) (x1 p)) * max 0 (min (y2 i) (y2 p) - max (y1 i) (y1 p))

/-- The overlap's share of the union. -/
def shareOf (i p : Fin 400) : EReal :=
  FloatOps.divf (F := Ideal) (φ := .f32) (overlap x1 y1 x2 y2 i p)
    (max (areaOf x1 y1 x2 y2 i + areaOf x1 y1 x2 y2 p - overlap x1 y1 x2 y2 i p) leastUnion)

open Classical in
/-- One round: slot `j` keeps its mark if its score counts, and then takes the later slots that it overlaps. -/
def roundOf (j : Fin 400) (K : Fin 400 → Bool) (p : Fin 400) : Bool :=
  if p = j then K j && decide (half < v j)
  else K p && !(decide (half < shareOf x1 y1 x2 y2 j p) && decide (j.val < p.val) && (K j && decide (half < v j)))

/-- The marks after the first `t` rounds. -/
def marksOf : ℕ → Fin 400 → Bool
  | 0 => fun _ => true
  | t + 1 => if h : t < 400 then roundOf v x1 y1 x2 y2 ⟨t, h⟩ (marksOf t) else marksOf t

end walk

/-- A mark as a number. -/
def one01 (k : Bool) : EReal := if k then 1 else 0

theorem one01_half (k : Bool) : half < one01 k ↔ k = true := by
  cases k
  · simp [one01, half_pos.le]
  · simp [one01, half_lt_one]

theorem one01_mul (a c : Bool) : one01 a * one01 c = one01 (a && c) := by
  cases a <;> cases c <;> simp [one01]

theorem one01_sub (a : Bool) : 1 - one01 a = one01 (!a) := by
  cases a
  · simp [one01]
  · simp only [one01, if_true, Bool.not_true, Bool.false_eq_true, if_false]
    rw [show (1 : EReal) = ((1 : ℝ) : EReal) by norm_cast, ← EReal.coe_sub]; norm_num

open Classical in
theorem bit_number (z : BitVec 1) : FloatOps.sitofp (F := Ideal) .f32 (z.setWidth 32) = one01 (decide (z = 1#1)) := by
  show (((z.setWidth 32).toInt : ℝ) : EReal) = _
  have h : ∀ z : BitVec 1, z = 0#1 ∨ z = 1#1 := by decide
  rcases h z with rfl | rfl
  · simp [one01]
  · simp [one01]

end Cert.Detect
-- ==== Proof.Kept.lean ====
/- The kernel's suppression rounds are the walk; the places are ranks; each place holds the kept slot of that rank. -/
module

public import proofs.«01_k».proof.Proof.Rounds
public import proofs.«01_k».proof.Proof.Nms

@[expose] public section

noncomputable section

namespace Cert.Detect

open Cert.KernelIdeal Cert.KernelIdeal.Facts₀ Cert.KernelIdeal.Facts
open Idealize.ShloMosaic

/-- The slots of one image. -/
abbrev rowOf (b : Fin 8) (x : FVec Ideal S8x400 .f32) : Fin 400 → EReal := fun p => x (ix2 b p)

section nms

variable (b : Fin 8) (v x1 y1 x2 y2 : FVec Ideal S8x400 .f32)

open Classical in
theorem valid_at (p : Fin 400) : valid v (ix2 b p) = one01 (decide (half < v (ix2 b p))) := by
  refine (bit_number _).trans ?_
  refine congrArg one01 (decide_eq_decide.2 ?_)
  exact ogt_one _ _

theorem area_at (p : Fin 400) : area x1 y1 x2 y2 (ix2 b p) = areaOf (rowOf b x1) (rowOf b y1) (rowOf b x2) (rowOf b y2) p := by
  have e : area x1 y1 x2 y2 (ix2 b p) = max (Ideal.ofBits .f32 0x00000000#32) (x2 (ix2 b p) - x1 (ix2 b p))
      * max (Ideal.ofBits .f32 0x00000000#32) (y2 (ix2 b p) - y1 (ix2 b p)) := rfl
  rw [e, Ideal.ofBits_zero_f32]; rfl

/-- The column of one slot's values. -/
abbrev colOf (j : ℕ) (x : FVec Ideal S8x400 .f32) : FVec Ideal S8x1 .f32 := taken (atSlot (BitVec.ofNat 32 j)) x

theorem colOf_at (j : Fin 400) (x : FVec Ideal S8x400 .f32) : colOf j.val x (ix2 b 0) = x (ix2 b j) := takenSlot_at j x b

theorem inter_at (j p : Fin 400) : inter x1 y1 x2 y2 (colOf j x1) (colOf j y1) (colOf j x2) (colOf j y2) (ix2 b p)
    = overlap (rowOf b x1) (rowOf b y1) (rowOf b x2) (rowOf b y2) j p := by
  have e : inter x1 y1 x2 y2 (colOf j x1) (colOf j y1) (colOf j x2) (colOf j y2) (ix2 b p)
      = max (Ideal.ofBits .f32 0x00000000#32) (min (wideS (colOf j x2) (ix2 b p)) (x2 (ix2 b p)) - max (wideS (colOf j x1) (ix2 b p)) (x1 (ix2 b p)))
        * max (Ideal.ofBits .f32 0x00000000#32) (min (wideS (colOf j y2) (ix2 b p)) (y2 (ix2 b p)) - max (wideS (colOf j y1) (ix2 b p)) (y1 (ix2 b p))) := rfl
  rw [e, Ideal.ofBits_zero_f32, wideS_at (colOf j x1), wideS_at (colOf j x2), wideS_at (colOf j y1), wideS_at (colOf j y2),
    colOf_at, colOf_at, colOf_at, colOf_at]
  rfl

theorem share_at (j p : Fin 400) : share x1 y1 x2 y2 (area x1 y1 x2 y2) (colOf j x1) (colOf j y1) (colOf j x2) (colOf j y2)
      (colOf j (area x1 y1 x2 y2)) (ix2 b p)
    = shareOf (rowOf b x1) (rowOf b y1) (rowOf b x2) (rowOf b y2) j p := by
  have e : share x1 y1 x2 y2 (area x1 y1 x2 y2) (colOf j x1) (colOf j y1) (colOf j x2) (colOf j y2)
      (colOf j (area x1 y1 x2 y2)) (ix2 b p)
      = FloatOps.divf (F := Ideal) (φ := .f32) (inter x1 y1 x2 y2 (colOf j x1) (colOf j y1) (colOf j x2) (colOf j y2) (ix2 b p))
        (max (wideS (colOf j (area x1 y1 x2 y2)) (ix2 b p) + area x1 y1 x2 y2 (ix2 b p)
          - inter x1 y1 x2 y2 (colOf j x1) (colOf j y1) (colOf j x2) (colOf j y2) (ix2 b p)) leastUnion) := rfl
  rw [e, inter_at, wideS_at (colOf j (area x1 y1 x2 y2)), colOf_at, area_at, area_at]
  rfl

open Classical in
theorem keptAt_at (keep : FVec Ideal S8x400 .f32) (K : Fin 400 → Bool) (hK : ∀ p, keep (ix2 b p) = one01 (K p)) (j : Fin 400) :
    keptAt (valid v) keep (BitVec.ofNat 32 j.val) (ix2 b 0) = one01 (K j && decide (half < v (ix2 b j))) := by
  have e : keptAt (valid v) keep (BitVec.ofNat 32 j.val) (ix2 b 0)
      = taken (atSlot (BitVec.ofNat 32 j.val)) keep (ix2 b 0) * taken (atSlot (BitVec.ofNat 32 j.val)) (valid v) (ix2 b 0) := rfl
  rw [e, takenSlot_at, takenSlot_at, hK, valid_at, one01_mul]

open Classical in
theorem hits_at (keep : FVec Ideal S8x400 .f32) (K : Fin 400 → Bool) (hK : ∀ p, keep (ix2 b p) = one01 (K p)) (j p : Fin 400) :
    hits x1 y1 x2 y2 (valid v) (area x1 y1 x2 y2) keep (BitVec.ofNat 32 j.val) (ix2 b p) = 1#1 ↔
      (decide (half < shareOf (rowOf b x1) (rowOf b y1) (rowOf b x2) (rowOf b y2) j p) && decide (j.val < p.val)
        && (K j && decide (half < v (ix2 b j)))) = true := by
  have e1 := share_at b x1 y1 x2 y2 j p
  have e2 := tall_at (cmpi .sgt slots (broadcast S1x400 (BitVec.ofNat 32 j.val))) b p
  have e3 := wideS_at (cmpf .ogt (keptAt (valid v) keep (BitVec.ofNat 32 j.val)) (flt S8x1 0x3F000000#32)) b p
  refine (and_one _ _).trans ?_
  rw [Bool.and_eq_true, Bool.and_eq_true]
  refine and_congr ((and_one _ _).trans (and_congr ?_ ?_)) ?_
  · refine (ogt_one _ _).trans ?_
    rw [decide_eq_true_iff]
    exact iff_of_eq (congrArg (fun z => half < z) e1)
  · refine (iff_of_eq (congrArg (fun z => z = 1#1) e2)).trans ?_
    have hj : (BitVec.ofNat 32 j.val).toNat = j.val := toNat_small _ (by omega)
    have hp : (BitVec.ofNat 32 p.val).toNat = p.val := toNat_small _ (by omega)
    have hs := slots_at p
    refine (sgt_one (slots (ix2 0 p)) (BitVec.ofNat 32 j.val) (by rw [hs, hp]; omega) (by rw [hj]; omega)).trans ?_
    rw [hs, hj, hp, decide_eq_true_iff]
  · refine (iff_of_eq (congrArg (fun z => z = 1#1) e3)).trans ?_
    refine (ogt_one _ _).trans ?_
    have := keptAt_at b v keep K hK j
    refine (iff_of_eq (congrArg (fun z => half < z) this)).trans ?_
    exact one01_half _

open Classical in
theorem nmsStep_at (keep : FVec Ideal S8x400 .f32) (K : Fin 400 → Bool) (hK : ∀ p, keep (ix2 b p) = one01 (K p)) (j p : Fin 400) :
    nmsStep x1 y1 x2 y2 (valid v) (area x1 y1 x2 y2) (BitVec.ofNat 32 j.val) keep (ix2 b p)
      = one01 (roundOf (rowOf b v) (rowOf b x1) (rowOf b y1) (rowOf b x2) (rowOf b y2) j K p) := by
  unfold nmsStep roundOf
  rw [placed_at _ (by omega)]
  by_cases h : p = j
  · rw [if_pos (congrArg Fin.val h), if_pos h, keptAt_at b v keep K hK]
  · rw [if_neg (fun e => h (Fin.ext e)), if_neg h]
    have e : (mulf keep (subf (flt S8x400 0x3F800000#32)
        (sitofp .f32 (extui 32 (hits x1 y1 x2 y2 (valid v) (area x1 y1 x2 y2) keep (BitVec.ofNat 32 j.val)) natLt_1_32)))) (ix2 b p)
        = keep (ix2 b p) * (Ideal.ofBits .f32 0x3F800000#32 - FloatOps.sitofp (F := Ideal) .f32
          ((hits x1 y1 x2 y2 (valid v) (area x1 y1 x2 y2) keep (BitVec.ofNat 32 j.val) (ix2 b p)).setWidth 32)) := rfl
    rw [e, bit_number, Ideal.ofBits_one_f32, one01_sub, hK, one01_mul]
    refine congrArg one01 (congrArg (fun z => K p && !z) ?_)
    rw [Bool.eq_iff_iff, decide_eq_true_iff]
    exact hits_at b v x1 y1 x2 y2 keep K hK j p

/-- The slots kept are those the walk leaves marked. -/
theorem kept_at (p : Fin 400) : kept v x1 y1 x2 y2 (ix2 b p)
    = one01 (marksOf (rowOf b v) (rowOf b x1) (rowOf b y1) (rowOf b x2) (rowOf b y2) 400 p) := by
  have h8 : 8 * k0_t3_loop.trips = 400 := by rw [trips3]
  have h := fold_eight (n := k0_t3_loop.trips) (nmsStep x1 y1 x2 y2 (valid v) (area x1 y1 x2 y2)) (flt S8x400 0x3F800000#32)
    (fun t keep => t ≤ 400 → ∀ p, keep (ix2 b p) = one01 (marksOf (rowOf b v) (rowOf b x1) (rowOf b y1) (rowOf b x2) (rowOf b y2) t p)) ?_ ?_
  · rw [h8] at h
    exact h le_rfl p
  · intro _ p
    exact Ideal.ofBits_one_f32
  · intro j _ a ih hj p
    refine (nmsStep_at b v x1 y1 x2 y2 a _ (ih (by omega)) ⟨j, hj⟩ p).trans ?_
    rw [marksOf, dif_pos (show j < 400 from hj)]

end nms

section place

variable (b : Fin 8) (y keep : FVec Ideal S8x400 .f32) (K : Fin 400 → Bool) (hK : ∀ p, keep (ix2 b p) = one01 (K p))
include hK

theorem places_at (p : Fin 400) : places y keep (ix2 b p) = BitVec.ofNat 32 (rankKept (fun p => K p = true) (rowOf b y) p) := by
  have h8 : 8 * k0_t4_loop.trips = 400 := by rw [trips4]
  have h := fold_eight (n := k0_t4_loop.trips) (placeStep y keep) (broadcast S8x400 0#32)
    (fun t r => t ≤ 400 → ∀ p : Fin 400, p.val < t → r (ix2 b p) = BitVec.ofNat 32 (rankKept (fun p => K p = true) (rowOf b y) p)) ?_ ?_
  · rw [h8] at h
    exact h le_rfl p p.isLt
  · intro _ p hp
    exact absurd hp (Nat.not_lt_zero _)
  · intro j _ a ih hj p hp
    unfold placeStep
    rw [sel_at]
    by_cases h : p.val = j
    · rw [if_pos ((atSlot_at j (by omega) b p).2 h), wideC_at, slotCount_at]
      refine congrArg (BitVec.ofNat 32) ?_
      unfold rankKept count
      refine congrArg Finset.card (Finset.filter_congr fun q _ => ?_)
      subst h
      have e1 := wideS_at (taken (atSlot (BitVec.ofNat 32 p.val)) y) b q
      rw [takenSlot_at] at e1
      have e2 := tall_at (cmpi .slt slots (broadcast S1x400 (BitVec.ofNat 32 p.val))) b q
      refine (and_one _ _).trans (and_congr ?_ ((or_one _ _).trans (or_congr ?_ ((and_one _ _).trans (and_congr ?_ ?_)))))
      · refine (ogt_one _ _).trans ?_
        exact (iff_of_eq (congrArg (fun z => half < z) (hK q))).trans (one01_half _)
      · refine (olt_one _ _).trans ?_
        exact iff_of_eq (congrArg (fun z => y (ix2 b q) < z) e1)
      · refine (oeq_one _ _).trans ?_
        exact iff_of_eq (congrArg (fun z => y (ix2 b q) = z) e1)
      · refine (iff_of_eq (congrArg (fun z => z = 1#1) e2)).trans ?_
        have hp' : (BitVec.ofNat 32 p.val).toNat = p.val := toNat_small _ (by omega)
        have hq : (BitVec.ofNat 32 q.val).toNat = q.val := toNat_small _ (by omega)
        have hs := slots_at q
        refine (slt_one (slots (ix2 0 q)) (BitVec.ofNat 32 p.val) (by rw [hs, hq]; omega) (by rw [hp']; omega)).trans ?_
        rw [hs, hp', hq, Fin.lt_def]
    · rw [if_neg (fun e => h ((atSlot_at j (by omega) b p).1 e))]
      exact ih (by omega) p (by omega)

theorem goes_at (i : Fin 200) (p : Fin 400) : goes keep (places y keep) (ix3 b i p) = 1#1 ↔
    rankKept (fun p => K p = true) (rowOf b y) p = i.val ∧ K p = true := by
  have e : goes keep (places y keep) (ix3 b i p) = IntOp.andi (IntOp.cmpi .eq (places y keep (ix2 b p)) (BitVec.ofNat 32 i.val))
      (FloatOps.cmpf .ogt (keep (ix2 b p)) half) := by
    unfold goes
    pointwise
  rw [e]
  refine (and_one _ _).trans (and_congr ?_ ?_)
  · rw [eq_one32, places_at b y keep K hK, ofNat_inj32 _ _ _ (by omega)]
    have : rankKept (fun p => K p = true) (rowOf b y) p ≤ 400 := count_le_size _
    omega
  · refine (ogt_one _ _).trans ?_
    rw [hK]; exact one01_half _

theorem result_at (x : FVec Ideal S8x400 .f32) (hy : ∀ p, K p = true → rowOf b y p < ⊤) (i : Fin 200) :
    result (goes keep (places y keep)) x (ix2 b i)
      = if K (up (fun p => if K p = true then rowOf b y p else ⊤) ⟨i.val, by omega⟩) = true
        then x (ix2 b (up (fun p => if K p = true then rowOf b y p else ⊤) ⟨i.val, by omega⟩)) else 0 := by
  have e : result (goes keep (places y keep)) x (ix2 b i)
      = ∑ p : Fin 400, if goes keep (places y keep) (ix3 b i p) = 1#1 then x (ix2 b p) else 0 := by
    unfold result
    generalize goes keep (places y keep) = g
    pointwise
    rfl
  rw [e]
  simp only [goes_at b y keep K hK]
  set e := up (fun p => if K p = true then rowOf b y p else ⊤) ⟨i.val, by omega⟩ with he
  have hone : ∀ p, rankKept (fun p => K p = true) (rowOf b y) p = i.val ∧ K p = true → p = e := fun p h =>
    eq_up (fun p => K p = true) (rowOf b y) hy ⟨i.val, by omega⟩ p h.2 h.1
  by_cases h : K e = true
  · rw [if_pos h, Finset.sum_eq_single e]
    · rw [if_pos ⟨rank_up (fun p => K p = true) (rowOf b y) hy ⟨i.val, by omega⟩ h, h⟩]
    · intro p _ hp
      rw [if_neg fun hh => hp (hone p hh)]
    · intro hh; exact absurd (Finset.mem_univ e) hh
  · rw [if_neg h]
    refine Finset.sum_eq_zero fun p _ => ?_
    rw [if_neg fun hh => h (by rw [← hone p hh]; exact hh.2)]

end place

end Cert.Detect
-- ==== Proof.Spec.lean ====
/- What both programs compute, of one image: the boxes, the best class, the order by score, the suppression walk, the order
by the upper edge. -/
module

public import proofs.«01_k».proof.Proof.Kept

@[expose] public section

noncomputable section

namespace Cert.Detect

open Idealize.ShloMosaic

/-! ## One box -/

/-- The constants of the decoding, and the score put in the place of one that doesn't count. -/
abbrev tenth : EReal := Ideal.ofBits .f32 0x3DCCCCCD#32
abbrev fifth : EReal := Ideal.ofBits .f32 0x3E4CCCCD#32
abbrev two : EReal := Ideal.ofBits .f32 0x40000000#32
abbrev lowest : EReal := Ideal.ofBits .f32 0xCE6E6B28#32

section box

variable (P : Fin 25 → EReal) (Q : Fin 4 → EReal)

/-- A box's centre and its extent, along one axis. -/
def midOf (k : Fin 2) : EReal :=
  Q ⟨k.val, by omega⟩ + P ⟨k.val, by omega⟩ * tenth * Q ⟨k.val + 2, by omega⟩
def spanOf (k : Fin 2) : EReal :=
  Q ⟨k.val + 2, by omega⟩ * Ideal.exp (P ⟨k.val + 2, by omega⟩ * fifth)

/-- A box's edges, along one axis. -/
def fromOf (k : Fin 2) : EReal := midOf P Q k - Ideal.div (spanOf P Q k) two
def toOf (k : Fin 2) : EReal := midOf P Q k + Ideal.div (spanOf P Q k) two

end box

/-- The largest of the first `k + 1` classes and the first class that has it. -/
def scan (c : Fin 21 → EReal) : ℕ → EReal × ℕ
  | 0 => (c 0, 0)
  | k + 1 => if h : k + 1 < 21 then
      (if (scan c k).1 < c ⟨k + 1, h⟩ then (c ⟨k + 1, h⟩, k + 1) else scan c k) else scan c k

/-- The classes of a box. -/
def classOf (P : Fin 25 → EReal) (c : Fin 21) : EReal := P ⟨c.val + 4, by omega⟩

/-- A box's best score, its label, and the score it is ordered by. -/
def bestOf (P : Fin 25 → EReal) : EReal := (scan (classOf P) 20).1
def labelOf (P : Fin 25 → EReal) : EReal := (((scan (classOf P) 20).2 : ℝ) : EReal)
open Classical in
def maskOf (P : Fin 25 → EReal) : EReal := if half < bestOf P then bestOf P else lowest

theorem lowest_eq : lowest = (((-1000000000 : ℝ)) : EReal) := by
  simp [Ideal.ofBits, Ideal.ieee, -EReal.coe_mul]; norm_num

theorem lowest_lt_half : lowest < half := by
  rw [lowest_eq, half_eq, EReal.coe_lt_coe_iff]; norm_num

theorem half_mask (P : Fin 25 → EReal) : half < maskOf P ↔ half < bestOf P := by
  unfold maskOf
  split
  · rfl
  · rename_i h
    exact ⟨fun h' => absurd (h'.trans lowest_lt_half) (lt_irrefl _), fun h' => absurd h' h⟩

theorem mask_eq (P : Fin 25 → EReal) (h : half < bestOf P) : maskOf P = bestOf P := if_pos h

theorem lowest_le_mask (P : Fin 25 → EReal) : lowest ≤ maskOf P := by
  unfold maskOf
  split
  · rename_i h; exact (lowest_lt_half.trans h).le
  · exact le_rfl

/-- A box of lowest scores is ordered by the lowest score. -/
theorem mask_low (P : Fin 25 → EReal) (h : ∀ c, P c = lowest) : maskOf P = lowest := by
  have hs : ∀ k, (scan (classOf P) k).1 = lowest := by
    intro k
    induction k with
    | zero => exact h _
    | succ k ih =>
      rw [scan]
      split
      · split
        · exact h _
        · exact ih
      · exact ih
  unfold maskOf
  split
  · exact hs 20
  · rfl

/-! ## The walk's marks -/

section marks
variable (v v' x1 y1 x2 y2 : Fin 400 → EReal)

/-- Of a score only its being above the threshold counts. -/
theorem marksOf_score (h : ∀ p, half < v p ↔ half < v' p) (t : ℕ) : marksOf v x1 y1 x2 y2 t = marksOf v' x1 y1 x2 y2 t := by
  induction t with
  | zero => rfl
  | succ t ih =>
    simp only [marksOf, ih]
    split
    · funext p
      simp only [roundOf, h]
    · rfl

/-- A slot that keeps its mark is above the threshold. -/
theorem marksOf_above (t : ℕ) (p : Fin 400) (hp : p.val < t) (h : marksOf v x1 y1 x2 y2 t p = true) : half < v p := by
  induction t with
  | zero => exact absurd hp (Nat.not_lt_zero _)
  | succ t ih =>
    simp only [marksOf] at h
    split at h
    · rename_i ht
      unfold roundOf at h
      split at h
      · rename_i e
        simp only [Bool.and_eq_true, decide_eq_true_eq] at h
        rw [e]; exact h.2
      · rename_i e
        rw [Bool.and_eq_true] at h
        refine ih (lt_of_le_of_ne (Nat.lt_succ_iff.1 hp) fun e' => e (Fin.ext e')) h.1
    · exact ih (by have := p.isLt; omega) h

end marks

/-! ## One image -/

section image

variable (P : Fin 5000 → Fin 25 → EReal) (Q : Fin 5000 → Fin 4 → EReal)

/-- The boxes in the order of their scores. -/
def nthBox (t : Fin 400) : Fin 5000 := ord (fun i => maskOf (P i)) ⟨t.val, by omega⟩

/-- What is said of a box: its four edges, its label and its score. -/
def said (i : Fin 5000) (k : Fin 6) : EReal :=
  match k with
  | 0 => fromOf (P i) (Q i) 0
  | 1 => fromOf (P i) (Q i) 1
  | 2 => toOf (P i) (Q i) 0
  | 3 => toOf (P i) (Q i) 1
  | 4 => labelOf (P i)
  | 5 => bestOf (P i)

/-- Of the boxes in their order, one of the six. -/
abbrev rowSaid (k : Fin 6) (t : Fin 400) : EReal := said P Q (nthBox P t) k

/-- The boxes that stay. -/
def stays : Fin 400 → Bool :=
  marksOf (rowSaid P Q 5) (rowSaid P Q 0) (rowSaid P Q 1) (rowSaid P Q 2) (rowSaid P Q 3) 400

/-- The place in the order by score of the box at place `i` of the result. -/
def nthKept (i : Fin 200) : Fin 400 :=
  up (fun p => if stays P Q p = true then rowSaid P Q 1 p else ⊤) ⟨i.val, by omega⟩

/-- The result. -/
def answer (i : Fin 200) (k : Fin 6) : EReal :=
  if stays P Q (nthKept P Q i) = true then rowSaid P Q k (nthKept P Q i) else 0

end image

end Cert.Detect
-- ==== Proof.Heights.lean ====
/- Of finite numbers a finite upper edge. -/
module

public import proofs.«01_k».proof.Pre_heights_finite
public import proofs.«01_k».proof.Proof.Gen.Pre_heights_finite
public import proofs.«01_k».proof.Proof.Spec
public import proofs.«01_k».proof.Proof.At

@[expose] public section

set_option maxRecDepth 8192

noncomputable section

namespace Cert.Detect

open Idealize.ShloMosaic

/-- Neither infinity. -/
def Real? (x : EReal) : Prop := ∃ r : ℝ, x = (r : EReal)

theorem real_of_abs {x : EReal} (h : max x (-x) < ⊤) : Real? x := by
  induction x using EReal.rec with
  | bot => simp at h
  | coe r => exact ⟨r, rfl⟩
  | top => simp at h

theorem real_add {x y : EReal} : Real? x → Real? y → Real? (x + y)
  | ⟨r, hr⟩, ⟨s, hs⟩ => ⟨r + s, by rw [hr, hs, EReal.coe_add]⟩
theorem real_sub {x y : EReal} : Real? x → Real? y → Real? (x - y)
  | ⟨r, hr⟩, ⟨s, hs⟩ => ⟨r - s, by rw [hr, hs, EReal.coe_sub]⟩
theorem real_mul {x y : EReal} : Real? x → Real? y → Real? (x * y)
  | ⟨r, hr⟩, ⟨s, hs⟩ => ⟨r * s, by rw [hr, hs, EReal.coe_mul]⟩
theorem real_exp {x : EReal} : Real? x → Real? (Ideal.exp x)
  | ⟨r, hr⟩ => ⟨Real.exp r, by rw [hr]; rfl⟩

theorem real_tenth : Real? tenth := by
  unfold Real? tenth
  simp [Ideal.ofBits, Ideal.ieee]
  exact ⟨_, (EReal.coe_mul _ _).symm⟩
theorem real_fifth : Real? fifth := by
  unfold Real? fifth
  simp [Ideal.ofBits, Ideal.ieee]
  exact ⟨_, (EReal.coe_mul _ _).symm⟩
theorem two_eq : two = ((2 : ℝ) : EReal) := by
  unfold two
  simp [Ideal.ofBits, Ideal.ieee]
  rw [← EReal.coe_mul]
  norm_num

theorem real_half {x : EReal} : Real? x → Real? (Ideal.div x two)
  | ⟨r, hr⟩ => by
    have h2 : ((2 : ℝ) : EReal) ≠ 0 := by exact_mod_cast two_ne_zero (α := ℝ)
    refine ⟨r * 2⁻¹, ?_⟩
    rw [hr, two_eq, Ideal.div, if_neg h2, ← EReal.coe_inv, ← EReal.coe_mul]

theorem upper_lt (P : Fin 25 → EReal) (Q : Fin 4 → EReal) (h1 : Real? (P 1)) (h3 : Real? (P 3)) (g1 : Real? (Q 1)) (g3 : Real? (Q 3)) :
    fromOf P Q 1 < ⊤ := by
  have h : Real? (fromOf P Q 1) :=
    real_sub (real_add g1 (real_mul (real_mul h1 real_tenth) g3)) (real_half (real_mul g3 (real_exp (real_mul h3 real_fifth))))
  obtain ⟨r, hr⟩ := h
  rw [hr]; exact EReal.coe_lt_top r

end Cert.Detect

namespace Cert.Pre_heights_finite

open Idealize.ShloMosaic Cert.Detect

theorem top_bits : Ideal.ofBits .f32 0x7F800000#32 = ⊤ := by
  simp [Ideal.ofBits, Ideal.ieee]

theorem real_of_bit (x : EReal) (h : FloatOps.cmpf (F := Ideal) (φ := .f32) .olt (max x (-x)) (Ideal.ofBits .f32 0x7F800000#32) = 1#1) : Real? x := by
  refine real_of_abs ?_
  have := (olt_one _ _).1 h
  rwa [top_bits] at this

theorem reads (A : FVec Ideal S8x5000x25 .f32) (B : FVec Ideal S5000x4 .f32) (b : Fin 8) (i : Fin 5000) :
    (fn (F := Ideal) A B) (ix2 b i)
      = (FloatOps.cmpf (F := Ideal) (φ := .f32) .olt (max (A (ix3 b i 1)) (-(A (ix3 b i 1)))) (Ideal.ofBits .f32 0x7F800000#32)
        &&& FloatOps.cmpf (F := Ideal) (φ := .f32) .olt (max (A (ix3 b i 3)) (-(A (ix3 b i 3)))) (Ideal.ofBits .f32 0x7F800000#32))
        &&& (FloatOps.cmpf (F := Ideal) (φ := .f32) .olt (max (B (ix2 i 1)) (-(B (ix2 i 1)))) (Ideal.ofBits .f32 0x7F800000#32)
        &&& FloatOps.cmpf (F := Ideal) (φ := .f32) .olt (max (B (ix2 i 3)) (-(B (ix2 i 3)))) (Ideal.ofBits .f32 0x7F800000#32)) := by
  pointwise [fn, fn_part1]
  rfl

/-- Under the precondition every upper edge is below `+∞`. -/
theorem upper (A : FVec Ideal S8x5000x25 .f32) (B : FVec Ideal S5000x4 .f32) (h : fn (F := Ideal) A B = fun _ => 1#1)
    (b : Fin 8) (i : Fin 5000) : said (fun i k => A (ix3 b i k)) (fun i k => B (ix2 i k)) i 1 < ⊤ := by
  have e := (reads A B b i).symm.trans (congrFun h _)
  rw [and_one, and_one, and_one] at e
  exact upper_lt _ _ (real_of_bit _ e.1.1) (real_of_bit _ e.1.2) (real_of_bit _ e.2.1) (real_of_bit _ e.2.2)

end Cert.Pre_heights_finite

end
-- ==== Proof.KDecode.lean ====
/- The kernel's boxes, scores and labels at a lane. -/
module

public import proofs.«01_k».proof.Proof.Spec
public import proofs.«01_k».proof.Proof.Run

@[expose] public section

noncomputable section

namespace Cert.KernelIdeal.Gen

open Idealize.ShloMosaic Cert.Detect
open Cert.KernelIdeal Cert.KernelIdeal.Facts₀ Cert.KernelIdeal.Facts

variable (x0 : Vec Ideal S25x8x5120 .f32) (x1 : Vec Ideal S4x5120 .f32) (b : Fin 8) (i : Fin 5120)

/-- The inputs of one lane. -/
abbrev boxP : Fin 25 → EReal := fun c => x0 (ix3 c b i)
abbrev boxQ : Fin 4 → EReal := fun k => x1 (ix2 k i)

theorem at_v40_at : at_v40 (F := Ideal) x0 x1 (ix2 b i) = fromOf (boxP x0 b i) (boxQ x1 i) 0 := by
  pointwise [at_v40, at_v21, at_v32, k0_pay181, k0_pay183, k0_pay185, k0_pay188]
  rfl
theorem at_v43_at : at_v43 (F := Ideal) x0 x1 (ix2 b i) = fromOf (boxP x0 b i) (boxQ x1 i) 1 := by
  pointwise [at_v43, at_v15, at_v27, at_v35, k0_pay182, k0_pay184, k0_pay186, k0_pay187, k0_pay189]
  rfl
theorem at_v46_at : at_v46 (F := Ideal) x0 x1 (ix2 b i) = toOf (boxP x0 b i) (boxQ x1 i) 0 := by
  pointwise [at_v46, at_v21, at_v32, k0_pay181, k0_pay183, k0_pay185, k0_pay190]
  rfl
theorem at_v49_at : at_v49 (F := Ideal) x0 x1 (ix2 b i) = toOf (boxP x0 b i) (boxQ x1 i) 1 := by
  pointwise [at_v49, at_v15, at_v27, at_v35, k0_pay182, k0_pay184, k0_pay186, k0_pay187, k0_pay191]
  rfl

/-! ## The classes -/

section steps
variable {F : FTy → Type} [FloatOps F]

/-- A class as a plane. -/
abbrev plane (x : Vec F S1x8x5120 .f32) : FVec F S8x5120 .f32 := shapeCast S8x5120 x shapeCasts_S1x8x5120_S8x5120

/-- One step of the running best, and of its label. -/
abbrev bestNow (x m : FVec F S8x5120 .f32) : FVec F S8x5120 .f32 := select (cmpf .ogt x m) x m
abbrev mark (k : BitVec 32) (x m l : FVec F S8x5120 .f32) : FVec F S8x5120 .f32 :=
  select (cmpf .ogt x m) (broadcast S8x5120 (Scalar.ofBits .f32 k)) l

variable (x0 : Vec F S25x8x5120 .f32) (x1 : Vec F S4x5120 .f32)

abbrev cls4 : FVec F S8x5120 .f32 := plane (View.ld x0 (Rect.unit (s := S25x8x5120) ![4, 0, 0] S1x8x5120.size inb_S25x8x5120_S1x8x5120_4_0_0))
abbrev cls5 : FVec F S8x5120 .f32 := plane (View.ld x0 (Rect.unit (s := S25x8x5120) ![5, 0, 0] S1x8x5120.size inb_S25x8x5120_S1x8x5120_5_0_0))
abbrev cls6 : FVec F S8x5120 .f32 := plane (View.ld x0 (Rect.unit (s := S25x8x5120) ![6, 0, 0] S1x8x5120.size inb_S25x8x5120_S1x8x5120_6_0_0))
abbrev cls7 : FVec F S8x5120 .f32 := plane (View.ld x0 (Rect.unit (s := S25x8x5120) ![7, 0, 0] S1x8x5120.size inb_S25x8x5120_S1x8x5120_7_0_0))
abbrev cls8 : FVec F S8x5120 .f32 := plane (View.ld x0 (Rect.unit (s := S25x8x5120) ![8, 0, 0] S1x8x5120.size inb_S25x8x5120_S1x8x5120_8_0_0))
abbrev cls9 : FVec F S8x5120 .f32 := plane (View.ld x0 (Rect.unit (s := S25x8x5120) ![9, 0, 0] S1x8x5120.size inb_S25x8x5120_S1x8x5120_9_0_0))
abbrev cls10 : FVec F S8x5120 .f32 := plane (View.ld x0 (Rect.unit (s := S25x8x5120) ![10, 0, 0] S1x8x5120.size inb_S25x8x5120_S1x8x5120_10_0_0))
abbrev cls11 : FVec F S8x5120 .f32 := plane (View.ld x0 (Rect.unit (s := S25x8x5120) ![11, 0, 0] S1x8x5120.size inb_S25x8x5120_S1x8x5120_11_0_0))
abbrev cls12 : FVec F S8x5120 .f32 := plane (View.ld x0 (Rect.unit (s := S25x8x5120) ![12, 0, 0] S1x8x5120.size inb_S25x8x5120_S1x8x5120_12_0_0))
abbrev cls13 : FVec F S8x5120 .f32 := plane (View.ld x0 (Rect.unit (s := S25x8x5120) ![13, 0, 0] S1x8x5120.size inb_S25x8x5120_S1x8x5120_13_0_0))
abbrev cls14 : FVec F S8x5120 .f32 := plane (View.ld x0 (Rect.unit (s := S25x8x5120) ![14, 0, 0] S1x8x5120.size inb_S25x8x5120_S1x8x5120_14_0_0))
abbrev cls15 : FVec F S8x5120 .f32 := plane (View.ld x0 (Rect.unit (s := S25x8x5120) ![15, 0, 0] S1x8x5120.size inb_S25x8x5120_S1x8x5120_15_0_0))
abbrev cls16 : FVec F S8x5120 .f32 := plane (View.ld x0 (Rect.unit (s := S25x8x5120) ![16, 0, 0] S1x8x5120.size inb_S25x8x5120_S1x8x5120_16_0_0))
abbrev cls17 : FVec F S8x5120 .f32 := plane (View.ld x0 (Rect.unit (s := S25x8x5120) ![17, 0, 0] S1x8x5120.size inb_S25x8x5120_S1x8x5120_17_0_0))
abbrev cls18 : FVec F S8x5120 .f32 := plane (View.ld x0 (Rect.unit (s := S25x8x5120) ![18, 0, 0] S1x8x5120.size inb_S25x8x5120_S1x8x5120_18_0_0))
abbrev cls19 : FVec F S8x5120 .f32 := plane (View.ld x0 (Rect.unit (s := S25x8x5120) ![19, 0, 0] S1x8x5120.size inb_S25x8x5120_S1x8x5120_19_0_0))
abbrev cls20 : FVec F S8x5120 .f32 := plane (View.ld x0 (Rect.unit (s := S25x8x5120) ![20, 0, 0] S1x8x5120.size inb_S25x8x5120_S1x8x5120_20_0_0))
abbrev cls21 : FVec F S8x5120 .f32 := plane (View.ld x0 (Rect.unit (s := S25x8x5120) ![21, 0, 0] S1x8x5120.size inb_S25x8x5120_S1x8x5120_21_0_0))
abbrev cls22 : FVec F S8x5120 .f32 := plane (View.ld x0 (Rect.unit (s := S25x8x5120) ![22, 0, 0] S1x8x5120.size inb_S25x8x5120_S1x8x5120_22_0_0))
abbrev cls23 : FVec F S8x5120 .f32 := plane (View.ld x0 (Rect.unit (s := S25x8x5120) ![23, 0, 0] S1x8x5120.size inb_S25x8x5120_S1x8x5120_23_0_0))
abbrev cls24 : FVec F S8x5120 .f32 := plane (View.ld x0 (Rect.unit (s := S25x8x5120) ![24, 0, 0] S1x8x5120.size inb_S25x8x5120_S1x8x5120_24_0_0))

theorem at_v68_eq : at_v68 x0 x1 = (bestNow (cls7 x0) (bestNow (cls6 x0) (bestNow (cls5 x0) (cls4 x0)))) := rfl
theorem at_v70_eq : at_v70 x0 x1 = (mark 0x40400000#32 (cls7 x0) (bestNow (cls6 x0) (bestNow (cls5 x0) (cls4 x0))) (mark 0x40000000#32 (cls6 x0) (bestNow (cls5 x0) (cls4 x0)) (mark 0x3F800000#32 (cls5 x0) (cls4 x0) (broadcast S8x5120 (Scalar.ofBits .f32 0x00000000#32))))) := rfl
theorem at_v104_eq : at_v104 x0 x1 = (bestNow (cls13 x0) (bestNow (cls12 x0) (bestNow (cls11 x0) (bestNow (cls10 x0) (bestNow (cls9 x0) (bestNow (cls8 x0) (at_v68 x0 x1))))))) := rfl
theorem at_v106_eq : at_v106 x0 x1 = (mark 0x41100000#32 (cls13 x0) (bestNow (cls12 x0) (bestNow (cls11 x0) (bestNow (cls10 x0) (bestNow (cls9 x0) (bestNow (cls8 x0) (at_v68 x0 x1)))))) (mark 0x41000000#32 (cls12 x0) (bestNow (cls11 x0) (bestNow (cls10 x0) (bestNow (cls9 x0) (bestNow (cls8 x0) (at_v68 x0 x1))))) (mark 0x40E00000#32 (cls11 x0) (bestNow (cls10 x0) (bestNow (cls9 x0) (bestNow (cls8 x0) (at_v68 x0 x1)))) (mark 0x40C00000#32 (cls10 x0) (bestNow (cls9 x0) (bestNow (cls8 x0) (at_v68 x0 x1))) (mark 0x40A00000#32 (cls9 x0) (bestNow (cls8 x0) (at_v68 x0 x1)) (mark 0x40800000#32 (cls8 x0) (at_v68 x0 x1) (at_v70 x0 x1))))))) := rfl
theorem at_v140_eq : at_v140 x0 x1 = (bestNow (cls19 x0) (bestNow (cls18 x0) (bestNow (cls17 x0) (bestNow (cls16 x0) (bestNow (cls15 x0) (bestNow (cls14 x0) (at_v104 x0 x1))))))) := rfl
theorem at_v142_eq : at_v142 x0 x1 = (mark 0x41700000#32 (cls19 x0) (bestNow (cls18 x0) (bestNow (cls17 x0) (bestNow (cls16 x0) (bestNow (cls15 x0) (bestNow (cls14 x0) (at_v104 x0 x1)))))) (mark 0x41600000#32 (cls18 x0) (bestNow (cls17 x0) (bestNow (cls16 x0) (bestNow (cls15 x0) (bestNow (cls14 x0) (at_v104 x0 x1))))) (mark 0x41500000#32 (cls17 x0) (bestNow (cls16 x0) (bestNow (cls15 x0) (bestNow (cls14 x0) (at_v104 x0 x1)))) (mark 0x41400000#32 (cls16 x0) (bestNow (cls15 x0) (bestNow (cls14 x0) (at_v104 x0 x1))) (mark 0x41300000#32 (cls15 x0) (bestNow (cls14 x0) (at_v104 x0 x1)) (mark 0x41200000#32 (cls14 x0) (at_v104 x0 x1) (at_v106 x0 x1))))))) := rfl
theorem at_label_eq : at_label x0 x1 = (mark 0x41A00000#32 (cls24 x0) (bestNow (cls23 x0) (bestNow (cls22 x0) (bestNow (cls21 x0) (bestNow (cls20 x0) (at_v140 x0 x1))))) (mark 0x41980000#32 (cls23 x0) (bestNow (cls22 x0) (bestNow (cls21 x0) (bestNow (cls20 x0) (at_v140 x0 x1)))) (mark 0x41900000#32 (cls22 x0) (bestNow (cls21 x0) (bestNow (cls20 x0) (at_v140 x0 x1))) (mark 0x41880000#32 (cls21 x0) (bestNow (cls20 x0) (at_v140 x0 x1)) (mark 0x41800000#32 (cls20 x0) (at_v140 x0 x1) (at_v142 x0 x1)))))) := rfl
theorem at_score_eq : at_score x0 x1 = select (cmpf .ogt (bestNow (cls24 x0) (bestNow (cls23 x0) (bestNow (cls22 x0) (bestNow (cls21 x0) (bestNow (cls20 x0) (at_v140 x0 x1)))))) (broadcast S8x5120 (Scalar.ofBits .f32 0x3F000000#32)))
    (bestNow (cls24 x0) (bestNow (cls23 x0) (bestNow (cls22 x0) (bestNow (cls21 x0) (bestNow (cls20 x0) (at_v140 x0 x1)))))) (broadcast S8x5120 (Scalar.ofBits .f32 0xCE6E6B28#32)) := rfl

end steps

/-- The running best and label through class `k`, at a lane. -/
structure Scanned (c : Fin 21 → EReal) (k : ℕ) (m l : FVec Ideal S8x5120 .f32) (b : Fin 8) (i : Fin 5120) : Prop where
  best : m (ix2 b i) = (scan c k).1
  label : l (ix2 b i) = (((scan c k).2 : ℝ) : EReal)

theorem Scanned.step {c : Fin 21 → EReal} {k : ℕ} {m l : FVec Ideal S8x5120 .f32} {b : Fin 8} {i : Fin 5120}
    (H : Scanned c k m l b i) (hk : k + 1 < 21) (x : FVec Ideal S8x5120 .f32) (w : BitVec 32)
    (hx : x (ix2 b i) = c ⟨k + 1, hk⟩) (hw : Ideal.ofBits .f32 w = (((k + 1 : ℕ) : ℝ) : EReal)) :
    Scanned c (k + 1) (bestNow x m) (mark w x m l) b i := by
  have hs : Detect.scan c (k + 1) = if (scan c k).1 < c ⟨k + 1, hk⟩ then (c ⟨k + 1, hk⟩, k + 1) else scan c k := by
    rw [Detect.scan, dif_pos hk]
  have hb : bestNow x m (ix2 b i) = if (scan c k).1 < c ⟨k + 1, hk⟩ then c ⟨k + 1, hk⟩ else (scan c k).1 := by
    show Scalar.select (FloatOps.cmpf .ogt (x (ix2 b i)) (m (ix2 b i))) (x (ix2 b i)) (m (ix2 b i)) = _
    rw [Scalar.select, hx, H.best]
    exact if_congr (ogt_one _ _) rfl rfl
  have hl : mark w x m l (ix2 b i) = if (scan c k).1 < c ⟨k + 1, hk⟩ then (((k + 1 : ℕ) : ℝ) : EReal) else
      (((scan c k).2 : ℝ) : EReal) := by
    show Scalar.select (FloatOps.cmpf .ogt (x (ix2 b i)) (m (ix2 b i))) (Ideal.ofBits .f32 w) (l (ix2 b i)) = _
    rw [Scalar.select, hx, H.best, hw, H.label]
    exact if_congr (ogt_one _ _) rfl rfl
  constructor
  · rw [hb, hs]; split <;> rfl
  · rw [hl, hs]; split <;> rfl

theorem number_1 : Ideal.ofBits .f32 0x3F800000#32 = (((1 : ℕ) : ℝ) : EReal) := by
  simp [Ideal.ofBits, Ideal.ieee, -EReal.coe_mul]; try norm_num
theorem number_2 : Ideal.ofBits .f32 0x40000000#32 = (((2 : ℕ) : ℝ) : EReal) := by
  simp [Ideal.ofBits, Ideal.ieee, -EReal.coe_mul]; try norm_num
theorem number_3 : Ideal.ofBits .f32 0x40400000#32 = (((3 : ℕ) : ℝ) : EReal) := by
  simp [Ideal.ofBits, Ideal.ieee, -EReal.coe_mul]; try norm_num
theorem number_4 : Ideal.ofBits .f32 0x40800000#32 = (((4 : ℕ) : ℝ) : EReal) := by
  simp [Ideal.ofBits, Ideal.ieee, -EReal.coe_mul]; try norm_num
theorem number_5 : Ideal.ofBits .f32 0x40A00000#32 = (((5 : ℕ) : ℝ) : EReal) := by
  simp [Ideal.ofBits, Ideal.ieee, -EReal.coe_mul]; try norm_num
theorem number_6 : Ideal.ofBits .f32 0x40C00000#32 = (((6 : ℕ) : ℝ) : EReal) := by
  simp [Ideal.ofBits, Ideal.ieee, -EReal.coe_mul]; try norm_num
theorem number_7 : Ideal.ofBits .f32 0x40E00000#32 = (((7 : ℕ) : ℝ) : EReal) := by
  simp [Ideal.ofBits, Ideal.ieee, -EReal.coe_mul]; try norm_num
theorem number_8 : Ideal.ofBits .f32 0x41000000#32 = (((8 : ℕ) : ℝ) : EReal) := by
  simp [Ideal.ofBits, Ideal.ieee, -EReal.coe_mul]; try norm_num
theorem number_9 : Ideal.ofBits .f32 0x41100000#32 = (((9 : ℕ) : ℝ) : EReal) := by
  simp [Ideal.ofBits, Ideal.ieee, -EReal.coe_mul]; try norm_num
theorem number_10 : Ideal.ofBits .f32 0x41200000#32 = (((10 : ℕ) : ℝ) : EReal) := by
  simp [Ideal.ofBits, Ideal.ieee, -EReal.coe_mul]; try norm_num
theorem number_11 : Ideal.ofBits .f32 0x41300000#32 = (((11 : ℕ) : ℝ) : EReal) := by
  simp [Ideal.ofBits, Ideal.ieee, -EReal.coe_mul]; try norm_num
theorem number_12 : Ideal.ofBits .f32 0x41400000#32 = (((12 : ℕ) : ℝ) : EReal) := by
  simp [Ideal.ofBits, Ideal.ieee, -EReal.coe_mul]; try norm_num
theorem number_13 : Ideal.ofBits .f32 0x41500000#32 = (((13 : ℕ) : ℝ) : EReal) := by
  simp [Ideal.ofBits, Ideal.ieee, -EReal.coe_mul]; try norm_num
theorem number_14 : Ideal.ofBits .f32 0x41600000#32 = (((14 : ℕ) : ℝ) : EReal) := by
  simp [Ideal.ofBits, Ideal.ieee, -EReal.coe_mul]; try norm_num
theorem number_15 : Ideal.ofBits .f32 0x41700000#32 = (((15 : ℕ) : ℝ) : EReal) := by
  simp [Ideal.ofBits, Ideal.ieee, -EReal.coe_mul]; try norm_num
theorem number_16 : Ideal.ofBits .f32 0x41800000#32 = (((16 : ℕ) : ℝ) : EReal) := by
  simp [Ideal.ofBits, Ideal.ieee, -EReal.coe_mul]; try norm_num
theorem number_17 : Ideal.ofBits .f32 0x41880000#32 = (((17 : ℕ) : ℝ) : EReal) := by
  simp [Ideal.ofBits, Ideal.ieee, -EReal.coe_mul]; try norm_num
theorem number_18 : Ideal.ofBits .f32 0x41900000#32 = (((18 : ℕ) : ℝ) : EReal) := by
  simp [Ideal.ofBits, Ideal.ieee, -EReal.coe_mul]; try norm_num
theorem number_19 : Ideal.ofBits .f32 0x41980000#32 = (((19 : ℕ) : ℝ) : EReal) := by
  simp [Ideal.ofBits, Ideal.ieee, -EReal.coe_mul]; try norm_num
theorem number_20 : Ideal.ofBits .f32 0x41A00000#32 = (((20 : ℕ) : ℝ) : EReal) := by
  simp [Ideal.ofBits, Ideal.ieee, -EReal.coe_mul]; try norm_num

theorem cls4_at : cls4 x0 (ix2 b i) = classOf (boxP x0 b i) 0 := by
  pointwise []
  try rfl
theorem cls5_at : cls5 x0 (ix2 b i) = classOf (boxP x0 b i) 1 := by
  pointwise []
  try rfl
theorem cls6_at : cls6 x0 (ix2 b i) = classOf (boxP x0 b i) 2 := by
  pointwise []
  try rfl
theorem cls7_at : cls7 x0 (ix2 b i) = classOf (boxP x0 b i) 3 := by
  pointwise []
  try rfl
theorem cls8_at : cls8 x0 (ix2 b i) = classOf (boxP x0 b i) 4 := by
  pointwise []
  try rfl
theorem cls9_at : cls9 x0 (ix2 b i) = classOf (boxP x0 b i) 5 := by
  pointwise []
  try rfl
theorem cls10_at : cls10 x0 (ix2 b i) = classOf (boxP x0 b i) 6 := by
  pointwise []
  try rfl
theorem cls11_at : cls11 x0 (ix2 b i) = classOf (boxP x0 b i) 7 := by
  pointwise []
  try rfl
theorem cls12_at : cls12 x0 (ix2 b i) = classOf (boxP x0 b i) 8 := by
  pointwise []
  try rfl
theorem cls13_at : cls13 x0 (ix2 b i) = classOf (boxP x0 b i) 9 := by
  pointwise []
  try rfl
theorem cls14_at : cls14 x0 (ix2 b i) = classOf (boxP x0 b i) 10 := by
  pointwise []
  try rfl
theorem cls15_at : cls15 x0 (ix2 b i) = classOf (boxP x0 b i) 11 := by
  pointwise []
  try rfl
theorem cls16_at : cls16 x0 (ix2 b i) = classOf (boxP x0 b i) 12 := by
  pointwise []
  try rfl
theorem cls17_at : cls17 x0 (ix2 b i) = classOf (boxP x0 b i) 13 := by
  pointwise []
  try rfl
theorem cls18_at : cls18 x0 (ix2 b i) = classOf (boxP x0 b i) 14 := by
  pointwise []
  try rfl
theorem cls19_at : cls19 x0 (ix2 b i) = classOf (boxP x0 b i) 15 := by
  pointwise []
  try rfl
theorem cls20_at : cls20 x0 (ix2 b i) = classOf (boxP x0 b i) 16 := by
  pointwise []
  try rfl
theorem cls21_at : cls21 x0 (ix2 b i) = classOf (boxP x0 b i) 17 := by
  pointwise []
  try rfl
theorem cls22_at : cls22 x0 (ix2 b i) = classOf (boxP x0 b i) 18 := by
  pointwise []
  try rfl
theorem cls23_at : cls23 x0 (ix2 b i) = classOf (boxP x0 b i) 19 := by
  pointwise []
  try rfl
theorem cls24_at : cls24 x0 (ix2 b i) = classOf (boxP x0 b i) 20 := by
  pointwise []
  try rfl

theorem scanned_3 : Scanned (classOf (boxP x0 b i)) 3 (at_v68 x0 x1) (at_v70 x0 x1) b i := by
  rw [at_v68_eq, at_v70_eq]
  have h0 : Scanned (classOf (boxP x0 b i)) 0 (cls4 x0) (broadcast S8x5120 (Scalar.ofBits .f32 0x00000000#32)) b i := by
    refine ⟨cls4_at x0 b i, ?_⟩
    show Ideal.ofBits .f32 0x00000000#32 = _
    rw [Ideal.ofBits_zero_f32]
    simp [Detect.scan]
  exact (((h0.step (by omega) _ _ (cls5_at x0 b i) number_1).step (by omega) _ _ (cls6_at x0 b i) number_2).step (by omega) _ _ (cls7_at x0 b i) number_3)

theorem scanned_9 : Scanned (classOf (boxP x0 b i)) 9 (at_v104 x0 x1) (at_v106 x0 x1) b i := by
  rw [at_v104_eq, at_v106_eq]
  exact (((((((scanned_3 x0 x1 b i).step (by omega) _ _ (cls8_at x0 b i) number_4).step (by omega) _ _ (cls9_at x0 b i) number_5).step (by omega) _ _ (cls10_at x0 b i) number_6).step (by omega) _ _ (cls11_at x0 b i) number_7).step (by omega) _ _ (cls12_at x0 b i) number_8).step (by omega) _ _ (cls13_at x0 b i) number_9)

theorem scanned_15 : Scanned (classOf (boxP x0 b i)) 15 (at_v140 x0 x1) (at_v142 x0 x1) b i := by
  rw [at_v140_eq, at_v142_eq]
  exact (((((((scanned_9 x0 x1 b i).step (by omega) _ _ (cls14_at x0 b i) number_10).step (by omega) _ _ (cls15_at x0 b i) number_11).step (by omega) _ _ (cls16_at x0 b i) number_12).step (by omega) _ _ (cls17_at x0 b i) number_13).step (by omega) _ _ (cls18_at x0 b i) number_14).step (by omega) _ _ (cls19_at x0 b i) number_15)

theorem scanned_20 : Scanned (classOf (boxP x0 b i)) 20 (bestNow (cls24 x0) (bestNow (cls23 x0) (bestNow (cls22 x0) (bestNow (cls21 x0) (bestNow (cls20 x0) (at_v140 x0 x1)))))) (at_label x0 x1) b i := by
  rw [at_label_eq]
  exact ((((((scanned_15 x0 x1 b i).step (by omega) _ _ (cls20_at x0 b i) number_16).step (by omega) _ _ (cls21_at x0 b i) number_17).step (by omega) _ _ (cls22_at x0 b i) number_18).step (by omega) _ _ (cls23_at x0 b i) number_19).step (by omega) _ _ (cls24_at x0 b i) number_20)

theorem at_label_at : at_label (F := Ideal) x0 x1 (ix2 b i) = labelOf (boxP x0 b i) := (scanned_20 x0 x1 b i).label

theorem at_score_at : at_score (F := Ideal) x0 x1 (ix2 b i) = maskOf (boxP x0 b i) := by
  rw [at_score_eq]
  have h := (scanned_20 x0 x1 b i).best
  generalize (bestNow (cls24 x0) (bestNow (cls23 x0) (bestNow (cls22 x0) (bestNow (cls21 x0) (bestNow (cls20 x0) (at_v140 x0 x1)))))) = m at h
  show Scalar.select (FloatOps.cmpf .ogt (m (ix2 b i)) half) (m (ix2 b i)) lowest = _
  rw [Scalar.select, h, maskOf]
  exact if_congr (ogt_one _ _) rfl rfl

end Cert.KernelIdeal.Gen
-- ==== Proof.Packing.lean ====
/- The moves to the left by powers of two, in a row of `N` places: what is marked comes to the head in its order. -/
module

public import proofs.«01_k».proof.Proof.Sets

@[expose] public section

namespace Cert.Detect

variable {N : ℕ}

/-- A row during the moves: at each place the lane it came from, and how far that lane has still to go. -/
structure Row (N : ℕ) where
  src : Fin N → Fin N
  left : Fin N → ℕ

/-- The place `w` to the right, around the end. -/
def turn (w : ℕ) (q : Fin N) : Fin N := ⟨(q.val + w) % N, Nat.mod_lt _ (lt_of_le_of_lt (Nat.zero_le _) q.isLt)⟩

/-- The moves by the bit `n`. -/
def Row.move (n : ℕ) (r : Row N) : Row N where
  src q := if r.left (turn (2 ^ n) q) / 2 ^ n % 2 = 1 then r.src (turn (2 ^ n) q) else r.src q
  left q := if r.left (turn (2 ^ n) q) / 2 ^ n % 2 = 1 then r.left (turn (2 ^ n) q) - 2 ^ n else r.left q

/-- The moves by the bits below `n`. -/
def Row.moves (r : Row N) : ℕ → Row N
  | 0 => r
  | n + 1 => (r.moves n).move n

variable (S : Fin N → Prop) [DecidablePred S]

/-- How far a lane has to go. -/
def dist (i : Fin N) : ℕ := i.val - before S i.val

/-- The row at the start. -/
def start : Row N := ⟨id, dist S⟩

theorem dist_le (i : Fin N) : dist S i ≤ i.val := Nat.sub_le _ _

theorem dist_lt (i j : Fin N) (h : i.val ≤ j.val) : dist S i ≤ dist S j ∧ dist S j - dist S i ≤ j.val - i.val := by
  have h1 := before_le S i.val i.isLt.le
  have h2 := before_le S j.val j.isLt.le
  have h3 := before_step S i.val j.val h j.isLt.le
  have h4 := before_mono S i.val j.val h
  unfold dist; omega

theorem dist_gap (i j : Fin N) (hi : S i) (h : i.val < j.val) : dist S j - dist S i + 1 ≤ j.val - i.val := by
  have h1 := before_le S i.val i.isLt.le
  have h2 := before_le S j.val j.isLt.le
  have h3 := before_lt S i j.val hi h
  unfold dist; omega

/-- What holds after the bits below `n`. -/
structure Moved (n : ℕ) (r : Row N) : Prop where
  /-- every place holds a lane that has gone some of its way, all of it below the bit `n` -/
  some : ∀ q : Fin N, ∃ m, q.val + m = (r.src q).val ∧ m ≤ dist S (r.src q) % 2 ^ n ∧ r.left q = dist S (r.src q) - m
  /-- a marked lane is where it should be -/
  marked : ∀ (j q : Fin N), S j → q.val + dist S j % 2 ^ n = j.val → r.src q = j ∧ r.left q = dist S j - dist S j % 2 ^ n

theorem moved_start : Moved S 0 (start S) where
  some q := ⟨0, by simp [start], by simp, by simp [start]⟩
  marked j q hj h := by
    have : q = j := Fin.ext (by simpa [Nat.mod_one] using h)
    subst this; simp [start, Nat.mod_one]

/-- Taking away less than the low part leaves the bit. -/
theorem bit_of_left (d m n : ℕ) (h : m ≤ d % 2 ^ n) : (d - m) / 2 ^ n = d / 2 ^ n := by
  have hp : 0 < 2 ^ n := by positivity
  have h1 := Nat.div_add_mod d (2 ^ n)
  have h2 := Nat.mod_lt d hp
  refine Nat.div_eq_of_lt_le ?_ ?_
  · rw [mul_comm]; omega
  · rw [add_mul, mul_comm, one_mul]; omega

theorem low_succ (d n : ℕ) : d % 2 ^ (n + 1) = d % 2 ^ n + 2 ^ n * (d / 2 ^ n % 2) := by
  rw [pow_succ, Nat.mod_mul]

theorem moved_step (n : ℕ) (r : Row N) (h : Moved S n r) : Moved S (n + 1) (r.move n) := by
  have hp : 0 < 2 ^ n := by positivity
  -- a place whose right neighbour at `2 ^ n` moves has that neighbour without going around
  have key : ∀ q : Fin N, r.left (turn (2 ^ n) q) / 2 ^ n % 2 = 1 → (turn (2 ^ n) q).val = q.val + 2 ^ n := by
    intro q hb
    obtain ⟨m, h1, h2, h3⟩ := h.some (turn (2 ^ n) q)
    rw [h3, bit_of_left _ _ _ h2] at hb
    have h4 := low_succ (dist S (r.src (turn (2 ^ n) q))) n
    rw [hb] at h4
    have h5 := Nat.mod_le (dist S (r.src (turn (2 ^ n) q))) (2 ^ (n + 1))
    have h6 := dist_le S (r.src (turn (2 ^ n) q))
    have h7 : 2 ^ n ≤ (turn (2 ^ n) q).val := by omega
    have hq := q.isLt
    have hv : (turn (2 ^ n) q).val = (q.val + 2 ^ n) % N := rfl
    by_contra hne
    have hge : N ≤ q.val + 2 ^ n := by
      by_contra hlt
      exact hne (by rw [hv, Nat.mod_eq_of_lt (by omega)])
    have ht := (turn (2 ^ n) q).isLt
    have hle : 2 ^ n ≤ N := by omega
    have : (q.val + 2 ^ n) % N = q.val + 2 ^ n - N := by
      rw [Nat.mod_eq_sub_mod hge, Nat.mod_eq_of_lt (by omega)]
    omega
  refine ⟨fun q => ?_, fun j q hj hq => ?_⟩
  · by_cases hb : r.left (turn (2 ^ n) q) / 2 ^ n % 2 = 1
    · have hk := key q hb
      obtain ⟨m, h1, h2, h3⟩ := h.some (turn (2 ^ n) q)
      have hb' := hb
      rw [h3, bit_of_left _ _ _ h2] at hb'
      have h4 := low_succ (dist S (r.src (turn (2 ^ n) q))) n
      rw [hb'] at h4
      refine ⟨m + 2 ^ n, ?_, ?_, ?_⟩
      · simp only [Row.move, if_pos hb]; omega
      · simp only [Row.move, if_pos hb]; omega
      · simp only [Row.move, if_pos hb]; omega
    · obtain ⟨m, h1, h2, h3⟩ := h.some q
      have h4 := low_succ (dist S (r.src q)) n
      refine ⟨m, ?_, ?_, ?_⟩
      · simp only [Row.move, if_neg hb]; exact h1
      · simp only [Row.move, if_neg hb]; omega
      · simp only [Row.move, if_neg hb]; exact h3
  · have h4 := low_succ (dist S j) n
    by_cases hbj : dist S j / 2 ^ n % 2 = 1
    · -- it moves
      rw [hbj] at h4
      have hlt : q.val + 2 ^ n < N := by have := j.isLt; omega
      have ht : (turn (2 ^ n) q).val = q.val + 2 ^ n := Nat.mod_eq_of_lt hlt
      obtain ⟨e1, e2⟩ := h.marked j (turn (2 ^ n) q) hj (by rw [ht]; omega)
      have hb : r.left (turn (2 ^ n) q) / 2 ^ n % 2 = 1 := by
        rw [e2, bit_of_left _ _ _ le_rfl]; exact hbj
      simp only [Row.move, if_pos hb]
      exact ⟨e1, by omega⟩
    · -- it stays, and nothing moves onto it
      have hz : dist S j / 2 ^ n % 2 = 0 := by omega
      rw [hz] at h4
      obtain ⟨e1, e2⟩ := h.marked j q hj (by omega)
      have hb : ¬ r.left (turn (2 ^ n) q) / 2 ^ n % 2 = 1 := by
        intro hb
        have hk := key q hb
        obtain ⟨m, h1, h2, h3⟩ := h.some (turn (2 ^ n) q)
        rw [h3, bit_of_left _ _ _ h2] at hb
        generalize r.src (turn (2 ^ n) q) = e at *
        have h5 := low_succ (dist S e) n
        rw [hb] at h5
        have d1 := Nat.div_add_mod (dist S e) (2 ^ (n + 1))
        have d2 := Nat.div_add_mod (dist S j) (2 ^ (n + 1))
        have l1 := Nat.mod_lt (dist S e) hp
        have l2 := Nat.mod_lt (dist S j) hp
        have pe : (2 : ℕ) ^ (n + 1) = 2 ^ n + 2 ^ n := by rw [pow_succ]; ring
        generalize dist S e / 2 ^ (n + 1) = A at *
        generalize dist S j / 2 ^ (n + 1) = B at *
        rcases lt_trichotomy e.val j.val with hlt | heq | hgt
        · obtain ⟨g1, g2⟩ := dist_lt S e j hlt.le
          rcases lt_or_ge A B with hAB | hAB
          · have := Nat.mul_le_mul_left (2 ^ (n + 1)) hAB
            rw [Nat.mul_succ] at this
            omega
          · have := Nat.mul_le_mul_left (2 ^ (n + 1)) hAB
            omega
        · have : e = j := Fin.ext heq
          subst this; omega
        · have g := dist_gap S j e hj hgt
          have g' := (dist_lt S j e hgt.le).1
          rcases lt_or_ge A B with hAB | hAB
          · have := Nat.mul_le_mul_left (2 ^ (n + 1)) hAB
            rw [Nat.mul_succ] at this
            omega
          · have := Nat.mul_le_mul_left (2 ^ (n + 1)) hAB
            omega
      simp only [Row.move, if_neg hb]
      exact ⟨e1, by omega⟩

theorem moved_all : ∀ n, Moved S n ((start S).moves n)
  | 0 => moved_start S
  | n + 1 => moved_step S n _ (moved_all n)

/-- After all bits the marked lanes are at the head, in their order. -/
theorem packed_src (n : ℕ) (hn : N ≤ 2 ^ n) (j : Fin N) (hj : S j) (q : Fin N) (hq : q.val = before S j.val) :
    ((start S).moves n).src q = j := by
  have h1 := dist_le S j
  have h2 : dist S j % 2 ^ n = dist S j := Nat.mod_eq_of_lt (by have := j.isLt; omega)
  refine ((moved_all S n).marked j q hj ?_).1
  rw [h2, hq]
  have := before_le S j.val j.isLt.le
  unfold dist; omega

end Cert.Detect
-- ==== Proof.Pack.lean ====
/- The running count of marks, and what the moves to the left leave in the first slots. -/
module

public import proofs.«01_k».proof.Proof.Picked
public import proofs.«01_k».proof.Proof.Packing
public import Idealize.ShloMosaic.Lib.Pipeline.Value

@[expose] public section

noncomputable section

namespace Cert.Detect

open Cert.KernelIdeal Cert.KernelIdeal.Facts₀ Cert.KernelIdeal.Facts
open Idealize.ShloMosaic

/-! ## The running count -/

theorem pushed_at (w v : ℕ) (hwv : w + v = 5120) (ha : Shape.Concatenates [⟨2, ![8, w]⟩, ⟨2, ![8, v]⟩] S8x5120 1)
    (hb : S8x5120.Slices ![0, 0] ⟨2, ![8, v]⟩) (x : IVec S8x5120 32) (b : Fin 8) (i : Fin 5120) :
    pushed ⟨2, ![8, w]⟩ ⟨2, ![8, v]⟩ ha hb x (ix2 b i)
      = x (ix2 b i) + if h : w ≤ i.val then x (ix2 b ⟨i.val - w, by omega⟩) else 0#32 := by
  refine congrArg (fun z => x (ix2 b i) + z) ?_
  by_cases h : w ≤ i.val
  · rw [dif_pos h]
    refine (concatenate_pair_apply_right (t := S8x5120) (s₁ := ⟨2, ![8, w]⟩) (s₂ := ⟨2, ![8, v]⟩) 1 _ _ ha (ix2 b i) rfl rfl
      (ix2 b ⟨i.val - w, by omega⟩) ?_ ?_).trans ?_
    · intro c hc
      match c with
      | 0 => rfl
      | 1 => exact absurd rfl hc
    · show (i.val - w) + w = i.val; omega
    · refine extractStridedSlice_apply _ _ _ _ _ fun c => ?_
      match c with
      | 0 => show b.val = 0 + b.val; omega
      | 1 => show i.val - w = 0 + (i.val - w); omega
  · rw [dif_neg h]
    exact concatenate_pair_apply_left (t := S8x5120) (s₁ := ⟨2, ![8, w]⟩) (s₂ := ⟨2, ![8, v]⟩) 1 _ _ ha (ix2 b i) rfl
      (ix2 b ⟨i.val, by omega⟩) fun c => by
        match c with
        | 0 => rfl
        | 1 => rfl

section

variable (S : Fin 5120 → Prop) [DecidablePred S]

/-- The marks among the `2 ^ n` lanes up to `i`. -/
def window (n : ℕ) (i : ℕ) : ℕ := before S (i + 1) - before S (i + 1 - 2 ^ n)

theorem window_step (b : Fin 8) (n w v : ℕ) (hw : w = 2 ^ n) (hwv : w + v = 5120)
    (ha : Shape.Concatenates [⟨2, ![8, w]⟩, ⟨2, ![8, v]⟩] S8x5120 1)
    (hb : S8x5120.Slices ![0, 0] ⟨2, ![8, v]⟩) (x : IVec S8x5120 32)
    (hx : ∀ i : Fin 5120, x (ix2 b i) = BitVec.ofNat 32 (window S n i.val)) (i : Fin 5120) :
    pushed ⟨2, ![8, w]⟩ ⟨2, ![8, v]⟩ ha hb x (ix2 b i) = BitVec.ofNat 32 (window S (n + 1) i.val) := by
  rw [pushed_at w v hwv ha hb x b i, hx]
  have hp : (2 : ℕ) ^ (n + 1) = 2 ^ n + 2 ^ n := by rw [pow_succ]; omega
  by_cases h : w ≤ i.val
  · rw [dif_pos h, hx, ← BitVec.ofNat_add]
    refine congrArg (BitVec.ofNat 32) ?_
    unfold window
    have e1 : i.val - w + 1 = i.val + 1 - 2 ^ n := by omega
    have e2 : i.val + 1 - 2 ^ n - 2 ^ n = i.val + 1 - 2 ^ (n + 1) := by omega
    have m1 := before_mono S (i.val + 1 - 2 ^ n) (i.val + 1) (by omega)
    have m2 := before_mono S (i.val + 1 - 2 ^ (n + 1)) (i.val + 1 - 2 ^ n) (by omega)
    show _ + (before S (i.val - w + 1) - before S (i.val - w + 1 - 2 ^ n)) = _
    rw [e1, e2]
    omega
  · rw [dif_neg h, BitVec.add_zero]
    refine congrArg (BitVec.ofNat 32) ?_
    unfold window
    rw [show i.val + 1 - 2 ^ n = 0 by omega, show i.val + 1 - 2 ^ (n + 1) = 0 by omega]

end

section

variable (c : IVec S8x5120 1) (b : Fin 8)

/-- The marked lanes of an image. -/
abbrev marked (i : Fin 5120) : Prop := c (ix2 b i) = 1#1

theorem mark_word (i : Fin 5120) :
    (extui 32 c natLt_1_32 : IVec S8x5120 32) (ix2 b i) = BitVec.ofNat 32 (if marked c b i then 1 else 0) := by
  show (c (ix2 b i)).setWidth 32 = _
  unfold marked
  generalize c (ix2 b i) = z
  revert z; decide

theorem runCount_at (i : Fin 5120) :
    runCount (extui 32 c natLt_1_32) (ix2 b i) = BitVec.ofNat 32 (before (marked c b) (i.val + 1)) := by
  have h0 : ∀ i : Fin 5120, (extui 32 c natLt_1_32 : IVec S8x5120 32) (ix2 b i) = BitVec.ofNat 32 (window (marked c b) 0 i.val) := by
    intro i
    rw [mark_word]
    refine congrArg (BitVec.ofNat 32) ?_
    unfold window
    rw [pow_zero, Nat.add_sub_cancel, before_succ]
    omega
  have h1 := window_step (marked c b) b 0 1 5119 rfl rfl concatenates_S8x1_S8x5119_S8x5120_d1 slices_S8x5120_o0_0_S8x5119 _ h0
  have h2 := window_step (marked c b) b 1 2 5118 rfl rfl concatenates_S8x2_S8x5118_S8x5120_d1 slices_S8x5120_o0_0_S8x5118 _ h1
  have h3 := window_step (marked c b) b 2 4 5116 rfl rfl concatenates_S8x4_S8x5116_S8x5120_d1 slices_S8x5120_o0_0_S8x5116 _ h2
  have h4 := window_step (marked c b) b 3 8 5112 rfl rfl concatenates_S8x8_S8x5112_S8x5120_d1 slices_S8x5120_o0_0_S8x5112 _ h3
  have h5 := window_step (marked c b) b 4 16 5104 rfl rfl concatenates_S8x16_S8x5104_S8x5120_d1 slices_S8x5120_o0_0_S8x5104 _ h4
  have h6 := window_step (marked c b) b 5 32 5088 rfl rfl concatenates_S8x32_S8x5088_S8x5120_d1 slices_S8x5120_o0_0_S8x5088 _ h5
  have h7 := window_step (marked c b) b 6 64 5056 rfl rfl concatenates_S8x64_S8x5056_S8x5120_d1 slices_S8x5120_o0_0_S8x5056 _ h6
  have h8 := window_step (marked c b) b 7 128 4992 rfl rfl concatenates_S8x128_S8x4992_S8x5120_d1 slices_S8x5120_o0_0_S8x4992 _ h7
  have h9 := window_step (marked c b) b 8 256 4864 rfl rfl concatenates_S8x256_S8x4864_S8x5120_d1 slices_S8x5120_o0_0_S8x4864 _ h8
  have h10 := window_step (marked c b) b 9 512 4608 rfl rfl concatenates_S8x512_S8x4608_S8x5120_d1 slices_S8x5120_o0_0_S8x4608 _ h9
  have h11 := window_step (marked c b) b 10 1024 4096 rfl rfl concatenates_S8x1024_S8x4096_S8x5120_d1 slices_S8x5120_o0_0_S8x4096 _ h10
  have h12 := window_step (marked c b) b 11 2048 3072 rfl rfl concatenates_S8x2048_S8x3072_S8x5120_d1 slices_S8x5120_o0_0_S8x3072 _ h11
  have h13 := window_step (marked c b) b 12 4096 1024 rfl rfl concatenates_S8x4096_S8x1024_S8x5120_d1 slices_S8x5120_o0_0_S8x1024 _ h12
  refine (h13 i).trans ?_
  refine congrArg (BitVec.ofNat 32) ?_
  unfold window
  have hi := i.isLt
  rw [show i.val + 1 - 2 ^ (12 + 1) = 0 by norm_num; omega, before_zero, Nat.sub_zero]

theorem shift_at (i : Fin 5120) : shift c (ix2 b i) = BitVec.ofNat 32 (dist (marked c b) i) := by
  have hi := i.isLt
  have h1 := before_le (marked c b) i.val hi.le
  have hs := before_succ (marked c b) i
  have hm : (if marked c b i then 1 else 0) ≤ 1 := by split <;> omega
  have e1 := lanes_at b i
  have e2 := runCount_at c b i
  have e3 := mark_word c b i
  show lanes (ix2 b i) - (runCount (extui 32 c natLt_1_32) (ix2 b i) - (extui 32 c natLt_1_32 : IVec S8x5120 32) (ix2 b i)) = _
  rw [e1, e2, e3, hs]
  generalize (if marked c b i then 1 else 0) = z at hm
  unfold dist
  rw [BitVec.ofNat_add, BitVec.add_sub_cancel]
  apply BitVec.eq_of_toNat_eq
  have t1 : (BitVec.ofNat 32 i.val).toNat = i.val := toNat_small _ (by omega)
  have t2 : (BitVec.ofNat 32 (before (marked c b) i.val)).toNat = before (marked c b) i.val := toNat_small _ (by omega)
  have t3 : (BitVec.ofNat 32 (i.val - before (marked c b) i.val)).toNat = i.val - before (marked c b) i.val := toNat_small _ (by omega)
  rw [BitVec.toNat_sub_of_le (by rw [BitVec.le_def, t1, t2]; exact h1), t1, t2, t3]

end

/-! ## The moves -/

theorem turned_at {α : Type} (w v : ℕ) (hwv : v + w = 5120) (ha : S8x5120.Slices ![0, w] ⟨2, ![8, v]⟩)
    (hb : S8x5120.Slices ![0, 0] ⟨2, ![8, w]⟩) (hc : Shape.Concatenates [⟨2, ![8, v]⟩, ⟨2, ![8, w]⟩] S8x5120 1)
    (x : S8x5120.Idx → α) (b : Fin 8) (q : Fin 5120) :
    turned w ⟨2, ![8, v]⟩ ⟨2, ![8, w]⟩ ha hb hc x (ix2 b q) = x (ix2 b (turn w q)) := by
  by_cases h : q.val < v
  · refine (concatenate_pair_apply_left (t := S8x5120) (s₁ := ⟨2, ![8, v]⟩) (s₂ := ⟨2, ![8, w]⟩) 1 _ _ hc (ix2 b q) rfl
      (ix2 b ⟨q.val, h⟩) fun c => ?_).trans ?_
    · match c with
      | 0 => rfl
      | 1 => rfl
    · refine extractStridedSlice_apply _ _ _ _ _ fun c => ?_
      match c with
      | 0 => show b.val = 0 + b.val; omega
      | 1 => show (q.val + w) % 5120 = w + q.val; rw [Nat.mod_eq_of_lt (by omega)]; omega
  · have hq := q.isLt
    refine (concatenate_pair_apply_right (t := S8x5120) (s₁ := ⟨2, ![8, v]⟩) (s₂ := ⟨2, ![8, w]⟩) 1 _ _ hc (ix2 b q) rfl rfl
      (ix2 b ⟨q.val - v, by omega⟩) ?_ ?_).trans ?_
    · intro c hc
      match c with
      | 0 => rfl
      | 1 => exact absurd rfl hc
    · show (q.val - v) + v = q.val; omega
    · refine extractStridedSlice_apply _ _ _ _ _ fun c => ?_
      match c with
      | 0 => show b.val = 0 + b.val; omega
      | 1 => show (q.val + w) % 5120 = 0 + (q.val - v); omega

theorem bit_word (d : BitVec 32) (n : ℕ) (hn : n < 32) (hd : d.toNat < 2 ^ 31) :
    IntOp.cmpi .eq (IntOp.andi (IntOp.shrsi .vector d (BitVec.ofNat 32 n)) 1#32) 1#32 = 1#1 ↔ d.toNat / 2 ^ n % 2 = 1 := by
  rw [eq_one32]
  have hmsb : d.msb = false := by rw [BitVec.msb_eq_false_iff_two_mul_lt]; omega
  have e : IntOp.shrsi .vector d (BitVec.ofNat 32 n) = d >>> n := by
    have hnn : (BitVec.ofNat 32 n).toNat = n := toNat_small n (by omega)
    unfold IntOp.shrsi
    rw [if_pos (by rw [hnn]; exact hn)]
    show d.sshiftRight (BitVec.ofNat 32 n).toNat = _
    rw [hnn, BitVec.sshiftRight_eq_of_msb_false hmsb]
  rw [e]
  show d >>> n &&& 1#32 = 1#32 ↔ _
  rw [← BitVec.toNat_inj, BitVec.toNat_and, BitVec.toNat_ushiftRight, Nat.shiftRight_eq_div_pow]
  show _ &&& 1 = 1 ↔ _
  rw [Nat.and_one_is_mod]

/-- An image's lanes during the moves. -/
structure Follows (b : Fin 8) (a0 a : Lot Ideal) (r : Row 5120) : Prop where
  s : ∀ q, a.s (ix2 b q) = a0.s (ix2 b (r.src q))
  n : ∀ q, a.n (ix2 b q) = a0.n (ix2 b (r.src q))
  x1 : ∀ q, a.x1 (ix2 b q) = a0.x1 (ix2 b (r.src q))
  y1 : ∀ q, a.y1 (ix2 b q) = a0.y1 (ix2 b (r.src q))
  x2 : ∀ q, a.x2 (ix2 b q) = a0.x2 (ix2 b (r.src q))
  y2 : ∀ q, a.y2 (ix2 b q) = a0.y2 (ix2 b (r.src q))
  l : ∀ q, a.l (ix2 b q) = a0.l (ix2 b (r.src q))
  d : ∀ q, (a.d (ix2 b q)).toNat = r.left q
  small : ∀ q, r.left q < 2 ^ 31

theorem follows_step (b : Fin 8) (a0 a : Lot Ideal) (r : Row 5120) (n w : ℕ) (hn : n < 31) (hw : w = 2 ^ n)
    (rot : {α : Type} → (S8x5120.Idx → α) → S8x5120.Idx → α)
    (hrot : ∀ {α : Type} (x : S8x5120.Idx → α) (q : Fin 5120), rot x (ix2 b q) = x (ix2 b (turn w q)))
    (h : Follows b a0 a r) : Follows b a0 (moveStep rot (BitVec.ofNat 32 n) (BitVec.ofNat 32 w) a) (r.move n) := by
  have hm : ∀ q, moves rot (BitVec.ofNat 32 n) a.d (ix2 b q) = 1#1 ↔ r.left (turn (2 ^ n) q) / 2 ^ n % 2 = 1 := by
    intro q
    rw [show turn (2 ^ n) q = turn w q by rw [hw], ← h.d]
    refine Iff.trans ?_ (bit_word (a.d (ix2 b (turn w q))) n (by omega) (by rw [h.d]; exact h.small _))
    show IntOp.cmpi .eq (IntOp.andi (IntOp.shrsi .vector (rot a.d (ix2 b q)) (BitVec.ofNat 32 n)) 1#32) 1#32 = 1#1 ↔ _
    rw [hrot]
  have hsel : ∀ {α : Type} (x x0 : S8x5120.Idx → α), (∀ q, x (ix2 b q) = x0 (ix2 b (r.src q))) → ∀ q,
      select (moves rot (BitVec.ofNat 32 n) a.d) (rot x) x (ix2 b q) = x0 (ix2 b ((r.move n).src q)) := by
    intro α x x0 hx q
    rw [sel_at]
    unfold Row.move
    by_cases hb : r.left (turn (2 ^ n) q) / 2 ^ n % 2 = 1
    · rw [if_pos ((hm q).2 hb), hrot, hx, hw]
      simp only [if_pos hb]
    · rw [if_neg (fun e => hb ((hm q).1 e)), hx]
      simp only [if_neg hb]
  have hd : ∀ q, ((moveStep rot (BitVec.ofNat 32 n) (BitVec.ofNat 32 w) a).d (ix2 b q)).toNat = (r.move n).left q ∧ (r.move n).left q < 2 ^ 31 := by
    intro q
    show (select (moves rot (BitVec.ofNat 32 n) a.d) (subi (rot a.d) (broadcast S8x5120 (BitVec.ofNat 32 w))) a.d (ix2 b q)).toNat = _ ∧ _
    rw [sel_at]
    unfold Row.move
    by_cases hb : r.left (turn (2 ^ n) q) / 2 ^ n % 2 = 1
    · rw [if_pos ((hm q).2 hb)]
      simp only [if_pos hb]
      have hs := h.small (turn (2 ^ n) q)
      have hle : 2 ^ n ≤ r.left (turn (2 ^ n) q) := by
        by_contra hc
        rw [Nat.div_eq_of_lt (by omega)] at hb
        omega
      refine ⟨?_, by omega⟩
      show (rot a.d (ix2 b q) - BitVec.ofNat 32 w).toNat = _
      have hwn : (BitVec.ofNat 32 w).toNat = 2 ^ n := by rw [hw]; exact toNat_small _ (by omega)
      rw [hrot, hw] at *
      rw [BitVec.toNat_sub_of_le (by rw [BitVec.le_def, hwn, h.d]; exact hle), hwn, h.d]
    · rw [if_neg (fun e => hb ((hm q).1 e))]
      simp only [if_neg hb]
      exact ⟨h.d q, h.small q⟩
  exact ⟨hsel _ _ h.s, hsel _ _ h.n, hsel _ _ h.x1, hsel _ _ h.y1, hsel _ _ h.x2, hsel _ _ h.y2, hsel _ _ h.l,
    fun q => (hd q).1, fun q => (hd q).2⟩

theorem packed_follows (b : Fin 8) (a : Lot Ideal) (c : IVec S8x5120 1) (ha : a.d = shift c) :
    Follows b a (packed a) ((start (marked c b)).moves 13) := by
  have h0 : Follows b a a ((start (marked c b)).moves 0) := by
    have hd : ∀ q : Fin 5120, dist (marked c b) q < 2 ^ 31 := fun q => by have := dist_le (marked c b) q; have := q.isLt; omega
    refine ⟨fun _ => rfl, fun _ => rfl, fun _ => rfl, fun _ => rfl, fun _ => rfl, fun _ => rfl, fun _ => rfl, fun q => ?_, hd⟩
    rw [ha, shift_at]
    exact toNat_small _ (hd q)
  have h1 := follows_step b a _ _ 0 1 (by omega) rfl rot1 (fun x q => turned_at 1 5119 rfl _ _ _ x b q) h0
  have h2 := follows_step b a _ _ 1 2 (by omega) rfl rot2 (fun x q => turned_at 2 5118 rfl _ _ _ x b q) h1
  have h3 := follows_step b a _ _ 2 4 (by omega) rfl rot4 (fun x q => turned_at 4 5116 rfl _ _ _ x b q) h2
  have h4 := follows_step b a _ _ 3 8 (by omega) rfl rot8 (fun x q => turned_at 8 5112 rfl _ _ _ x b q) h3
  have h5 := follows_step b a _ _ 4 16 (by omega) rfl rot16 (fun x q => turned_at 16 5104 rfl _ _ _ x b q) h4
  have h6 := follows_step b a _ _ 5 32 (by omega) rfl rot32 (fun x q => turned_at 32 5088 rfl _ _ _ x b q) h5
  have h7 := follows_step b a _ _ 6 64 (by omega) rfl rot64 (fun x q => turned_at 64 5056 rfl _ _ _ x b q) h6
  have h8 := follows_step b a _ _ 7 128 (by omega) rfl rot128 (fun x q => turned_at 128 4992 rfl _ _ _ x b q) h7
  have h9 := follows_step b a _ _ 8 256 (by omega) rfl rot256 (fun x q => turned_at 256 4864 rfl _ _ _ x b q) h8
  have h10 := follows_step b a _ _ 9 512 (by omega) rfl rot512 (fun x q => turned_at 512 4608 rfl _ _ _ x b q) h9
  have h11 := follows_step b a _ _ 10 1024 (by omega) rfl rot1024 (fun x q => turned_at 1024 4096 rfl _ _ _ x b q) h10
  have h12 := follows_step b a _ _ 11 2048 (by omega) rfl rot2048 (fun x q => turned_at 2048 3072 rfl _ _ _ x b q) h11
  exact follows_step b a _ _ 12 4096 (by omega) rfl rot4096 (fun x q => turned_at 4096 1024 rfl _ _ _ x b q) h12

/-- The lane that comes to slot `p` of an image. -/
def laneOf (c : IVec S8x5120 1) (b : Fin 8) (p : Fin 400) : Fin 5120 := ((start (marked c b)).moves 13).src ⟨p.val, by omega⟩

theorem laneOf_eq (c : IVec S8x5120 1) (b : Fin 8) (p : Fin 400) (j : Fin 5120) (hj : marked c b j)
    (hp : p.val = before (marked c b) j.val) : laneOf c b p = j :=
  packed_src (marked c b) 13 (by norm_num) j hj ⟨p.val, by omega⟩ hp

/-- The slots hold the marked lanes in their order. -/
theorem laneOf_spec (c : IVec S8x5120 1) (b : Fin 8) (hc : count (marked c b) = 400) (p : Fin 400) :
    marked c b (laneOf c b p) ∧ before (marked c b) (laneOf c b p).val = p.val := by
  obtain ⟨j, hj, hp⟩ := exists_nth (marked c b) p.val (by have := p.isLt; omega)
  have : laneOf c b p = j := packed_src (marked c b) 13 (by norm_num) j hj ⟨p.val, by omega⟩ hp.symm
  rw [this]
  exact ⟨hj, hp⟩

theorem laneOf_inj (c : IVec S8x5120 1) (b : Fin 8) (hc : count (marked c b) = 400) :
    Function.Injective (laneOf c b) := fun p q h => by
  have h1 := (laneOf_spec c b hc p).2
  have h2 := (laneOf_spec c b hc q).2
  rw [h] at h1
  exact Fin.ext (h1.symm.trans h2)

/-- Every marked lane comes to a slot. -/
theorem laneOf_surj (c : IVec S8x5120 1) (b : Fin 8) (hc : count (marked c b) = 400) (j : Fin 5120)
    (hj : marked c b j) : ∃ p, laneOf c b p = j := by
  have hlt : before (marked c b) j.val < 400 := by
    have h1 := before_lt (marked c b) j 5120 hj j.isLt
    rw [before_all] at h1
    omega
  exact ⟨⟨before (marked c b) j.val, hlt⟩, laneOf_eq c b _ j hj (Fin.val_mk hlt)⟩

end Cert.Detect
-- ==== Proof.KValue.lean ====
/- What the kernel's body leaves: the order by score, the marks and the order by the upper edge put together. -/
module

public import proofs.«01_k».proof.Proof.KDecode
public import proofs.«01_k».proof.Proof.Pack
public import proofs.«01_k».proof.Proof.Rounds

@[expose] public section

noncomputable section

namespace Cert.KernelIdeal.Gen

open Idealize.ShloMosaic Cert.Detect
open Cert.KernelIdeal Cert.KernelIdeal.Facts₀ Cert.KernelIdeal.Facts

theorem head_at {α : Type} (x : S8x5120.Idx → α) (b : Fin 8) (p : Fin 400) : head x (ix2 b p) = x (ix2 b ⟨p.val, by omega⟩) := by
  pointwise []
  try rfl

theorem lanes_at (b : Fin 8) (i : Fin 5120) : lanes (ix2 b i) = BitVec.ofNat 32 i.val := by
  pointwise []
  try rfl

section order

variable (s x1 y1 x2 y2 l : FVec Ideal S8x5120 .f32) (b : Fin 8)

/-- The first four hundred of the order have a slot. -/
theorem exists_slot (t : Fin 400) : ∃ p, laneOf (picked (key s)) b p = ord (fun i => s (ix2 b i)) ⟨t.val, by omega⟩ :=
  laneOf_surj _ b (picked_count (key s) b) _ ((picked_iff s b ⟨t.val, by omega⟩).2 t.isLt)

/-- The slot of a place in the order. -/
def slotOf (t : Fin 400) : Fin 400 := Classical.choose (exists_slot s b t)

theorem slotOf_spec (t : Fin 400) : laneOf (picked (key s)) b (slotOf s b t) = ord (fun i => s (ix2 b i)) ⟨t.val, by omega⟩ :=
  Classical.choose_spec (exists_slot s b t)

theorem slotOf_inj : Function.Injective (slotOf s b) := fun t u h => by
  have h1 := slotOf_spec s b t
  rw [h, slotOf_spec s b u] at h1
  have := sortedFrom_injective _ h1
  exact Fin.ext (congrArg Fin.val this).symm

/-- What the rounds find: the lanes in the order of their scores. -/
theorem rounds_at (hs : ∀ i : Fin 5120, used < s (ix2 b i)) (u : Fin 400) :
    let a := rounds (lot s x1 y1 x2 y2 l (picked (key s)))
    let e : Fin 5120 := ord (fun i => s (ix2 b i)) ⟨u.val, by omega⟩
    a.2.1 (ix2 b u) = s (ix2 b e) ∧ a.2.2.1 (ix2 b u) = x1 (ix2 b e) ∧ a.2.2.2.1 (ix2 b u) = y1 (ix2 b e)
      ∧ a.2.2.2.2.1 (ix2 b u) = x2 (ix2 b e) ∧ a.2.2.2.2.2.1 (ix2 b u) = y2 (ix2 b e)
      ∧ a.2.2.2.2.2.2 (ix2 b u) = l (ix2 b e) := by
  have F := packed_follows b ⟨s, lanes, x1, y1, x2, y2, l, shift (picked (key s))⟩ (picked (key s)) rfl
  have hg : ∀ p : Fin 400, ((start (marked (picked (key s)) b)).moves 13).src ⟨p.val, by omega⟩ = laneOf (picked (key s)) b p :=
    fun p => rfl
  have H : Held b (head (lot s x1 y1 x2 y2 l (picked (key s))).n) (head (lot s x1 y1 x2 y2 l (picked (key s))).s)
      (fun i => s (ix2 b i)) (laneOf (picked (key s)) b) (slotOf s b) := by
    refine ⟨laneOf_inj _ b (picked_count (key s) b), fun p => ?_, fun p => ?_, fun t => ?_, fun p => ?_, hs⟩
    · rw [head_at]
      exact (F.s _).trans (by rw [hg])
    · rw [head_at]
      refine (F.n _).trans ?_
      rw [hg]
      exact lanes_at b _
    · exact slotOf_spec s b t
    · exact (Finite.injective_iff_surjective.1 (slotOf_inj s b)) p
  have G := H.sorted_at (x1 := head (lot s x1 y1 x2 y2 l (picked (key s))).x1)
    (y1 := head (lot s x1 y1 x2 y2 l (picked (key s))).y1) (x2 := head (lot s x1 y1 x2 y2 l (picked (key s))).x2)
    (y2 := head (lot s x1 y1 x2 y2 l (picked (key s))).y2) (l := head (lot s x1 y1 x2 y2 l (picked (key s))).l)
  have hr := slotOf_spec s b u
  refine ⟨(G.v u u.isLt).trans ?_, (G.x1 u u.isLt).trans ?_, (G.y1 u u.isLt).trans ?_, (G.x2 u u.isLt).trans ?_,
    (G.y2 u u.isLt).trans ?_, (G.l u u.isLt).trans ?_⟩
  · show s (ix2 b _) = _
    rw [hr]
  · rw [head_at]
    exact (F.x1 _).trans (by rw [hg, hr])
  · rw [head_at]
    exact (F.y1 _).trans (by rw [hg, hr])
  · rw [head_at]
    exact (F.x2 _).trans (by rw [hg, hr])
  · rw [head_at]
    exact (F.y2 _).trans (by rw [hg, hr])
  · rw [head_at]
    exact (F.l _).trans (by rw [hg, hr])

end order

/-- Lanes behind the boxes do not change the order of the first ones. -/
theorem first_lanes {N M W : ℕ} (h1 : M ≤ N) (h2 : W ≤ M) (s : Fin N → EReal) (s' : Fin M → EReal)
    (hs : ∀ i : Fin M, s' i = s ⟨i.val, i.isLt.trans_le h1⟩)
    (hp : ∀ i p : Fin N, i.val < M → M ≤ p.val → s p ≤ s i) (u : Fin W) :
    ord s ⟨u.val, u.isLt.trans_le (h2.trans h1)⟩
      = ⟨(ord s' ⟨u.val, u.isLt.trans_le h2⟩).val, (ord s' ⟨u.val, u.isLt.trans_le h2⟩).isLt.trans_le h1⟩ :=
  Fin.ext (ord_prefix h1 s s' hs hp W h2 u)

section whole

variable (x0 : Vec Ideal S25x8x5120 .f32) (x1 : Vec Ideal S4x5120 .f32) (b : Fin 8)
  (P : Fin 5000 → Fin 25 → EReal) (Q : Fin 5000 → Fin 4 → EReal)

/-- The blocks hold the image's boxes, and behind them boxes of the lowest scores. -/
structure Holds : Prop where
  boxes : ∀ i : Fin 5000, boxP x0 b ⟨i.val, by omega⟩ = P i
  priors : ∀ i : Fin 5000, boxQ x1 ⟨i.val, by omega⟩ = Q i
  rest : ∀ i : Fin 5120, 5000 ≤ i.val → ∀ c, boxP x0 b i c = lowest

theorem used_lt_lowest : used < lowest := by
  rw [lowest_eq]
  show Ideal.ofBits .f32 0xFF61B1E6#32 < _
  simp [Ideal.ofBits, Ideal.ieee, -EReal.coe_mul]
  norm_cast

variable {x0 x1 b P Q}

/-- The rounds' lane is the box of that place in the order. -/
theorem Holds.lane (H : Holds x0 x1 b P Q) (u : Fin 400) :
    ord (fun i => at_score (F := Ideal) x0 x1 (ix2 b i)) ⟨u.val, by omega⟩ = ⟨(nthBox P u).val, by omega⟩ := by
  refine first_lanes (N := 5120) (M := 5000) (W := 400) (by omega) (by omega) _ _ (fun i => ?_) (fun i p hi hp => ?_) u
  · rw [at_score_at]
    exact congrArg maskOf (H.boxes i).symm
  · rw [at_score_at, at_score_at, mask_low _ (H.rest p hp)]
    exact lowest_le_mask _

/-- What the rounds find of a place: the box's score for the order, its edges and its label. -/
theorem Holds.found_at (H : Holds x0 x1 b P Q) (u : Fin 400) :
    (found x0 x1).2.1 (ix2 b u) = maskOf (P (nthBox P u)) ∧ (found x0 x1).2.2.1 (ix2 b u) = rowSaid P Q 0 u
      ∧ (found x0 x1).2.2.2.1 (ix2 b u) = rowSaid P Q 1 u ∧ (found x0 x1).2.2.2.2.1 (ix2 b u) = rowSaid P Q 2 u
      ∧ (found x0 x1).2.2.2.2.2.1 (ix2 b u) = rowSaid P Q 3 u ∧ (found x0 x1).2.2.2.2.2.2 (ix2 b u) = rowSaid P Q 4 u := by
  have hs : ∀ i : Fin 5120, used < at_score (F := Ideal) x0 x1 (ix2 b i) := fun i => by
    rw [at_score_at]
    exact used_lt_lowest.trans_le (lowest_le_mask _)
  have h := rounds_at (at_score x0 x1) (at_v40 x0 x1) (at_v43 x0 x1) (at_v46 x0 x1) (at_v49 x0 x1) (at_label x0 x1) b hs u
  obtain ⟨h0, h1, h2, h3, h4, h5⟩ := h
  have hl := H.lane u
  have hP := H.boxes (nthBox P u)
  have hQ := H.priors (nthBox P u)
  refine ⟨h0.trans ?_, h1.trans ?_, h2.trans ?_, h3.trans ?_, h4.trans ?_, h5.trans ?_⟩
  · rw [hl, at_score_at, hP]
  · rw [hl, at_v40_at, hP, hQ]; rfl
  · rw [hl, at_v43_at, hP, hQ]; rfl
  · rw [hl, at_v46_at, hP, hQ]; rfl
  · rw [hl, at_v49_at, hP, hQ]; rfl
  · rw [hl, at_label_at, hP]; rfl

/-- The marks of the kernel are the image's. -/
theorem Holds.keeps_at (H : Holds x0 x1 b P Q) (p : Fin 400) : keeps (found x0 x1) (ix2 b p) = one01 (stays P Q p) := by
  have e : ∀ k, rowSaid P Q k = fun u => rowSaid P Q k u := fun k => rfl
  unfold keeps
  rw [kept_at]
  have h1 : rowOf b (found x0 x1).2.2.1 = rowSaid P Q 0 := funext fun u => (H.found_at u).2.1
  have h2 : rowOf b (found x0 x1).2.2.2.1 = rowSaid P Q 1 := funext fun u => (H.found_at u).2.2.1
  have h3 : rowOf b (found x0 x1).2.2.2.2.1 = rowSaid P Q 2 := funext fun u => (H.found_at u).2.2.2.1
  have h4 : rowOf b (found x0 x1).2.2.2.2.2.1 = rowSaid P Q 3 := funext fun u => (H.found_at u).2.2.2.2.1
  have h0 : rowOf b (found x0 x1).2.1 = fun u => maskOf (P (nthBox P u)) := funext fun u => (H.found_at u).1
  rw [h1, h2, h3, h4, h0, marksOf_score _ (rowSaid P Q 5) _ _ _ _ fun p => half_mask _]
  rfl

/-- A result of the kernel, of one of what the rounds found. -/
theorem Holds.result_of (H : Holds x0 x1 b P Q) (hy : ∀ i, said P Q i 1 < ⊤) (x : FVec Ideal S8x400 .f32) (k : Fin 6)
    (hx : ∀ u, stays P Q u = true → x (ix2 b u) = rowSaid P Q k u) (i : Fin 200) :
    result (gate (found x0 x1)) x (ix2 b i) = answer P Q i k := by
  unfold gate
  have h2 : rowOf b (found x0 x1).2.2.2.1 = rowSaid P Q 1 := funext fun u => (H.found_at u).2.2.1
  have h := result_at b (found x0 x1).2.2.2.1 (keeps (found x0 x1)) (stays P Q) H.keeps_at x
    (fun p _ => by rw [h2]; exact hy _) i
  rw [h, h2]
  unfold answer nthKept
  split
  · rename_i hk; exact hx _ hk
  · rfl

theorem Holds.results (H : Holds x0 x1 b P Q) (hy : ∀ i, said P Q i 1 < ⊤) (i : Fin 200) :
    result (gate (found x0 x1)) (found x0 x1).2.2.1 (ix2 b i) = answer P Q i 0
      ∧ result (gate (found x0 x1)) (found x0 x1).2.2.2.1 (ix2 b i) = answer P Q i 1
      ∧ result (gate (found x0 x1)) (found x0 x1).2.2.2.2.1 (ix2 b i) = answer P Q i 2
      ∧ result (gate (found x0 x1)) (found x0 x1).2.2.2.2.2.1 (ix2 b i) = answer P Q i 3
      ∧ result (gate (found x0 x1)) (found x0 x1).2.2.2.2.2.2 (ix2 b i) = answer P Q i 4
      ∧ result (gate (found x0 x1)) (found x0 x1).2.1 (ix2 b i) = answer P Q i 5 := by
  refine ⟨H.result_of hy _ 0 (fun u _ => (H.found_at u).2.1) i, H.result_of hy _ 1 (fun u _ => (H.found_at u).2.2.1) i,
    H.result_of hy _ 2 (fun u _ => (H.found_at u).2.2.2.1) i, H.result_of hy _ 3 (fun u _ => (H.found_at u).2.2.2.2.1) i,
    H.result_of hy _ 4 (fun u _ => (H.found_at u).2.2.2.2.2) i, H.result_of hy _ 5 (fun u hu => ?_) i⟩
  rw [(H.found_at u).1]
  exact mask_eq _ (marksOf_above _ _ _ _ _ 400 u u.isLt hu)

end whole

end Cert.KernelIdeal.Gen
-- ==== Proof.KArgs.lean ====
/- The kernel's blocks, of the arguments. -/
module

public import proofs.«01_k».proof.Proof.KValue
public import proofs.«01_k».proof.Proof.KernelRun
public import Idealize.ShloMosaic.Lib.StableHlo.ReadAt

@[expose] public section

noncomputable section

namespace Cert.KernelIdeal.Gen

open Idealize.ShloMosaic Idealize.ShloMosaic.TcCoe Idealize.SL.Sem Cert.Detect
open Cert.KernelIdeal Cert.KernelIdeal.Facts₀ Cert.KernelIdeal.Facts

variable (m : (ℓ : Loc nD τ sig) → Buf (Elt Ideal) ℓ) (c : Dev nD)

/-- The arguments. -/
abbrev argP : FVec Ideal S8x5000x25 .f32 := m ((c : Thread nD τ).loc main_arg0)
abbrev argQ : FVec Ideal S5000x4 .f32 := m ((c : Thread nD τ).loc main_arg1)

theorem v1_at (k : Fin 25) (b : Fin 8) (i : Fin 5120) :
    V m c main_v1 (ix3 k b i) = if h : i.val < 5000 then argP m c (ix3 b ⟨i.val, h⟩ k) else lowest := by
  unfold V V0
  after_reads_at
  rfl

theorem v3_at (k : Fin 4) (i : Fin 5000) :
    V m c main_v3 (ix2 k ⟨i.val, by omega⟩) = argQ m c (ix2 i k) := by
  unfold V V0
  after_reads_at

/-! ## The blocks are whole arrays -/

theorem read_v1 (f : Buf (Elt Ideal) ((c : Thread nD τ).loc main_v1)) : (win0_0.blk t0_0).view.read (Elt Ideal) f = f :=
  Memref.read_access_unit_zero (Elt Ideal) main_v1
    (show (fun a => (win0_0.index t0_0) a * main_v1.ty.shape.size a) = fun _ => 0 from
      funext fun a => by fin_cases a <;> decide) (fun a => by fin_cases a <;> decide) f
theorem read_v3 (f : Buf (Elt Ideal) ((c : Thread nD τ).loc main_v3)) : (win0_1.blk t0_0).view.read (Elt Ideal) f = f :=
  Memref.read_access_unit_zero (Elt Ideal) main_v3
    (show (fun a => (win0_1.index t0_0) a * main_v3.ty.shape.size a) = fun _ => 0 from
      funext fun a => by fin_cases a <;> decide) (fun a => by fin_cases a <;> decide) f
theorem read_res0 (f : Buf (Elt Ideal) ((c : Thread nD τ).loc main_v4_0)) : (win0_2.blk t0_0).view.read (Elt Ideal) f = f :=
  Memref.read_access_unit_zero (Elt Ideal) main_v4_0
    (show (fun a => (win0_2.index t0_0) a * main_v4_0.ty.shape.size a) = fun _ => 0 from
      funext fun a => by fin_cases a <;> decide) (fun a => by fin_cases a <;> decide) f
theorem read_res1 (f : Buf (Elt Ideal) ((c : Thread nD τ).loc main_v4_1)) : (win0_3.blk t0_0).view.read (Elt Ideal) f = f :=
  Memref.read_access_unit_zero (Elt Ideal) main_v4_1
    (show (fun a => (win0_3.index t0_0) a * main_v4_1.ty.shape.size a) = fun _ => 0 from
      funext fun a => by fin_cases a <;> decide) (fun a => by fin_cases a <;> decide) f
theorem read_res2 (f : Buf (Elt Ideal) ((c : Thread nD τ).loc main_v4_2)) : (win0_4.blk t0_0).view.read (Elt Ideal) f = f :=
  Memref.read_access_unit_zero (Elt Ideal) main_v4_2
    (show (fun a => (win0_4.index t0_0) a * main_v4_2.ty.shape.size a) = fun _ => 0 from
      funext fun a => by fin_cases a <;> decide) (fun a => by fin_cases a <;> decide) f
theorem read_res3 (f : Buf (Elt Ideal) ((c : Thread nD τ).loc main_v4_3)) : (win0_5.blk t0_0).view.read (Elt Ideal) f = f :=
  Memref.read_access_unit_zero (Elt Ideal) main_v4_3
    (show (fun a => (win0_5.index t0_0) a * main_v4_3.ty.shape.size a) = fun _ => 0 from
      funext fun a => by fin_cases a <;> decide) (fun a => by fin_cases a <;> decide) f
theorem read_res4 (f : Buf (Elt Ideal) ((c : Thread nD τ).loc main_v4_4)) : (win0_6.blk t0_0).view.read (Elt Ideal) f = f :=
  Memref.read_access_unit_zero (Elt Ideal) main_v4_4
    (show (fun a => (win0_6.index t0_0) a * main_v4_4.ty.shape.size a) = fun _ => 0 from
      funext fun a => by fin_cases a <;> decide) (fun a => by fin_cases a <;> decide) f
theorem read_res5 (f : Buf (Elt Ideal) ((c : Thread nD τ).loc main_v4_5)) : (win0_7.blk t0_0).view.read (Elt Ideal) f = f :=
  Memref.read_access_unit_zero (Elt Ideal) main_v4_5
    (show (fun a => (win0_7.index t0_0) a * main_v4_5.ty.shape.size a) = fun _ => 0 from
      funext fun a => by fin_cases a <;> decide) (fun a => by fin_cases a <;> decide) f

theorem iblk_0 : iblk (F := Ideal) m c 0 t0_0 = V m c main_v1 := by
  show (win0_0.blk t0_0).view.read (Elt Ideal) (V m c main_v1) = _
  exact read_v1 c _

theorem iblk_1 : iblk (F := Ideal) m c 1 t0_0 = V m c main_v3 := by
  show (win0_1.blk t0_0).view.read (Elt Ideal) (V m c main_v3) = _
  exact read_v3 c _

theorem flushed_2 : (dats (F := Ideal) m 0 c).flushed 2 t0_0 = out0_2 (V m c main_v1) (V m c main_v3) := by
  show (cfg0.win 2).cut _ ((dats (F := Ideal) m 0 c).after 2 t0_0) = _
  rw [after0_2, iblk_0, iblk_1]
  exact funext fun _ => rfl

theorem arrAt_2 : (dats (F := Ideal) m 0 c).arrAt 2 cfg0.N = out0_2 (V m c main_v1) (V m c main_v3) := by
  have hw : ((cfg0.win 2).blk t0_0).view.read (Elt Ideal) ((dats (F := Ideal) m 0 c).arrAt 2 cfg0.N)
      = (dats (F := Ideal) m 0 c).flushed 2 t0_0 := by
    rw [show cfg0.N = t0_0.val + 1 from rfl, (dats m 0 c).arrAt_succ (2 : Fin 8) t0_0, flush0_2, if_pos rfl]
    exact View.read_write_univ _ _
  rw [flushed_2] at hw
  exact (read_res0 c _).symm.trans hw

theorem flushed_3 : (dats (F := Ideal) m 0 c).flushed 3 t0_0 = out0_3 (V m c main_v1) (V m c main_v3) := by
  show (cfg0.win 3).cut _ ((dats (F := Ideal) m 0 c).after 3 t0_0) = _
  rw [after0_3, iblk_0, iblk_1]
  exact funext fun _ => rfl

theorem arrAt_3 : (dats (F := Ideal) m 0 c).arrAt 3 cfg0.N = out0_3 (V m c main_v1) (V m c main_v3) := by
  have hw : ((cfg0.win 3).blk t0_0).view.read (Elt Ideal) ((dats (F := Ideal) m 0 c).arrAt 3 cfg0.N)
      = (dats (F := Ideal) m 0 c).flushed 3 t0_0 := by
    rw [show cfg0.N = t0_0.val + 1 from rfl, (dats m 0 c).arrAt_succ (3 : Fin 8) t0_0, flush0_3, if_pos rfl]
    exact View.read_write_univ _ _
  rw [flushed_3] at hw
  exact (read_res1 c _).symm.trans hw

theorem flushed_4 : (dats (F := Ideal) m 0 c).flushed 4 t0_0 = out0_4 (V m c main_v1) (V m c main_v3) := by
  show (cfg0.win 4).cut _ ((dats (F := Ideal) m 0 c).after 4 t0_0) = _
  rw [after0_4, iblk_0, iblk_1]
  exact funext fun _ => rfl

theorem arrAt_4 : (dats (F := Ideal) m 0 c).arrAt 4 cfg0.N = out0_4 (V m c main_v1) (V m c main_v3) := by
  have hw : ((cfg0.win 4).blk t0_0).view.read (Elt Ideal) ((dats (F := Ideal) m 0 c).arrAt 4 cfg0.N)
      = (dats (F := Ideal) m 0 c).flushed 4 t0_0 := by
    rw [show cfg0.N = t0_0.val + 1 from rfl, (dats m 0 c).arrAt_succ (4 : Fin 8) t0_0, flush0_4, if_pos rfl]
    exact View.read_write_univ _ _
  rw [flushed_4] at hw
  exact (read_res2 c _).symm.trans hw

theorem flushed_5 : (dats (F := Ideal) m 0 c).flushed 5 t0_0 = out0_5 (V m c main_v1) (V m c main_v3) := by
  show (cfg0.win 5).cut _ ((dats (F := Ideal) m 0 c).after 5 t0_0) = _
  rw [after0_5, iblk_0, iblk_1]
  exact funext fun _ => rfl

theorem arrAt_5 : (dats (F := Ideal) m 0 c).arrAt 5 cfg0.N = out0_5 (V m c main_v1) (V m c main_v3) := by
  have hw : ((cfg0.win 5).blk t0_0).view.read (Elt Ideal) ((dats (F := Ideal) m 0 c).arrAt 5 cfg0.N)
      = (dats (F := Ideal) m 0 c).flushed 5 t0_0 := by
    rw [show cfg0.N = t0_0.val + 1 from rfl, (dats m 0 c).arrAt_succ (5 : Fin 8) t0_0, flush0_5, if_pos rfl]
    exact View.read_write_univ _ _
  rw [flushed_5] at hw
  exact (read_res3 c _).symm.trans hw

theorem flushed_6 : (dats (F := Ideal) m 0 c).flushed 6 t0_0 = out0_6 (V m c main_v1) (V m c main_v3) := by
  show (cfg0.win 6).cut _ ((dats (F := Ideal) m 0 c).after 6 t0_0) = _
  rw [after0_6, iblk_0, iblk_1]
  exact funext fun _ => rfl

theorem arrAt_6 : (dats (F := Ideal) m 0 c).arrAt 6 cfg0.N = out0_6 (V m c main_v1) (V m c main_v3) := by
  have hw : ((cfg0.win 6).blk t0_0).view.read (Elt Ideal) ((dats (F := Ideal) m 0 c).arrAt 6 cfg0.N)
      = (dats (F := Ideal) m 0 c).flushed 6 t0_0 := by
    rw [show cfg0.N = t0_0.val + 1 from rfl, (dats m 0 c).arrAt_succ (6 : Fin 8) t0_0, flush0_6, if_pos rfl]
    exact View.read_write_univ _ _
  rw [flushed_6] at hw
  exact (read_res4 c _).symm.trans hw

theorem flushed_7 : (dats (F := Ideal) m 0 c).flushed 7 t0_0 = out0_7 (V m c main_v1) (V m c main_v3) := by
  show (cfg0.win 7).cut _ ((dats (F := Ideal) m 0 c).after 7 t0_0) = _
  rw [after0_7, iblk_0, iblk_1]
  exact funext fun _ => rfl

theorem arrAt_7 : (dats (F := Ideal) m 0 c).arrAt 7 cfg0.N = out0_7 (V m c main_v1) (V m c main_v3) := by
  have hw : ((cfg0.win 7).blk t0_0).view.read (Elt Ideal) ((dats (F := Ideal) m 0 c).arrAt 7 cfg0.N)
      = (dats (F := Ideal) m 0 c).flushed 7 t0_0 := by
    rw [show cfg0.N = t0_0.val + 1 from rfl, (dats m 0 c).arrAt_succ (7 : Fin 8) t0_0, flush0_7, if_pos rfl]
    exact View.read_write_univ _ _
  rw [flushed_7] at hw
  exact (read_res5 c _).symm.trans hw

theorem out_2 (x0 : Vec Ideal S25x8x5120 .f32) (x1 : Vec Ideal S4x5120 .f32) :
    out0_2 x0 x1 = result (gate (found x0 x1)) (found x0 x1).2.2.1 := by
  unfold out0_2
  exact View.canon_cons_unit_zero (by funext a; fin_cases a <;> rfl) _ _ _

theorem out_3 (x0 : Vec Ideal S25x8x5120 .f32) (x1 : Vec Ideal S4x5120 .f32) :
    out0_3 x0 x1 = result (gate (found x0 x1)) (found x0 x1).2.2.2.1 := by
  unfold out0_3
  exact View.canon_cons_unit_zero (by funext a; fin_cases a <;> rfl) _ _ _

theorem out_4 (x0 : Vec Ideal S25x8x5120 .f32) (x1 : Vec Ideal S4x5120 .f32) :
    out0_4 x0 x1 = result (gate (found x0 x1)) (found x0 x1).2.2.2.2.1 := by
  unfold out0_4
  exact View.canon_cons_unit_zero (by funext a; fin_cases a <;> rfl) _ _ _

theorem out_5 (x0 : Vec Ideal S25x8x5120 .f32) (x1 : Vec Ideal S4x5120 .f32) :
    out0_5 x0 x1 = result (gate (found x0 x1)) (found x0 x1).2.2.2.2.2.1 := by
  unfold out0_5
  exact View.canon_cons_unit_zero (by funext a; fin_cases a <;> rfl) _ _ _

theorem out_6 (x0 : Vec Ideal S25x8x5120 .f32) (x1 : Vec Ideal S4x5120 .f32) :
    out0_6 x0 x1 = result (gate (found x0 x1)) (found x0 x1).2.2.2.2.2.2 := by
  unfold out0_6
  exact View.canon_cons_unit_zero (by funext a; fin_cases a <;> rfl) _ _ _

theorem out_7 (x0 : Vec Ideal S25x8x5120 .f32) (x1 : Vec Ideal S4x5120 .f32) :
    out0_7 x0 x1 = result (gate (found x0 x1)) (found x0 x1).2.1 := by
  unfold out0_7
  exact View.canon_cons_unit_zero (by funext a; fin_cases a <;> rfl) _ _ _

/-! ## The result -/

section result

variable (b : Fin 8)

/-- The boxes of an image. -/
abbrev imageP : Fin 5000 → Fin 25 → EReal := fun i k => argP m c (ix3 b i k)
abbrev imageQ : Fin 5000 → Fin 4 → EReal := fun i k => argQ m c (ix2 i k)

theorem holds : Holds (V m c main_v1) (V m c main_v3) b (imageP m c b) (imageQ m c) where
  boxes i := funext fun k => (v1_at m c k b ⟨i.val, by omega⟩).trans (dif_pos i.isLt)
  priors i := funext fun k => v3_at m c k i
  rest i hi k := (v1_at m c k b i).trans (dif_neg (by omega))

/-- What the run leaves in the result buffer. -/
def left (c : Dev nD) : Buf (Elt Ideal) ((c : Thread nD τ).loc main_v11) :=
  Pipeline.afterTail₀ cfgs (dats m) 0 (V0 m) [hostOps1] c main_v11

/-- The last lines put the six results side by side. -/
theorem joined_at (W : Valuation τ sig (Elt Ideal)) (i : Fin 200) (k : Fin 6) :
    (StableHlo.after hostOps1 W (Proc.devRef .tc main_v11) : FVec Ideal S8x200x6 .f32) (ix3 b i k)
      = (match k with
        | 0 => (W (Proc.devRef .tc main_v4_0) : FVec Ideal S8x200 .f32)
        | 1 => (W (Proc.devRef .tc main_v4_1) : FVec Ideal S8x200 .f32)
        | 2 => (W (Proc.devRef .tc main_v4_2) : FVec Ideal S8x200 .f32)
        | 3 => (W (Proc.devRef .tc main_v4_3) : FVec Ideal S8x200 .f32)
        | 4 => (W (Proc.devRef .tc main_v4_4) : FVec Ideal S8x200 .f32)
        | 5 => (W (Proc.devRef .tc main_v4_5) : FVec Ideal S8x200 .f32)) (ix2 b i) := by
  fin_cases k
  all_goals after_reads_at
  all_goals after_reads_at

theorem left_at (hy : ∀ i, said (imageP m c b) (imageQ m c) i 1 < ⊤) (i : Fin 200) (k : Fin 6) :
    left m c (ix3 b i k) = answer (imageP m c b) (imageQ m c) i k := by
  have hr := (holds m c b).results hy i
  unfold left Pipeline.afterTail₀
  simp only [List.flatten_cons, List.flatten_nil, List.append_nil]
  refine (joined_at b _ i k).trans ?_
  have hin : Function.Injective (Pipeline.arrRef spec0) := by decide
  fin_cases k
  · refine (congrFun (Pipeline.withArrays_arr spec0 hin c _ _ 2) _).trans ?_
    refine (congrFun ((arrAt_2 m c).trans (out_2 _ _)) _).trans ?_
    exact hr.1
  · refine (congrFun (Pipeline.withArrays_arr spec0 hin c _ _ 3) _).trans ?_
    refine (congrFun ((arrAt_3 m c).trans (out_3 _ _)) _).trans ?_
    exact hr.2.1
  · refine (congrFun (Pipeline.withArrays_arr spec0 hin c _ _ 4) _).trans ?_
    refine (congrFun ((arrAt_4 m c).trans (out_4 _ _)) _).trans ?_
    exact hr.2.2.1
  · refine (congrFun (Pipeline.withArrays_arr spec0 hin c _ _ 5) _).trans ?_
    refine (congrFun ((arrAt_5 m c).trans (out_5 _ _)) _).trans ?_
    exact hr.2.2.2.1
  · refine (congrFun (Pipeline.withArrays_arr spec0 hin c _ _ 6) _).trans ?_
    refine (congrFun ((arrAt_6 m c).trans (out_6 _ _)) _).trans ?_
    exact hr.2.2.2.2.1
  · refine (congrFun (Pipeline.withArrays_arr spec0 hin c _ _ 7) _).trans ?_
    refine (congrFun ((arrAt_7 m c).trans (out_7 _ _)) _).trans ?_
    exact hr.2.2.2.2.2

end result

end Cert.KernelIdeal.Gen
-- ==== Proof.RTake.lean ====
/- A gather of rows, batch by batch, and the sorts that carry a row of places, at an index. -/
module

public import proofs.«01_k».proof.Proof.Spec
public import proofs.«01_k».proof.Proof.RefRun
public import Idealize.ShloMosaic.Lib.DynamicIndex
public import Idealize.ShloMosaic.Lib.Routing.OpsPair

@[expose] public section

noncomputable section

namespace Cert.Detect

open Idealize.ShloMosaic

/-- The dimension numbers of a gather of rows, batch by batch. -/
abbrev rowsDims (B N C M : ℕ)
    (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

variable {α : Type}

theorem rows_at {B N C M : ℕ} (hN : 0 < N)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (idx : IVec ⟨3, ![B, M, 1]⟩ 32) (b : Fin B) (t : Fin M) (k : Fin C) :
    Host.gather (rowsDims B N C M wf) x idx (ix3 b t k)
      = x (ix3 b ⟨min (idx (ix3 b t 0)).toInt.toNat (N - 1), by omega⟩ k) := by
  unfold Host.gather
  congr 1
  funext a
  refine Fin.ext ?_
  show (rowsDims B N C M wf).start (ix3 b t k) idx a + (rowsDims B N C M wf).batchCoord (ix3 b t k) a
      + (rowsDims B N C M wf).offCoord (ix3 b t k) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims B N C M wf).startIndexMap from List.mem_singleton.mpr rfl)]
    have hsi : (rowsDims B N C M wf).siIdx (ix3 b t k) ⟨List.idxOf (1 : Fin 3) (rowsDims B N C M wf).startIndexMap,
        List.idxOf_lt_length_iff.2 (List.mem_singleton.mpr rfl)⟩ = ix3 b t 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp at h)]
    unfold GatherDims.start GatherDims.offCoord
    rw [dif_neg (by simp), dif_pos ((GatherDims.mem_sKept _ _).mpr ⟨by simp, by simp⟩)]
    simp only [Nat.zero_add]
    rfl

/-- Where the wrapped place is in bounds, the row at that place. -/
theorem rows_wrapped {B N C M : ℕ} (hN : 0 < N) (hN' : N < 2 ^ 31)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (J Z A : IVec ⟨3, ![B, M, 1]⟩ 32) (b : Fin B) (t : Fin M) (k : Fin C)
    (n : Fin N) (hJ : J (ix3 b t 0) = BitVec.ofNat 32 n.val) (hZ : Z (ix3 b t 0) = 0#32) :
    Host.gather (rowsDims B N C M wf) x (select (cmpi .slt J Z) (addi J A) J) (ix3 b t k) = x (ix3 b n k) := by
  have hn := n.isLt
  rw [rows_at hN]
  have e : (select (cmpi .slt J Z) (addi J A) J) (ix3 b t 0) = BitVec.ofNat 32 n.val := by
    show Scalar.select (IntOp.cmpi .slt (J (ix3 b t 0)) (Z (ix3 b t 0))) _ (J (ix3 b t 0)) = _
    rw [hZ, hJ]
    refine Routing.wrap_of_lt _ _ ?_
    rw [BitVec.toNat_ofNat]
    exact lt_of_le_of_lt (Nat.mod_le _ _) (hn.trans hN')
  have e2 : (⟨min ((select (cmpi .slt J Z) (addi J A) J) (ix3 b t 0)).toInt.toNat (N - 1), by omega⟩ : Fin N) = n := by
    refine Fin.ext ?_
    show min ((select (cmpi .slt J Z) (addi J A) J) (ix3 b t 0)).toInt.toNat (N - 1) = n.val
    rw [e, toInt_ofNat_of_lt (hn.trans hN')]
    omega
  rw [e2]

/-- A sort along a row that carries the places. -/
theorem sorted_places {B N : ℕ} (cmp : α × BitVec 32 → α × BitVec 32 → BitVec 1) (x : (⟨2, ![B, N]⟩ : Shape).Idx → α)
    (before : Fin N → Fin N → Bool) (b : Fin B)
    (h : ∀ k k' (i i' : BitVec 32), (cmp (x (ix2 b k), i) (x (ix2 b k'), i') == 1#1) = before k k')
    (i : Fin N) :
    (Host.sort2 ⟨2, ![B, N]⟩ 1 cmp x (iotaInDim ⟨2, ![B, N]⟩ 32 1)).2 (ix2 b i)
      = BitVec.ofNat 32 (sortedFrom before i).val := by
  have al : ∀ k : Fin N, Shape.Idx.along (s := ⟨2, ![B, N]⟩) (ix2 b i) 1 k = ix2 b k := by
    intro k
    funext a
    match a with
    | ⟨0, _⟩ => rfl
    | ⟨1, _⟩ => rfl
  have hb : (fun k k' : Fin N => cmp (x (Shape.Idx.along (s := ⟨2, ![B, N]⟩) (ix2 b i) 1 k),
        iotaInDim ⟨2, ![B, N]⟩ 32 1 (Shape.Idx.along (s := ⟨2, ![B, N]⟩) (ix2 b i) 1 k))
      (x (Shape.Idx.along (s := ⟨2, ![B, N]⟩) (ix2 b i) 1 k'),
        iotaInDim ⟨2, ![B, N]⟩ 32 1 (Shape.Idx.along (s := ⟨2, ![B, N]⟩) (ix2 b i) 1 k')) == 1#1) = before := by
    funext k k'
    simp only [al]
    exact h k k' _ _
  show iotaInDim ⟨2, ![B, N]⟩ 32 1 (Shape.Idx.along (s := ⟨2, ![B, N]⟩) (ix2 b i) 1 (sortedFrom (fun k k' : Fin N =>
      cmp (x (Shape.Idx.along (s := ⟨2, ![B, N]⟩) (ix2 b i) 1 k),
        iotaInDim ⟨2, ![B, N]⟩ 32 1 (Shape.Idx.along (s := ⟨2, ![B, N]⟩) (ix2 b i) 1 k))
      (x (Shape.Idx.along (s := ⟨2, ![B, N]⟩) (ix2 b i) 1 k'),
        iotaInDim ⟨2, ![B, N]⟩ 32 1 (Shape.Idx.along (s := ⟨2, ![B, N]⟩) (ix2 b i) 1 k')) == 1#1) i)) = _
  rw [hb]
  exact congrArg (fun y : (⟨2, ![B, N]⟩ : Shape).Idx => BitVec.ofNat 32 (y 1).val) (al (sortedFrom before i))

/-- The places of a row's greatest numbers. -/
theorem top_places {B N M : ℕ} (hM : M ≤ N) (x : FVec Ideal ⟨2, ![B, N]⟩ .f32) (b : Fin B) (t : Fin M)
    (hs : (⟨2, ![B, N]⟩ : Shape).Slices (fun _ => 0) ⟨2, ![B, M]⟩) :
    (Host.topK ⟨2, ![B, M]⟩ 1 (FloatOps.cmpfTotal .gt) x hs).2 (ix2 b t)
      = BitVec.ofNat 32 (ord (fun i => x (ix2 b i)) ⟨t.val, by omega⟩).val := by
  have hx : (fun a : Fin 2 => (⟨0 + ((ix2 b t : (⟨2, ![B, M]⟩ : Shape).Idx) (a.cast hs.1.symm)).val,
      Nat.lt_of_lt_of_le (Nat.add_lt_add_left (Fin.isLt _) _) (hs.2 a)⟩ : Fin ((⟨2, ![B, N]⟩ : Shape).size a)))
      = (ix2 b ⟨t.val, by omega⟩ : (⟨2, ![B, N]⟩ : Shape).Idx) := by
    funext a
    refine Fin.ext ?_
    match a with
    | ⟨0, _⟩ => exact Nat.zero_add _
    | ⟨1, _⟩ => exact Nat.zero_add _
  have e := sorted_places (N := N) (fun l r : Ideal .f32 × BitVec 32 => FloatOps.cmpfTotal .gt l.1 r.1) x
    (fun i j => decide (x (ix2 b j) < x (ix2 b i))) b (by
      intro k k' _ _
      show (BitVec.ofBool (decide (x (ix2 b k') < x (ix2 b k))) == 1#1) = _
      cases decide (x (ix2 b k') < x (ix2 b k)) <;> rfl) ⟨t.val, by omega⟩
  rw [ord_stable] at e
  rw [← e, ← hx]
  rfl

end Cert.Detect

namespace Cert.ReferenceIdeal.Value

open Idealize.ShloMosaic Cert.ReferenceIdeal.Gen Cert.ReferenceIdeal Cert.Detect

/-- The places of a row in the rising order of its numbers. -/
theorem arg_places (x : FVec Ideal S8x400 .f32) (b : Fin 8) (i : Fin 400) :
    (Host.sort2 S8x400 1 comparator_f32_i32_d1 x (iotaInDim S8x400 32 1)).2 (ix2 b i)
      = BitVec.ofNat 32 (up (fun p => x (ix2 b p)) i).val := by
  refine (sorted_places (N := 400) comparator_f32_i32_d1 x (fun i j => decide (x (ix2 b i) < x (ix2 b j))) b ?_ i).trans ?_
  · have zero : ∀ a : EReal, (Scalar.select (FloatOps.cmpf (F := Ideal) (φ := .f32) .une a a) (FloatOps.ofBits (F := Ideal) .f32 0x7FC00000#32)
        (Scalar.select (FloatOps.cmpf (F := Ideal) (φ := .f32) .oeq a (FloatOps.ofBits (F := Ideal) .f32 0x00000000#32))
          (FloatOps.ofBits (F := Ideal) .f32 0x00000000#32) a) : EReal) = a := by
      intro a
      have h1 : FloatOps.cmpf (F := Ideal) (φ := .f32) .une a a = 0#1 := by
        show BitVec.ofBool (decide (a ≠ a)) = _
        simp
      rw [h1]
      rw [Scalar.select, if_neg (by decide), Scalar.select]
      split
      · rename_i h; exact ((oeq_one _ _).1 h).symm
      · rfl
    intro k k' _ _
    show (FloatOps.cmpfTotal (F := Ideal) (φ := .f32) .lt (Scalar.select _ _ _) (Scalar.select _ _ _) == 1#1) = _
    rw [zero, zero]
    show (BitVec.ofBool (decide (x (ix2 b k) < x (ix2 b k'))) == 1#1) = _
    cases decide (x (ix2 b k) < x (ix2 b k')) <;> rfl
  · rw [up_stable]

end Cert.ReferenceIdeal.Value
-- ==== Proof.RBest.lean ====
/- A box's best class by the reference's two reductions. -/
module

public import proofs.«01_k».proof.Proof.Spec
public import proofs.«01_k».proof.Proof.RefRun
public import Idealize.ShloMosaic.PureOps.Reduce
public import Idealize.ShloMosaic.Lib.DynamicIndex

@[expose] public section

noncomputable section

namespace Cert.Detect

open Idealize.ShloMosaic

/-- A fold of a choice gives one of the things folded, and no other beats it. -/
theorem foldl_choice {β : Type} (f : β → β → β) (R : β → β → Prop) (refl : ∀ a, R a a)
    (trans : ∀ a b c, R a b → R b c → R a c) (one : ∀ a b, f a b = a ∨ f a b = b) (left : ∀ a b, R (f a b) a)
    (right : ∀ a b, R (f a b) b) (l : List β) (a : β) :
    (l.foldl f a = a ∨ l.foldl f a ∈ l) ∧ R (l.foldl f a) a ∧ ∀ x ∈ l, R (l.foldl f a) x := by
  induction l generalizing a with
  | nil => exact ⟨.inl rfl, refl a, fun x h => absurd h List.not_mem_nil⟩
  | cons y l ih =>
    obtain ⟨h1, h2, h3⟩ := ih (f a y)
    rw [List.foldl_cons]
    refine ⟨?_, trans _ _ _ h2 (left a y), ?_⟩
    · rcases h1 with h | h
      · rcases one a y with e | e
        · exact .inl (h.trans e)
        · right; rw [h, e]; exact List.mem_cons_self
      · exact .inr (List.mem_cons_of_mem _ h)
    · intro x hx
      rcases List.mem_cons.1 hx with rfl | hx
      · exact trans _ _ _ h2 (right a x)
      · exact h3 x hx

/-- The scan's result: a class that has the largest value, and no earlier class has it. -/
theorem scan_spec (c : Fin 21 → EReal) (k : ℕ) (hk : k < 21) :
    ∃ h : (Detect.scan c k).2 < 21, (Detect.scan c k).2 ≤ k ∧ (Detect.scan c k).1 = c ⟨_, h⟩ ∧
      (∀ j : Fin 21, j.val ≤ k → c j ≤ (Detect.scan c k).1) ∧
      ∀ j : Fin 21, j.val < (Detect.scan c k).2 → c j < (Detect.scan c k).1 := by
  induction k with
  | zero => exact ⟨Nat.zero_lt_succ 20, le_rfl, rfl, fun j hj => by
      have : j = 0 := Fin.ext (Nat.le_zero.1 hj)
      rw [this]; exact le_rfl, fun j hj => absurd hj (Nat.not_lt_zero _)⟩
  | succ k ih =>
    obtain ⟨h, hle, he, hmax, hfirst⟩ := ih (by omega)
    have hs : Detect.scan c (k + 1)
        = if (Detect.scan c k).1 < c ⟨k + 1, hk⟩ then (c ⟨k + 1, hk⟩, k + 1) else Detect.scan c k := by
      rw [Detect.scan, dif_pos hk]
    by_cases hlt : (Detect.scan c k).1 < c ⟨k + 1, hk⟩
    · rw [if_pos hlt] at hs
      rw [hs]
      refine ⟨hk, le_rfl, rfl, fun j hj => ?_, fun j hj => ?_⟩
      · rcases Nat.lt_or_ge j.val (k + 1) with hj' | hj'
        · exact (hmax j (by omega)).trans hlt.le
        · have : j = ⟨k + 1, hk⟩ := Fin.ext (by simpa using le_antisymm hj hj')
          rw [this]
      · exact lt_of_le_of_lt (hmax j (by simp only at hj; omega)) hlt
    · rw [if_neg hlt] at hs
      rw [hs]
      refine ⟨h, by omega, he, fun j hj => ?_, hfirst⟩
      rcases Nat.lt_or_ge j.val (k + 1) with hj' | hj'
      · exact hmax j (by omega)
      · have : j = ⟨k + 1, hk⟩ := Fin.ext (by simpa using le_antisymm hj hj')
        rw [this]; exact not_lt.1 hlt

/-- The better of two: a larger value, or the same value at a place not later. -/
def Better (a b : EReal × BitVec 32) : Prop := b.1 < a.1 ∨ (a.1 = b.1 ∧ a.2.toInt ≤ b.2.toInt)

theorem better_refl (a : EReal × BitVec 32) : Better a a := .inr ⟨rfl, le_rfl⟩

theorem better_trans (a b c : EReal × BitVec 32) (h : Better a b) (h' : Better b c) : Better a c := by
  rcases h with h | ⟨h, i⟩ <;> rcases h' with h' | ⟨h', i'⟩
  · exact .inl (h'.trans h)
  · exact .inl (h' ▸ h)
  · exact .inl (h ▸ h')
  · exact .inr ⟨h.trans h', i.trans i'⟩

/-- Of the classes with their places, a best one is what the scan gives. -/
theorem scan_best (c : Fin 21 → EReal) (r : EReal × BitVec 32)
    (one : r = (⊥, 0#32) ∨ ∃ k : Fin 21, r = (c k, BitVec.ofNat 32 k.val)) (all : ∀ k : Fin 21, Better r (c k, BitVec.ofNat 32 k.val)) :
    r = ((Detect.scan c 20).1, BitVec.ofNat 32 (Detect.scan c 20).2) := by
  obtain ⟨h, -, he, hmax, hfirst⟩ := scan_spec c 20 (by omega)
  have hn := all ⟨_, h⟩
  rcases one with rfl | ⟨k, rfl⟩
  · rcases hn with hn | ⟨hn, -⟩
    · exact absurd hn not_lt_bot
    · have h0 : (Detect.scan c 20).2 = 0 := by
        by_contra hne
        have := hfirst 0 (Nat.pos_of_ne_zero hne)
        rw [he] at this
        exact not_lt_bot (this.trans_eq hn.symm)
      rw [h0, he]
      exact Prod.ext hn rfl
  · have hck : c k = c ⟨_, h⟩ := by
      refine le_antisymm (he ▸ hmax k (by omega)) ?_
      rcases hn with hn | ⟨hn, -⟩
      · exact hn.le
      · exact hn.ge
    have hkn : ¬ k.val < (Detect.scan c 20).2 := fun hlt => by
      have := hfirst k hlt
      rw [he, hck] at this
      exact lt_irrefl _ this
    have hle : k.val ≤ (Detect.scan c 20).2 := by
      rcases hn with hn | ⟨-, hn⟩
      · exact absurd hck (ne_of_gt hn)
      · change (BitVec.ofNat 32 k.val).toInt ≤ (BitVec.ofNat 32 (Detect.scan c 20).2).toInt at hn
        rw [toInt_ofNat_of_lt (by omega), toInt_ofNat_of_lt (by omega)] at hn
        omega
    have : k.val = (Detect.scan c 20).2 := le_antisymm hle (not_lt.1 hkn)
    rw [he, hck, this]

end Cert.Detect

namespace Cert.ReferenceIdeal.Value

open Idealize.ShloMosaic Cert.ReferenceIdeal.Gen Cert.ReferenceIdeal Cert.Detect

/-- The reducer takes the better of two. -/
theorem reducer_eq (a b : EReal × BitVec 32) :
    reducer_argmax_f32_i32 (F := Ideal) a b = if b.1 < a.1 ∨ (a.1 = b.1 ∧ a.2.toInt < b.2.toInt) then a else b := by
  have hu : FloatOps.cmpf (F := Ideal) (φ := .f32) .une a.1 a.1 = 0#1 := by
    show BitVec.ofBool (decide (a.1 ≠ a.1)) = _
    simp
  have hg : FloatOps.cmpf (F := Ideal) (φ := .f32) .ogt a.1 b.1 = BitVec.ofBool (decide (b.1 < a.1)) := rfl
  have hq : FloatOps.cmpf (F := Ideal) (φ := .f32) .oeq a.1 b.1 = BitVec.ofBool (decide (a.1 = b.1)) := rfl
  have hl : IntOp.cmpi .slt a.2 b.2 = BitVec.ofBool (decide (a.2.toInt < b.2.toInt)) := rfl
  unfold reducer_argmax_f32_i32
  simp only [hu, hg, hq, hl]
  by_cases h1 : b.1 < a.1
  · have h2 : a.1 ≠ b.1 := ne_of_gt h1
    by_cases h3 : a.2.toInt < b.2.toInt <;> simp [h1, h2, h3, IntOp.ori, IntOp.andi, Scalar.select]
  · by_cases h2 : a.1 = b.1
    · by_cases h3 : a.2.toInt < b.2.toInt <;> simp [h2, h3, IntOp.ori, IntOp.andi, Scalar.select, Prod.ext_iff]
    · by_cases h3 : a.2.toInt < b.2.toInt <;> simp [h1, h2, h3, IntOp.ori, IntOp.andi, Scalar.select]

/-- The indices of a box's classes. -/
theorem class_indices (i : S8x5000x21.Idx) (b : Fin 8) (p : Fin 5000) :
    reducesTo_S8x5000x21_S8x5000_d2.drop i = ix2 b p ↔ ∃ k : Fin 21, i = ix3 b p k := by
  constructor
  · intro h
    refine ⟨i 2, funext fun a => Fin.ext ?_⟩
    have h0 := Shape.ReducesTo.drop_apply_val_of_eq reducesTo_S8x5000x21_S8x5000_d2 i 0 0
    have h1 := Shape.ReducesTo.drop_apply_val_of_eq reducesTo_S8x5000x21_S8x5000_d2 i 1 1
    rw [h] at h0 h1
    match a with
    | ⟨0, _⟩ => exact h0.symm
    | ⟨1, _⟩ => exact h1.symm
    | ⟨2, _⟩ => rfl
  · rintro ⟨k, rfl⟩
    funext a
    refine Fin.ext ?_
    match a with
    | ⟨0, _⟩ => exact Shape.ReducesTo.drop_apply_val_of_eq reducesTo_S8x5000x21_S8x5000_d2 (ix3 b p k) 0 0
    | ⟨1, _⟩ => exact Shape.ReducesTo.drop_apply_val_of_eq reducesTo_S8x5000x21_S8x5000_d2 (ix3 b p k) 1 1

theorem bot_bits : Ideal.ofBits .f32 0xFF800000#32 = ⊥ := by
  simp [Ideal.ofBits, Ideal.ieee]

/-- The largest class. -/
theorem max_at (c : Fin 21 → EReal) :
    (Finset.univ : Finset (Fin 21)).fold max (Ideal.ofBits .f32 0xFF800000#32) c = (Detect.scan c 20).1 := by
  obtain ⟨h, -, he, hmax, -⟩ := scan_spec c 20 (by omega)
  refine le_antisymm ?_ ?_
  · rw [Finset.fold_max_le]
    exact ⟨bot_bits ▸ bot_le, fun k _ => hmax k (by omega)⟩
  · rw [he, Finset.le_fold_max]
    exact .inr ⟨_, Finset.mem_univ _, le_rfl⟩

/-- The first class that has the largest value. -/
theorem argmax_at (x : FVec Ideal S8x5000x21 .f32) (b : Fin 8) (p : Fin 5000) :
    (Host.argReduce (reducer_argmax_f32_i32 (F := Ideal)) x (iotaInDim S8x5000x21 32 2)
        (constant (F := Ideal) S_ .f32 0xFF800000#32) (constantI S_ 32 0#32)
        reducesTo_S8x5000x21_S8x5000_d2 h_S_ (ix2 b p)).2
      = BitVec.ofNat 32 (Detect.scan (fun k => x (ix3 b p k)) 20).2 := by
  rw [Ideal.argReduce_eq_reduce2, Host.reduce2_eq_foldl_fiber]
  have hi : constant (F := Ideal) S_ .f32 0xFF800000#32 (Shape.Idx.first h_S_) = (⊥ : EReal) := bot_bits
  have hz : constantI S_ 32 0#32 (Shape.Idx.first h_S_) = 0#32 := rfl
  rw [hi, hz]
  obtain ⟨h1, -, h3⟩ := foldl_choice (reducer_argmax_f32_i32 (F := Ideal)) Better better_refl better_trans
    (fun a b => by rw [reducer_eq]; split; exacts [.inl rfl, .inr rfl])
    (fun a b => by
      rw [reducer_eq]; split
      · exact better_refl _
      · rename_i h
        rw [not_or, not_and, not_lt, not_lt] at h
        rcases lt_or_eq_of_le h.1 with h' | h'
        · exact .inl h'
        · exact .inr ⟨h'.symm, h.2 h'⟩)
    (fun a b => by
      rw [reducer_eq]; split
      · rename_i h
        rcases h with h | ⟨h, i⟩
        · exact .inl h
        · exact .inr ⟨h, i.le⟩
      · exact better_refl _)
    (Host.argReduceFiber x (iotaInDim S8x5000x21 32 2) reducesTo_S8x5000x21_S8x5000_d2 (ix2 b p)) ((⊥ : EReal), 0#32)
  have hm : ∀ k : Fin 21, (x (ix3 b p k), BitVec.ofNat 32 k.val)
      ∈ Host.argReduceFiber x (iotaInDim S8x5000x21 32 2) reducesTo_S8x5000x21_S8x5000_d2 (ix2 b p) := fun k =>
    List.mem_map.2 ⟨S8x5000x21.rowMajor (ix3 b p k), List.mem_filter.2 ⟨List.mem_finRange _,
      decide_eq_true (by rw [Equiv.symm_apply_apply]; exact (class_indices _ b p).2 ⟨k, rfl⟩)⟩, by
        rw [Equiv.symm_apply_apply]; rfl⟩
  refine congrArg Prod.snd (scan_best (fun k => x (ix3 b p k)) _ (h1.imp id fun h => ?_) fun k => h3 _ (hm k))
  obtain ⟨n, hn, e⟩ := List.mem_map.1 h
  obtain ⟨k, hk⟩ := (class_indices _ b p).1 (of_decide_eq_true (List.mem_filter.1 hn).2)
  refine ⟨k, e.symm.trans ?_⟩
  rw [hk]
  rfl

end Cert.ReferenceIdeal.Value
-- ==== Proof.RReads.lean ====
/- What the reference's stretches compute, at an index. -/
module

public import proofs.«01_k».proof.Proof.RTake
public import proofs.«01_k».proof.Proof.RBest
public import Idealize.ShloMosaic.Lib.StableHlo.ReadAt

@[expose] public section

noncomputable section

namespace Cert.ReferenceIdeal.Value

open Idealize.ShloMosaic Idealize.ShloMosaic.TcCoe Idealize.ShloMosaic.StableHlo
open Cert.ReferenceIdeal.Gen Cert.ReferenceIdeal Cert.Detect

variable (W : Valuation τ sig (Elt Ideal)) (b : Fin 8)

/-- The arguments, for one image. -/
abbrev refP (i : Fin 5000) (k : Fin 25) : EReal := (W (Proc.devRef .tc main_arg0) : FVec Ideal S8x5000x25 .f32) (ix3 b i k)
abbrev refQ (i : Fin 5000) (k : Fin 4) : EReal := (W (Proc.devRef .tc main_arg1) : FVec Ideal S5000x4 .f32) (ix2 i k)

/-! ## Boxes, best class, label -/

theorem v26_at (i : Fin 5000) (k : Fin 4) :
    (after hostOps0 W (Proc.devRef .tc main_v26) : FVec Ideal S8x5000x4 .f32) (ix3 b i k)
      = said (refP W b) (refQ W) i ⟨k.val, by omega⟩ := by
  after_reads_at
  fin_cases k <;> rfl

theorem v27_at (i : Fin 5000) (c : Fin 21) :
    (after hostOps0 W (Proc.devRef .tc main_v27) : FVec Ideal S8x5000x21 .f32) (ix3 b i c) = classOf (refP W b i) c := by
  after_reads_at
  exact congrArg (fun j => (W (Proc.devRef .tc main_arg0) : FVec Ideal S8x5000x25 .f32) (ix3 b i j)) (Fin.ext (Nat.add_comm _ _))

theorem v28_at (i : Fin 5000) :
    (after hostOps0 W (Proc.devRef .tc main_v28) : FVec Ideal S8x5000 .f32) (ix2 b i) = bestOf (refP W b i) := by
  after_reads_at
  rw [max_at]
  refine congrArg (fun c => (Detect.scan c 20).1) (funext fun c => ?_)
  exact congrArg (fun j => (W (Proc.devRef .tc main_arg0) : FVec Ideal S8x5000x25 .f32) (ix3 b i j)) (Fin.ext (Nat.add_comm _ _))

theorem v29_at (i : Fin 5000) :
    (after hostOps0_1 W (Proc.devRef .tc main_v29) : IVec S8x5000 32) (ix2 b i)
      = BitVec.ofNat 32 (Detect.scan (fun c => (W (Proc.devRef .tc main_v27) : FVec Ideal S8x5000x21 .f32) (ix3 b i c)) 20).2 := by
  after_reads_at
  exact argmax_at _ b i

theorem v32_at (i : Fin 5000) (P : Fin 25 → EReal) (h : (W (Proc.devRef .tc main_v28) : FVec Ideal S8x5000 .f32) (ix2 b i) = bestOf P) :
    (after hostOps0_3 (after hostOps0_2 W) (Proc.devRef .tc main_v32) : FVec Ideal S8x5000 .f32) (ix2 b i) = maskOf P := by
  after_reads_at
  rw [h]
  rfl

theorem v36_at (i : Fin 5000) (k : Fin 6) (P : Fin 5000 → Fin 25 → EReal) (Q : Fin 5000 → Fin 4 → EReal)
    (h26 : ∀ k : Fin 4, (W (Proc.devRef .tc main_v26) : FVec Ideal S8x5000x4 .f32) (ix3 b i k) = said P Q i ⟨k.val, by omega⟩)
    (h28 : (W (Proc.devRef .tc main_v28) : FVec Ideal S8x5000 .f32) (ix2 b i) = bestOf (P i))
    (h29 : (W (Proc.devRef .tc main_v29) : IVec S8x5000 32) (ix2 b i) = BitVec.ofNat 32 (Detect.scan (classOf (P i)) 20).2) :
    (after hostOps0_4 W (Proc.devRef .tc main_v36) : FVec Ideal S8x5000x6 .f32) (ix3 b i k) = said P Q i k := by
  after_reads_at
  split
  · exact h26 _
  · rename_i hk
    split
    · rename_i hk'
      obtain rfl : k = 4 := Fin.ext (by show k.val = 4; omega)
      after_reads_at
      rw [h29]
      show (((BitVec.ofNat 32 (Detect.scan (classOf (P i)) 20).2).toInt : ℝ) : EReal) = labelOf (P i)
      rw [toInt_ofNat_of_lt (by have := (scan_spec (classOf (P i)) 20 (by omega)).1; omega)]
      simp [labelOf]
    · rename_i hk'
      obtain rfl : k = 5 := Fin.ext (by show k.val = 5; omega)
      after_reads_at
      exact h28

theorem v37_at (t : Fin 400) (P : Fin 5000 → Fin 25 → EReal)
    (h32 : ∀ i, (W (Proc.devRef .tc main_v32) : FVec Ideal S8x5000 .f32) (ix2 b i) = maskOf (P i)) :
    (after hostOps0_4 W (Proc.devRef .tc main_v37) : IVec S8x400x1 32) (ix3 b t 0)
      = BitVec.ofNat 32 (nthBox P t).val := by
  after_reads_at
  refine (top_places (B := 8) (N := 5000) (M := 400) (by omega) _ b t _).trans ?_
  rw [funext h32]
  rfl

theorem v38_at (t : Fin 400) (k : Fin 6) (n : Fin 5000)
    (h37 : (W (Proc.devRef .tc main_v37) : IVec S8x400x1 32) (ix3 b t 0) = BitVec.ofNat 32 n.val) :
    (after hostOps0_5 W (Proc.devRef .tc main_v38) : FVec Ideal S8x400x6 .f32) (ix3 b t k)
      = (W (Proc.devRef .tc main_v36) : FVec Ideal S8x5000x6 .f32) (ix3 b n k) := by
  after_reads_at
  exact rows_wrapped (B := 8) (N := 5000) (C := 6) (M := 400) (by omega) (by omega)
    gather_S8x5000x6_S8x400x1_S8x400x6_2_1_0_0_1_2_116_wf _ _ _ _ b t k n h37 rfl

/-! ## The walk's inputs -/

theorem v92_0_at (p : Fin 400) :
    (after hostOps0_6 W (Proc.devRef .tc main_v92_0) : IVec S8x400 1) (ix2 b p) = 1#1
      ↔ half < (W (Proc.devRef .tc main_v38) : FVec Ideal S8x400x6 .f32) (ix3 b p 5) := by
  have e : (after hostOps0_6 W (Proc.devRef .tc main_v92_0) : IVec S8x400 1) (ix2 b p)
      = BitVec.ofBool (decide (half < (W (Proc.devRef .tc main_v38) : FVec Ideal S8x400x6 .f32) (ix3 b p 5))) := by
    after_reads_at
    rfl
  rw [e, ofBool_eq_one, decide_eq_true_iff]

theorem v92_1_at (i p : Fin 400) (R : Fin 6 → Fin 400 → EReal)
    (h : ∀ k p, (W (Proc.devRef .tc main_v38) : FVec Ideal S8x400x6 .f32) (ix3 b p k) = R k p) :
    (after hostOps0_6 W (Proc.devRef .tc main_v92_1) : FVec Ideal S8x400x400 .f32) (ix3 b i p)
      = shareOf (R 0) (R 1) (R 2) (R 3) i p := by
  have e : (after hostOps0_6 W (Proc.devRef .tc main_v92_1) : FVec Ideal S8x400x400 .f32)
      = (after hostOps0_6 W (Proc.devRef .tc main_v89) : FVec Ideal S8x400x400 .f32) := by
    after_reads_simp
    rfl
  rw [e]
  after_reads_at
  simp only [h, max_comm _ (0 : EReal)]
  rfl

theorem v92_2_at (p : Fin 400) :
    (after hostOps0_6 W (Proc.devRef .tc main_v92_2) : IVec S400 32) (ix1 p) = BitVec.ofNat 32 p.val := by
  after_reads_at
  rfl

theorem v92_5_at (p : Fin 400) :
    (after hostOps0_6 W (Proc.devRef .tc main_v92_5) : IVec S8x400 1) (ix2 b p) = 1#1 := by
  after_reads_at
  rfl

/-! ## After the walk -/

theorem v95_at (p : Fin 400) (K : Bool) (y : EReal)
    (hK : (W (Proc.devRef .tc main_v92_5) : IVec S8x400 1) (ix2 b p) = 1#1 ↔ K = true)
    (hy : (W (Proc.devRef .tc main_v38) : FVec Ideal S8x400x6 .f32) (ix3 b p 1) = y) :
    (after hostOps0_8 (after hostOps0_7 W) (Proc.devRef .tc main_v95) : FVec Ideal S8x400 .f32) (ix2 b p)
      = if K = true then y else ⊤ := by
  after_reads_at
  rw [hy, Scalar.select]
  refine (if_congr hK rfl ?_)
  show Ideal.ofBits .f32 0x7F800000#32 = ⊤
  simp [Ideal.ofBits, Ideal.ieee]

theorem v96_at (i : Fin 400) :
    (after hostOps0_9 W (Proc.devRef .tc main_v96) : IVec S8x400 32) (ix2 b i)
      = BitVec.ofNat 32 (up (fun p => (W (Proc.devRef .tc main_v95) : FVec Ideal S8x400 .f32) (ix2 b p)) i).val := by
  after_reads_at
  exact arg_places _ b i

theorem v100_at (p : Fin 400) (k : Fin 6) (K : Bool) (y : EReal)
    (hK : (W (Proc.devRef .tc main_v92_5) : IVec S8x400 1) (ix2 b p) = 1#1 ↔ K = true)
    (hy : (W (Proc.devRef .tc main_v38) : FVec Ideal S8x400x6 .f32) (ix3 b p k) = y) :
    (after hostOps0_10 W (Proc.devRef .tc main_v100) : FVec Ideal S8x400x6 .f32) (ix3 b p k) = if K = true then y else 0 := by
  have e : ∀ w : BitVec 1, (w = 1#1 ↔ K = true) → y * (((w.toNat : ℕ) : ℝ) : EReal) = if K = true then y else 0 := by
    intro w hw
    by_cases h : K = true
    · rw [if_pos h, hw.2 h]; simp
    · have : w ≠ 1#1 := fun h' => h (hw.1 h')
      have h0 : w = 0#1 := by clear hw; revert w; decide
      rw [if_neg h, h0]; simp
  after_reads_at
  rw [hy]
  exact e _ hK

theorem v102_at (i : Fin 200) :
    (after hostOps0_10 W (Proc.devRef .tc main_v102) : IVec S8x200x1 32) (ix3 b i 0)
      = (W (Proc.devRef .tc main_v96) : IVec S8x400 32) (ix2 b ⟨i.val, by omega⟩) := by
  after_reads_at

theorem v103_at (i : Fin 200) (k : Fin 6) (n : Fin 400)
    (h : (W (Proc.devRef .tc main_v102) : IVec S8x200x1 32) (ix3 b i 0) = BitVec.ofNat 32 n.val) :
    (after hostOps0_11 W (Proc.devRef .tc main_v103) : FVec Ideal S8x200x6 .f32) (ix3 b i k)
      = (W (Proc.devRef .tc main_v100) : FVec Ideal S8x400x6 .f32) (ix3 b n k) := by
  after_reads_at
  exact rows_wrapped (B := 8) (N := 400) (C := 6) (M := 200) (by omega) (by omega)
    gather_S8x400x6_S8x200x1_S8x200x6_2_1_0_0_1_2_116_wf _ _ _ _ b i k n h rfl

end Cert.ReferenceIdeal.Value
-- ==== Proof.RTrip.lean ====
/- One trip of the reference's loop is one round of the walk. -/
module

public import proofs.«01_k».proof.Proof.Spec
public import proofs.«01_k».proof.Proof.RefRun
public import Idealize.ShloMosaic.Lib.DynamicIndex
public import Idealize.ShloMosaic.Lib.Pipeline.Value
public import Idealize.ShloMosaic.Lib.Pointwise

@[expose] public section

noncomputable section

namespace Cert.ReferenceIdeal.Value

open Idealize.ShloMosaic Idealize.ShloMosaic.TcCoe Idealize.ShloMosaic.StableHlo
open Cert.ReferenceIdeal.Gen Cert.ReferenceIdeal Cert.Detect

/-- The loop's buffers. -/
abbrev markW (W : Valuation τ sig (Elt Ideal)) : IVec S8x400 1 := W (Proc.devRef .tc main_v92_5)
abbrev highW (W : Valuation τ sig (Elt Ideal)) : IVec S8x400 1 := W (Proc.devRef .tc main_v92_0)
abbrev shareW (W : Valuation τ sig (Elt Ideal)) : FVec Ideal S8x400x400 .f32 := W (Proc.devRef .tc main_v92_1)
abbrev placeW (W : Valuation τ sig (Elt Ideal)) : IVec S400 32 := W (Proc.devRef .tc main_v92_2)
abbrev tripW (W : Valuation τ sig (Elt Ideal)) : IVec S_ 32 := W (Proc.devRef .tc main_v92_4)

/-- The trip's number as an index, wrapped once. -/
abbrev wrapped (n : IVec S_ 32) : IVec S_ 32 := select (cmpi .slt n (constantI S_ 32 0#32)) (addi (id n) (constantI S_ 32 400#32)) n

theorem wrapped_int (k : Fin 400) : (wrapped (constantI S_ 32 (BitVec.ofNat 32 k.val)) (Shape.Idx.first h_S_)).toInt = (k.val : Int) :=
  toInt_wrap_ofNat k.val (by have := k.isLt; omega)

/-- The trip's own slot: its mark and its score's bit. -/
abbrev ownBits (n : IVec S_ 32) (M H : IVec S8x400 1) : IVec S8x1 1 :=
  Host.dynamicSlice S8x1 (andi M H)
    (fun k => (((![constantI S_ 32 0#32, wrapped n] : Fin 2 → IVec S_ 32)) k (Shape.Idx.first h_S_)).toInt) sliceFits_S8x400_S8x1

/-- The trip's row of shares. -/
abbrev ownShares (n : IVec S_ 32) (S : FVec Ideal S8x400x400 .f32) : FVec Ideal S8x1x400 .f32 :=
  Host.dynamicSlice S8x1x400 S
    (fun k => (((![constantI S_ 32 0#32, wrapped n, constantI S_ 32 0#32] : Fin 3 → IVec S_ 32)) k (Shape.Idx.first h_S_)).toInt)
    sliceFits_S8x400x400_S8x1x400

/-- The marks but the own one. -/
abbrev struck (n : IVec S_ 32) (M : IVec S8x400 1) (I : IVec S400 32) (X : FVec Ideal S8x1x400 .f32) (R : IVec S8x1 1) : IVec S8x400 1 :=
  andi M (noti (andi (andi (cmpf .ogt (shapeCast S8x400 X shapeCasts_S8x1x400_S8x400)
    (broadcastInDim S8x400 ![] bcast_S_S8x400 (constant (F := Ideal) S_ .f32 0x3F000000#32)))
      (broadcastInDim S8x400 ![0, 1] bcast_S1x400_S8x400_0_1 (broadcastInDim S1x400 ![1] bcast_S400_S1x400_1
        (cmpi .sgt I (broadcastInDim S400 ![] bcast_S_S400 (id n))))))
    (broadcastInDim S8x400 ![0, 1] bcast_S8x1_S8x400_0_1 R)))

/-- The marks after the trip. -/
abbrev marksNext (n : IVec S_ 32) (M : IVec S8x400 1) (R : IVec S8x1 1) : IVec S8x400 1 :=
  Host.dynamicUpdateSlice M R
    (fun k => (((![constantI S_ 32 0#32, wrapped n] : Fin 2 → IVec S_ 32)) k (Shape.Idx.first h_S_)).toInt) updateFits_S8x400_S8x1

theorem step_eq (W : Valuation τ sig (Elt Ideal)) :
    step_main_v92_5 W = marksNext (tripW W) (struck (tripW W) (markW W) (placeW W) (ownShares (tripW W) (shareW W))
      (ownBits (tripW W) (markW W) (highW W))) (ownBits (tripW W) (markW W) (highW W)) := rfl

variable (k : Fin 400)

theorem ownBits_at (M H : IVec S8x400 1) (b : Fin 8) :
    ownBits (constantI S_ 32 (BitVec.ofNat 32 k.val)) M H (ix2 b 0) = M (ix2 b k) &&& H (ix2 b k) := by
  have hk := k.isLt
  unfold ownBits
  rw [Host.dynamicSlice_eq_extractStridedSlice (s := S8x400) S8x1 _ _ (![0, k.val]) _ ⟨rfl, fun a => by
    match a with
    | ⟨0, _⟩ => show 0 + 8 ≤ 8; omega
    | ⟨1, _⟩ => show k.val + 1 ≤ 400; omega⟩]
  · refine congrArg (andi M H) (funext fun a => Fin.ext ?_ : _ = (ix2 b k : S8x400.Idx))
    match a with
    | ⟨0, _⟩ => exact Nat.zero_add _
    | ⟨1, _⟩ => rfl
  · intro a
    match a with
    | ⟨0, _⟩ => rfl
    | ⟨1, _⟩ => exact wrapped_int k

theorem ownShares_at (S : FVec Ideal S8x400x400 .f32) (b : Fin 8) (p : Fin 400) :
    ownShares (constantI S_ 32 (BitVec.ofNat 32 k.val)) S (ix3 b 0 p) = S (ix3 b k p) := by
  have hk := k.isLt
  unfold ownShares
  rw [Host.dynamicSlice_eq_extractStridedSlice (s := S8x400x400) S8x1x400 _ _ (![0, k.val, 0]) _ ⟨rfl, fun a => by
    match a with
    | ⟨0, _⟩ => show 0 + 8 ≤ 8; omega
    | ⟨1, _⟩ => show k.val + 1 ≤ 400; omega
    | ⟨2, _⟩ => show 0 + 400 ≤ 400; omega⟩]
  · refine congrArg S (funext fun a => Fin.ext ?_ : _ = (ix3 b k p : S8x400x400.Idx))
    match a with
    | ⟨0, _⟩ => exact Nat.zero_add _
    | ⟨1, _⟩ => rfl
    | ⟨2, _⟩ => exact Nat.zero_add _
  · intro a
    match a with
    | ⟨0, _⟩ => rfl
    | ⟨1, _⟩ => exact wrapped_int k
    | ⟨2, _⟩ => rfl

theorem marksNext_at (M : IVec S8x400 1) (R : IVec S8x1 1) (b : Fin 8) (p : Fin 400) :
    marksNext (constantI S_ 32 (BitVec.ofNat 32 k.val)) M R (ix2 b p) = if p = k then R (ix2 b 0) else M (ix2 b p) := by
  have hk := k.isLt
  unfold marksNext
  rw [Host.dynamicUpdateSlice_eq_updateSlice (s := S8x400) (u := S8x1) _ _ _ _ (![0, k.val]) ?_ ⟨rfl, fun a => by
    match a with
    | ⟨0, _⟩ => show 0 + 8 ≤ 8; omega
    | ⟨1, _⟩ => show k.val + 1 ≤ 400; omega⟩]
  · unfold updateSlice
    by_cases hp : p = k
    · subst hp
      rw [if_pos rfl, dif_pos]
      · refine congrArg R (funext fun a => Fin.ext ?_)
        match a with
        | ⟨0, _⟩ => rfl
        | ⟨1, _⟩ => exact Nat.sub_self _
      · intro a
        match a with
        | ⟨0, _⟩ => exact ⟨Nat.zero_le _, by show b.val < 0 + 8; omega⟩
        | ⟨1, _⟩ => exact ⟨le_rfl, by show p.val < p.val + 1; omega⟩
    · rw [if_neg hp, dif_neg]
      intro h
      have h1 := h 1
      have a1 : k.val ≤ p.val := h1.1
      have a2 : p.val < k.val + 1 := h1.2
      exact hp (Fin.ext (by omega))
  · intro a
    match a with
    | ⟨0, _⟩ => rfl
    | ⟨1, _⟩ =>
      show (min (max (wrapped (constantI S_ 32 (BitVec.ofNat 32 k.val)) (Shape.Idx.first h_S_)).toInt 0) ((399 : ℕ) : Int)).toNat = k.val
      rw [wrapped_int k]
      omega

theorem struck_at (M : IVec S8x400 1) (I : IVec S400 32) (X : FVec Ideal S8x1x400 .f32) (R : IVec S8x1 1) (b : Fin 8) (p : Fin 400) :
    struck (constantI S_ 32 (BitVec.ofNat 32 k.val)) M I X R (ix2 b p)
      = M (ix2 b p) &&& ~~~ ((FloatOps.cmpf (F := Ideal) (φ := .f32) .ogt (X (ix3 b 0 p)) half
          &&& IntOp.cmpi .sgt (I (ix1 p)) (BitVec.ofNat 32 k.val)) &&& R (ix2 b 0)) := by
  pointwise [struck]
  rfl

/-- One trip is one round. -/
theorem round_at (M H : IVec S8x400 1) (S : FVec Ideal S8x400x400 .f32) (I : IVec S400 32)
    (b : Fin 8) (v x1 y1 x2 y2 : Fin 400 → EReal) (K : Fin 400 → Bool)
    (hK : ∀ p, M (ix2 b p) = 1#1 ↔ K p = true) (h0 : ∀ p, H (ix2 b p) = 1#1 ↔ half < v p)
    (h1 : ∀ i p, S (ix3 b i p) = shareOf x1 y1 x2 y2 i p) (h2 : ∀ p : Fin 400, I (ix1 p) = BitVec.ofNat 32 p.val)
    (p : Fin 400) :
    marksNext (constantI S_ 32 (BitVec.ofNat 32 k.val)) (struck (constantI S_ 32 (BitVec.ofNat 32 k.val)) M I
        (ownShares (constantI S_ 32 (BitVec.ofNat 32 k.val)) S) (ownBits (constantI S_ 32 (BitVec.ofNat 32 k.val)) M H))
        (ownBits (constantI S_ 32 (BitVec.ofNat 32 k.val)) M H) (ix2 b p) = 1#1
      ↔ roundOf v x1 y1 x2 y2 k K p = true := by
  have hk := k.isLt
  have hp := p.isLt
  rw [marksNext_at, ownBits_at, struck_at, ownShares_at, ownBits_at, h1, h2]
  have not_one : ∀ x : BitVec 1, ~~~ x = 1#1 ↔ ¬ x = 1#1 := by decide
  have hs : IntOp.cmpi .sgt (BitVec.ofNat 32 p.val) (BitVec.ofNat 32 k.val) = 1#1 ↔ k.val < p.val := by
    show BitVec.ofBool (decide ((BitVec.ofNat 32 k.val).toInt < (BitVec.ofNat 32 p.val).toInt)) = 1#1 ↔ _
    rw [ofBool_eq_one, decide_eq_true_iff, toInt_ofNat_of_lt (by omega), toInt_ofNat_of_lt (by omega)]
    omega
  unfold roundOf
  split
  · simp only [and_one, hK, h0, Bool.and_eq_true, decide_eq_true_iff]
  · simp only [and_one, not_one, hK, h0, hs, ogt_one, Bool.and_eq_true, Bool.not_eq_true', decide_eq_true_iff,
      ← Bool.not_eq_true]

/-- The same, of the buffers. -/
theorem trip_round (W : Valuation τ sig (Elt Ideal)) (b : Fin 8) (v x1 y1 x2 y2 : Fin 400 → EReal) (K : Fin 400 → Bool)
    (h4 : tripW W = constantI S_ 32 (BitVec.ofNat 32 k.val))
    (hK : ∀ p, markW W (ix2 b p) = 1#1 ↔ K p = true) (h0 : ∀ p, highW W (ix2 b p) = 1#1 ↔ half < v p)
    (h1 : ∀ i p, shareW W (ix3 b i p) = shareOf x1 y1 x2 y2 i p) (h2 : ∀ p : Fin 400, placeW W (ix1 p) = BitVec.ofNat 32 p.val)
    (p : Fin 400) :
    (step_main_v92_5 W : IVec S8x400 1) (ix2 b p) = 1#1 ↔ roundOf v x1 y1 x2 y2 k K p = true := by
  rw [step_eq, h4]
  exact round_at k _ _ _ _ b v x1 y1 x2 y2 K hK h0 h1 h2 p

end Cert.ReferenceIdeal.Value
-- ==== Proof.RValue.lean ====
/- What the reference answers, for one image. -/
module

public import proofs.«01_k».proof.Proof.RReads
public import proofs.«01_k».proof.Proof.RTrip

@[expose] public section

set_option maxRecDepth 8192

noncomputable section

namespace Cert.ReferenceIdeal.Value

open Idealize.ShloMosaic Idealize.ShloMosaic.TcCoe Idealize.ShloMosaic.StableHlo
open Cert.ReferenceIdeal.Gen Cert.ReferenceIdeal Cert.Detect

/-- The selected boxes, six numbers each. -/
abbrev rowsW (W : Valuation τ sig (Elt Ideal)) : FVec Ideal S8x400x6 .f32 := W (Proc.devRef .tc main_v38)

/-- The walk's buffers after `t` rounds. -/
structure Walks (W : Valuation τ sig (Elt Ideal)) (b : Fin 8) (P : Fin 5000 → Fin 25 → EReal) (Q : Fin 5000 → Fin 4 → EReal)
    (t : ℕ) : Prop where
  trip : tripW W = constantI S_ 32 (BitVec.ofNat 32 t)
  rows : ∀ k p, rowsW W (ix3 b p k) = rowSaid P Q k p
  high : ∀ p, highW W (ix2 b p) = 1#1 ↔ half < rowSaid P Q 5 p
  share : ∀ i p, shareW W (ix3 b i p) = shareOf (rowSaid P Q 0) (rowSaid P Q 1) (rowSaid P Q 2) (rowSaid P Q 3) i p
  place : ∀ p : Fin 400, placeW W (ix1 p) = BitVec.ofNat 32 p.val
  mark : ∀ p, markW W (ix2 b p) = 1#1
    ↔ marksOf (rowSaid P Q 5) (rowSaid P Q 0) (rowSaid P Q 1) (rowSaid P Q 2) (rowSaid P Q 3) t p = true

theorem walk_rows (W : Valuation τ sig (Elt Ideal)) (b : Fin 8) (k : Fin 6) (t : Fin 400) :
    rowsW (after hostOps0_5 (after hostOps0_4 (after hostOps0_3 (after hostOps0_2 (after hostOps0_1 (after hostOps0 W)))))) (ix3 b t k)
      = rowSaid (refP W b) (refQ W) k t := by
  have h26 : ∀ i (k : Fin 4), (after hostOps0_3 (after hostOps0_2 (after hostOps0_1 (after hostOps0 W))) (Proc.devRef .tc main_v26) : FVec Ideal S8x5000x4 .f32) (ix3 b i k)
      = said (refP W b) (refQ W) i ⟨k.val, by omega⟩ := fun i k => by
    rw [after_of_writes_sub hostOps0_3 _ hostOps0_3_writes (by decide +kernel), after_of_writes_sub hostOps0_2 _ hostOps0_2_writes (by decide +kernel),
      after_of_writes_sub hostOps0_1 _ hostOps0_1_writes (by decide +kernel)]
    exact v26_at W b i k
  have h28' : ∀ i, (after hostOps0_1 (after hostOps0 W) (Proc.devRef .tc main_v28) : FVec Ideal S8x5000 .f32) (ix2 b i) = bestOf (refP W b i) := fun i => by
    rw [after_of_writes_sub hostOps0_1 _ hostOps0_1_writes (by decide +kernel)]
    exact v28_at W b i
  have h28 : ∀ i, (after hostOps0_3 (after hostOps0_2 (after hostOps0_1 (after hostOps0 W))) (Proc.devRef .tc main_v28) : FVec Ideal S8x5000 .f32) (ix2 b i)
      = bestOf (refP W b i) := fun i => by
    rw [after_of_writes_sub hostOps0_3 _ hostOps0_3_writes (by decide +kernel), after_of_writes_sub hostOps0_2 _ hostOps0_2_writes (by decide +kernel)]
    exact h28' i
  have h29 : ∀ i, (after hostOps0_3 (after hostOps0_2 (after hostOps0_1 (after hostOps0 W))) (Proc.devRef .tc main_v29) : IVec S8x5000 32) (ix2 b i)
      = BitVec.ofNat 32 (Detect.scan (classOf (refP W b i)) 20).2 := fun i => by
    rw [after_of_writes_sub hostOps0_3 _ hostOps0_3_writes (by decide +kernel), after_of_writes_sub hostOps0_2 _ hostOps0_2_writes (by decide +kernel)]
    refine (v29_at (after hostOps0 W) b i).trans ?_
    exact congrArg (fun f => BitVec.ofNat 32 (Detect.scan f 20).2) (funext fun c => v27_at W b i c)
  have h32 : ∀ i, (after hostOps0_3 (after hostOps0_2 (after hostOps0_1 (after hostOps0 W))) (Proc.devRef .tc main_v32) : FVec Ideal S8x5000 .f32) (ix2 b i)
      = maskOf (refP W b i) := fun i => v32_at _ b i _ (h28' i)
  refine (v38_at _ b t k (nthBox (refP W b) t) (v37_at _ b t (refP W b) h32)).trans ?_
  exact v36_at _ b _ k (refP W b) (refQ W) (h26 _) (h28 _) (h29 _)

/-- The walk's buffers before the first round. -/
theorem walk_start (W : Valuation τ sig (Elt Ideal)) (b : Fin 8) (P : Fin 5000 → Fin 25 → EReal) (Q : Fin 5000 → Fin 4 → EReal)
    (h : ∀ k p, rowsW W (ix3 b p k) = rowSaid P Q k p) : Walks (after hostOps0_6 W) b P Q 0 where
  trip := by
    have e : tripW (after hostOps0_6 W) = id (constantI S_ 32 0#32) := by
      unfold tripW
      after_reads_simp
    exact e
  rows k p := by
    unfold rowsW
    rw [after_of_writes_sub hostOps0_6 _ hostOps0_6_writes (by decide +kernel)]
    exact h k p
  high p := (v92_0_at W b p).trans (by rw [← h 5 p])
  share i p := v92_1_at W b i p (fun k p => rowSaid P Q k p) h
  place p := v92_2_at W p
  mark p := iff_of_true (v92_5_at W b p) rfl

/-- One round. -/
theorem walk_next (W : Valuation τ sig (Elt Ideal)) (b : Fin 8) (P : Fin 5000 → Fin 25 → EReal) (Q : Fin 5000 → Fin 4 → EReal)
    (t : ℕ) (ht : t < 400) (h : Walks W b P Q t) : Walks (afterL bodyI (after condOps W)) b P Q (t + 1) := by
  have c4 : tripW (after condOps W) = tripW W := after_of_writes_sub condOps _ condOps_writes (by decide +kernel)
  have c5 : markW (after condOps W) = markW W := after_of_writes_sub condOps _ condOps_writes (by decide +kernel)
  have c0 : highW (after condOps W) = highW W := after_of_writes_sub condOps _ condOps_writes (by decide +kernel)
  have c1 : shareW (after condOps W) = shareW W := after_of_writes_sub condOps _ condOps_writes (by decide +kernel)
  have c2 : placeW (after condOps W) = placeW W := after_of_writes_sub condOps _ condOps_writes (by decide +kernel)
  have c38 : rowsW (after condOps W) = rowsW W := after_of_writes_sub condOps _ condOps_writes (by decide +kernel)
  generalize after condOps W = V at *
  refine ⟨?_, fun k p => ?_, fun p => ?_, fun i p => ?_, fun p => ?_, fun p => ?_⟩
  · have e : tripW (afterL bodyI V) = addi (tripW V) (constantI S_ 32 1#32) := trip_main_v92_4 V
    rw [e, c4, h.trip]
    funext j
    show BitVec.ofNat 32 t + 1#32 = BitVec.ofNat 32 (t + 1)
    rw [BitVec.ofNat_add]
  · have e : rowsW (afterL bodyI V) = rowsW V := by
      unfold rowsW
      simp only [afterL_cons, afterL_nil]
      exact after_of_writes_sub while0Ops0 _ while0Ops0_writes (by decide +kernel)
    rw [e, c38]; exact h.rows k p
  · have e : highW (afterL bodyI V) = highW V := trip_main_v92_0 V
    rw [e, c0]; exact h.high p
  · have e : shareW (afterL bodyI V) = shareW V := trip_main_v92_1 V
    rw [e, c1]; exact h.share i p
  · have e : placeW (afterL bodyI V) = placeW V := trip_main_v92_2 V
    rw [e, c2]; exact h.place p
  · have e : markW (afterL bodyI V) = step_main_v92_5 V := trip_main_v92_5 V
    rw [e]
    refine (trip_round ⟨t, ht⟩ V b _ _ _ _ _ _ (c4.trans h.trip) (fun p => by rw [c5]; exact h.mark p) (fun p => by rw [c0]; exact h.high p)
      (fun i p => by rw [c1]; exact h.share i p) (fun p => by rw [c2]; exact h.place p) p).trans ?_
    rw [marksOf, dif_pos ht]

/-- After the walk: the answer. -/
theorem walk_end (W : Valuation τ sig (Elt Ideal)) (b : Fin 8) (P : Fin 5000 → Fin 25 → EReal) (Q : Fin 5000 → Fin 4 → EReal)
    (h : Walks W b P Q 400) (i : Fin 200) (k : Fin 6) :
    (afterL postI W (Proc.devRef .tc main_v103) : FVec Ideal S8x200x6 .f32) (ix3 b i k) = answer P Q i k := by
  simp only [afterL_cons, afterL_nil]
  have h95 : ∀ p, (after hostOps0_8 (after hostOps0_7 W) (Proc.devRef .tc main_v95) : FVec Ideal S8x400 .f32) (ix2 b p)
      = if stays P Q p = true then rowSaid P Q 1 p else ⊤ := fun p => v95_at W b p _ _ (h.mark p) (h.rows 1 p)
  have h96 : (after hostOps0_9 (after hostOps0_8 (after hostOps0_7 W)) (Proc.devRef .tc main_v96) : IVec S8x400 32) (ix2 b ⟨i.val, by omega⟩)
      = BitVec.ofNat 32 (nthKept P Q i).val := by
    refine (v96_at _ b ⟨i.val, by omega⟩).trans ?_
    exact congrArg (fun f => BitVec.ofNat 32 (up f ⟨i.val, by omega⟩).val) (funext h95)
  refine (v103_at _ b i k (nthKept P Q i) ((v102_at _ b i).trans h96)).trans ?_
  refine v100_at _ b (nthKept P Q i) k (stays P Q (nthKept P Q i)) (rowSaid P Q k (nthKept P Q i)) ?_ ?_
  · rw [after_of_writes_sub hostOps0_9 _ hostOps0_9_R_writes (by decide +kernel), after_of_writes_sub hostOps0_8 _ hostOps0_8_R_writes (by decide +kernel),
      after_of_writes_sub hostOps0_7 _ hostOps0_7_R_writes (by decide +kernel)]
    exact h.mark _
  · rw [after_of_writes_sub hostOps0_9 _ hostOps0_9_R_writes (by decide +kernel), after_of_writes_sub hostOps0_8 _ hostOps0_8_R_writes (by decide +kernel),
      after_of_writes_sub hostOps0_7 _ hostOps0_7_R_writes (by decide +kernel)]
    exact h.rows k _

section run
variable (m : (ℓ : Loc nD τ sig) → Buf (Elt Ideal) ℓ) (c : Dev nD) (b : Fin 8)

/-- The arguments, for one image. -/
abbrev imageP : Fin 5000 → Fin 25 → EReal := fun i k => (m ((c.tc : Thread nD τ).loc main_arg0) : FVec Ideal S8x5000x25 .f32) (ix3 b i k)
abbrev imageQ : Fin 5000 → Fin 4 → EReal := fun i k => (m ((c.tc : Thread nD τ).loc main_arg1) : FVec Ideal S5000x4 .f32) (ix2 i k)

theorem walk_at : ∀ t, t ≤ 400 → Walks (atK m t c) b (imageP m c b) (imageQ m c) t
  | 0, _ => by
    rw [show atK m 0 c = entryContents preI m c from rfl]
    simp only [entryContents, afterL_cons, afterL_nil]
    exact walk_start _ b _ _ fun k p => walk_rows (launchContents m c) b k p
  | t + 1, ht => by
    rw [show atK m (t + 1) c = afterL bodyI (after condOps (atK m t c)) from rfl]
    exact walk_next _ b _ _ t (by omega) (walk_at t (by omega))

/-- The reference's result. -/
theorem final_at (i : Fin 200) (k : Fin 6) :
    (finalContents condOps preI bodyI postI 400 m c (Proc.devRef .tc main_v103) : FVec Ideal S8x200x6 .f32) (ix3 b i k)
      = answer (imageP m c b) (imageQ m c) i k := by
  have h := walk_at m c b 400 le_rfl
  have h' : Walks (after condOps (atK m 400 c)) b (imageP m c b) (imageQ m c) 400 := by
    refine ⟨?_, fun k p => ?_, fun p => ?_, fun i p => ?_, fun p => ?_, fun p => ?_⟩
    · exact (after_of_writes_sub condOps _ condOps_writes (by decide +kernel)).trans h.trip
    · exact (congrFun (after_of_writes_sub condOps _ condOps_writes (by decide +kernel)) _).trans (h.rows k p)
    · rw [show highW (after condOps (atK m 400 c)) = highW (atK m 400 c) from after_of_writes_sub condOps _ condOps_writes (by decide +kernel)]
      exact h.high p
    · exact (congrFun (after_of_writes_sub condOps _ condOps_writes (by decide +kernel)) _).trans (h.share i p)
    · exact (congrFun (after_of_writes_sub condOps _ condOps_writes (by decide +kernel)) _).trans (h.place p)
    · rw [show markW (after condOps (atK m 400 c)) = markW (atK m 400 c) from after_of_writes_sub condOps _ condOps_writes (by decide +kernel)]
      exact h.mark p
  exact walk_end _ b _ _ h' i k

end run

end Cert.ReferenceIdeal.Value
-- ==== Proof.Equation.lean ====
/- Kernel and reference leave the same numbers. -/
module

public import proofs.«01_k».proof.Defs
public import proofs.«01_k».proof.Proof.Heights
public import proofs.«01_k».proof.Proof.KArgs
public import proofs.«01_k».proof.Proof.RValue

@[expose] public section

set_option maxRecDepth 8192

noncomputable section

namespace Cert.Proof

open Idealize.ShloMosaic Idealize.SL.Sem Cert.Detect

/-- Every index of the result names an image, a row and a column. -/
theorem result_index (j : Cert.KernelIdeal.S8x200x6.Idx) : ∃ (b : Fin 8) (i : Fin 200) (k : Fin 6), j = ix3 b i k :=
  ⟨j 0, j 1, j 2, by funext a; fin_cases a <;> rfl⟩

/-- The two results, of the same arguments. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_heights_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Idealize.ShloMosaic.StableHlo.finalContents Cert.ReferenceIdeal.Value.condOps Cert.ReferenceIdeal.Value.preI Cert.ReferenceIdeal.Value.bodyI
      Cert.ReferenceIdeal.Value.postI 400 m' c (Proc.devRef .tc Cert.ReferenceIdeal.main_v103) : FVec Ideal Cert.KernelIdeal.S8x200x6 .f32)
      = Cert.KernelIdeal.Gen.left m c := by
  funext j
  obtain ⟨b, i, k, rfl⟩ := result_index j
  refine (Cert.ReferenceIdeal.Value.final_at m' c b i k).trans ?_
  refine Eq.trans ?_ (Cert.KernelIdeal.Gen.left_at m c b (fun i => Cert.Pre_heights_finite.upper _ _ (hpre c) b i) i k).symm
  have e0 : Cert.ReferenceIdeal.Value.imageP m' c b = Cert.KernelIdeal.Gen.imageP m c b := funext fun i => funext fun k => congrFun h0 _
  have e1 : Cert.ReferenceIdeal.Value.imageQ m' c = Cert.KernelIdeal.Gen.imageQ m c := funext fun i => funext fun k => congrFun h1 _
  rw [e0, e1]

theorem algebraic : Cert.algebraic_KernelIdeal_ReferenceIdeal_pre_heights_finite := by
  intro m g m' g' hpre hargs
  refine ⟨fun c => Cert.KernelIdeal.Gen.left m c, ?_, ?_⟩
  · refine (θ_run _ _ _).mono (fun r h c => ⟨?_, (h.2 c).1, (h.2 c).2⟩)
      (θ_run_and (Cert.KernelIdeal.Gen.run_main m g) (Cert.KernelIdeal.Gen.unchanged m g))
    exact (h.1 c).2 _ (by decide)
  · refine (θ_run _ _ _).mono (fun r h c => ⟨?_, ?_, ?_⟩) (Cert.ReferenceIdeal.Value.run_fold m' g')
    · exact (h c _ (by decide)).trans (same m m' c hpre (hargs c).1 (hargs c).2)
    · exact (h c _ (by decide)).trans (Cert.ReferenceIdeal.Value.final_main_arg0 m' c)
    · exact (h c _ (by decide)).trans (Cert.ReferenceIdeal.Value.final_main_arg1 m' c)

end Cert.Proof

end
-- ==== Proof.lean ====
/- The claims, put together from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_heights_finite
public import proofs.«01_k».proof.Proof.KernelRun
public import proofs.«01_k».proof.Proof.Run
public import proofs.«01_k».proof.Proof.RefRun
public import proofs.«01_k».proof.Proof.Equation

@[expose] public section

noncomputable section

namespace Cert.Proof

open Idealize.ShloMosaic Idealize.SL.Sem

/-- Every claim. -/
theorem claim : Cert.Claim :=
  ⟨Cert.Kernel.Gen.facts, Cert.KernelIdeal.Gen.facts, Cert.ReferenceIdeal.Gen.facts, Cert.Pre_heights_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Value.frame m ρ,
    fun m ρ _ => Cert.ReferenceIdeal.Value.frame m ρ,
    trivial,
    algebraic⟩

end Cert.Proof

end
